-- ==== Defs.lean ====
def Pre_GqaLat (m : (ℓ : Loc Cert.GqaLat.nD Cert.GqaLat.τ Cert.GqaLat.sig) → Buf (Elt Bits) ℓ) : Prop :=
  True

def Pre_GqaLatIdeal (m : (ℓ : Loc Cert.GqaLatIdeal.nD Cert.GqaLatIdeal.τ Cert.GqaLatIdeal.sig) → Buf (Elt Ideal) ℓ) : Prop :=
  True

def Pre_GqaLatIdeal_gqa_lat_finite [hPre_gqa_lat_finite : Cert.Pre_gqa_lat_finite.Facts] (m : (ℓ : Loc Cert.GqaLatIdeal.nD Cert.GqaLatIdeal.τ Cert.GqaLatIdeal.sig) → Buf (Elt Ideal) ℓ) : Prop :=
  ∀ c : Dev Cert.GqaLatIdeal.nD,
    (Cert.Pre_gqa_lat_finite.fn (F := Ideal) (m ((c.tc : Thread Cert.GqaLatIdeal.nD Cert.GqaLatIdeal.τ).loc Cert.GqaLatIdeal.main_arg0)) (m ((c.tc : Thread Cert.GqaLatIdeal.nD Cert.GqaLatIdeal.τ).loc Cert.GqaLatIdeal.main_arg1)) (m ((c.tc : Thread Cert.GqaLatIdeal.nD Cert.GqaLatIdeal.τ).loc Cert.GqaLatIdeal.main_arg2)) (m ((c.tc : Thread Cert.GqaLatIdeal.nD Cert.GqaLatIdeal.τ).loc Cert.GqaLatIdeal.main_arg3)) (m ((c.tc : Thread Cert.GqaLatIdeal.nD Cert.GqaLatIdeal.τ).loc Cert.GqaLatIdeal.main_arg4)) (m ((c.tc : Thread Cert.GqaLatIdeal.nD Cert.GqaLatIdeal.τ).loc Cert.GqaLatIdeal.main_arg5)) (m ((c.tc : Thread Cert.GqaLatIdeal.nD Cert.GqaLatIdeal.τ).loc Cert.GqaLatIdeal.main_arg6)) (m ((c.tc : Thread Cert.GqaLatIdeal.nD Cert.GqaLatIdeal.τ).loc Cert.GqaLatIdeal.main_arg7))) = (fun _ => 1#1)

def Pre_GqaLatRefIdeal (m : (ℓ : Loc Cert.GqaLatRefIdeal.nD Cert.GqaLatRefIdeal.τ Cert.GqaLatRefIdeal.sig) → Buf (Elt Ideal) ℓ) : Prop :=
  True

def Pre_GqaLatRefIdeal_gqa_lat_finite [hPre_gqa_lat_finite : Cert.Pre_gqa_lat_finite.Facts] (m : (ℓ : Loc Cert.GqaLatRefIdeal.nD Cert.GqaLatRefIdeal.τ Cert.GqaLatRefIdeal.sig) → Buf (Elt Ideal) ℓ) : Prop :=
  ∀ c : Dev Cert.GqaLatRefIdeal.nD,
    (Cert.Pre_gqa_lat_finite.fn (F := Ideal) (m ((c.tc : Thread Cert.GqaLatRefIdeal.nD Cert.GqaLatRefIdeal.τ).loc Cert.GqaLatRefIdeal.main_arg0)) (m ((c.tc : Thread Cert.GqaLatRefIdeal.nD Cert.GqaLatRefIdeal.τ).loc Cert.GqaLatRefIdeal.main_arg1)) (m ((c.tc : Thread Cert.GqaLatRefIdeal.nD Cert.GqaLatRefIdeal.τ).loc Cert.GqaLatRefIdeal.main_arg2)) (m ((c.tc : Thread Cert.GqaLatRefIdeal.nD Cert.GqaLatRefIdeal.τ).loc Cert.GqaLatRefIdeal.main_arg3)) (m ((c.tc : Thread Cert.GqaLatRefIdeal.nD Cert.GqaLatRefIdeal.τ).loc Cert.GqaLatRefIdeal.main_arg4)) (m ((c.tc : Thread Cert.GqaLatRefIdeal.nD Cert.GqaLatRefIdeal.τ).loc Cert.GqaLatRefIdeal.main_arg5)) (m ((c.tc : Thread Cert.GqaLatRefIdeal.nD Cert.GqaLatRefIdeal.τ).loc Cert.GqaLatRefIdeal.main_arg6)) (m ((c.tc : Thread Cert.GqaLatRefIdeal.nD Cert.GqaLatRefIdeal.τ).loc Cert.GqaLatRefIdeal.main_arg7))) = (fun _ => 1#1)

def Pre_Down [hPre_tiles_fit : Cert.Pre_tiles_fit.Facts] (m : (ℓ : Loc Cert.Down.nD Cert.Down.τ Cert.Down.sig) → Buf (Elt Bits) ℓ) : Prop :=
  ∀ c : Dev Cert.Down.nD,
    (Cert.Pre_tiles_fit.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2))) = (fun _ => 1#1)

def Pre_DownIdeal [hPre_tiles_fit : Cert.Pre_tiles_fit.Facts] (m : (ℓ : Loc Cert.DownIdeal.nD Cert.DownIdeal.τ Cert.DownIdeal.sig) → Buf (Elt Ideal) ℓ) : Prop :=
  ∀ c : Dev Cert.DownIdeal.nD,
    (Cert.Pre_tiles_fit.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_tiles_fit [hPre_tiles_fit : Cert.Pre_tiles_fit.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_tiles_fit.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))) = (fun _ => 1#1)

def Pre_Up [hPre_up_tiles_fit : Cert.Pre_up_tiles_fit.Facts] (m : (ℓ : Loc Cert.Up.nD Cert.Up.τ Cert.Up.sig) → Buf (Elt Bits) ℓ) : Prop :=
  ∀ c : Dev Cert.Up.nD,
    (Cert.Pre_up_tiles_fit.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_up_tiles_fit : Cert.Pre_up_tiles_fit.Facts] (m : (ℓ : Loc Cert.UpIdeal.nD Cert.UpIdeal.τ Cert.UpIdeal.sig) → Buf (Elt Ideal) ℓ) : Prop :=
  ∀ c : Dev Cert.UpIdeal.nD,
    (Cert.Pre_up_tiles_fit.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_tiles_fit [hPre_up_tiles_fit : Cert.Pre_up_tiles_fit.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_tiles_fit.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def quiescent_GqaLat [hGqaLat : Cert.GqaLat.Facts] : Prop :=
  ∀ (m : (ℓ : Loc Cert.GqaLat.nD Cert.GqaLat.τ Cert.GqaLat.sig) → Buf (Elt Bits) ℓ) (g : Dev Cert.GqaLat.nD → PrngReg), Pre_GqaLat m →
    θ_run (Cert.GqaLat.defs (F := Bits)) (onTc (τ := Cert.GqaLat.τ) (Cert.GqaLat.main (F := Bits))) ⟨m, fun _ => 0, g⟩ (fun r => (∀ c : Dev Cert.GqaLat.nD,
      r.2.mem ((c.tc : Thread Cert.GqaLat.nD Cert.GqaLat.τ).loc Cert.GqaLat.main_arg0) = m ((c.tc : Thread Cert.GqaLat.nD Cert.GqaLat.τ).loc Cert.GqaLat.main_arg0)
      ∧ r.2.mem ((c.tc : Thread Cert.GqaLat.nD Cert.GqaLat.τ).loc Cert.GqaLat.main_arg1) = m ((c.tc : Thread Cert.GqaLat.nD Cert.GqaLat.τ).loc Cert.GqaLat.main_arg1)
      ∧ r.2.mem ((c.tc : Thread Cert.GqaLat.nD Cert.GqaLat.τ).loc Cert.GqaLat.main_arg2) = m ((c.tc : Thread Cert.GqaLat.nD Cert.GqaLat.τ).loc Cert.GqaLat.main_arg2)
      ∧ r.2.mem ((c.tc : Thread Cert.GqaLat.nD Cert.GqaLat.τ).loc Cert.GqaLat.main_arg3) = m ((c.tc : Thread Cert.GqaLat.nD Cert.GqaLat.τ).loc Cert.GqaLat.main_arg3)
      ∧ r.2.mem ((c.tc : Thread Cert.GqaLat.nD Cert.GqaLat.τ).loc Cert.GqaLat.main_arg4) = m ((c.tc : Thread Cert.GqaLat.nD Cert.GqaLat.τ).loc Cert.GqaLat.main_arg4)
      ∧ r.2.mem ((c.tc : Thread Cert.GqaLat.nD Cert.GqaLat.τ).loc Cert.GqaLat.main_arg5) = m ((c.tc : Thread Cert.GqaLat.nD Cert.GqaLat.τ).loc Cert.GqaLat.main_arg5)
      ∧ r.2.mem ((c.tc : Thread Cert.GqaLat.nD Cert.GqaLat.τ).loc Cert.GqaLat.main_arg6) = m ((c.tc : Thread Cert.GqaLat.nD Cert.GqaLat.τ).loc Cert.GqaLat.main_arg6)
      ∧ r.2.mem ((c.tc : Thread Cert.GqaLat.nD Cert.GqaLat.τ).loc Cert.GqaLat.main_arg7) = m ((c.tc : Thread Cert.GqaLat.nD Cert.GqaLat.τ).loc Cert.GqaLat.main_arg7))
      ∧ r.2.sem = fun _ => 0)

def quiescent_GqaLatIdeal [hGqaLatIdeal : Cert.GqaLatIdeal.Facts] : Prop :=
  ∀ (m : (ℓ : Loc Cert.GqaLatIdeal.nD Cert.GqaLatIdeal.τ Cert.GqaLatIdeal.sig) → Buf (Elt Ideal) ℓ) (g : Dev Cert.GqaLatIdeal.nD → PrngReg), Pre_GqaLatIdeal m →
    θ_run (Cert.GqaLatIdeal.defs (F := Ideal)) (onTc (τ := Cert.GqaLatIdeal.τ) (Cert.GqaLatIdeal.main (F := Ideal))) ⟨m, fun _ => 0, g⟩ (fun r => (∀ c : Dev Cert.GqaLatIdeal.nD,
      r.2.mem ((c.tc : Thread Cert.GqaLatIdeal.nD Cert.GqaLatIdeal.τ).loc Cert.GqaLatIdeal.main_arg0) = m ((c.tc : Thread Cert.GqaLatIdeal.nD Cert.GqaLatIdeal.τ).loc Cert.GqaLatIdeal.main_arg0)
      ∧ r.2.mem ((c.tc : Thread Cert.GqaLatIdeal.nD Cert.GqaLatIdeal.τ).loc Cert.GqaLatIdeal.main_arg1) = m ((c.tc : Thread Cert.GqaLatIdeal.nD Cert.GqaLatIdeal.τ).loc Cert.GqaLatIdeal.main_arg1)
      ∧ r.2.mem ((c.tc : Thread Cert.GqaLatIdeal.nD Cert.GqaLatIdeal.τ).loc Cert.GqaLatIdeal.main_arg2) = m ((c.tc : Thread Cert.GqaLatIdeal.nD Cert.GqaLatIdeal.τ).loc Cert.GqaLatIdeal.main_arg2)
      ∧ r.2.mem ((c.tc : Thread Cert.GqaLatIdeal.nD Cert.GqaLatIdeal.τ).loc Cert.GqaLatIdeal.main_arg3) = m ((c.tc : Thread Cert.GqaLatIdeal.nD Cert.GqaLatIdeal.τ).loc Cert.GqaLatIdeal.main_arg3)
      ∧ r.2.mem ((c.tc : Thread Cert.GqaLatIdeal.nD Cert.GqaLatIdeal.τ).loc Cert.GqaLatIdeal.main_arg4) = m ((c.tc : Thread Cert.GqaLatIdeal.nD Cert.GqaLatIdeal.τ).loc Cert.GqaLatIdeal.main_arg4)
      ∧ r.2.mem ((c.tc : Thread Cert.GqaLatIdeal.nD Cert.GqaLatIdeal.τ).loc Cert.GqaLatIdeal.main_arg5) = m ((c.tc : Thread Cert.GqaLatIdeal.nD Cert.GqaLatIdeal.τ).loc Cert.GqaLatIdeal.main_arg5)
      ∧ r.2.mem ((c.tc : Thread Cert.GqaLatIdeal.nD Cert.GqaLatIdeal.τ).loc Cert.GqaLatIdeal.main_arg6) = m ((c.tc : Thread Cert.GqaLatIdeal.nD Cert.GqaLatIdeal.τ).loc Cert.GqaLatIdeal.main_arg6)
      ∧ r.2.mem ((c.tc : Thread Cert.GqaLatIdeal.nD Cert.GqaLatIdeal.τ).loc Cert.GqaLatIdeal.main_arg7) = m ((c.tc : Thread Cert.GqaLatIdeal.nD Cert.GqaLatIdeal.τ).loc Cert.GqaLatIdeal.main_arg7))
      ∧ r.2.sem = fun _ => 0)

def quiescent_GqaLatIdeal_pre_gqa_lat_finite [hGqaLatIdeal : Cert.GqaLatIdeal.Facts] [hPre_gqa_lat_finite : Cert.Pre_gqa_lat_finite.Facts] : Prop :=
  ∀ (m : (ℓ : Loc Cert.GqaLatIdeal.nD Cert.GqaLatIdeal.τ Cert.GqaLatIdeal.sig) → Buf (Elt Ideal) ℓ) (g : Dev Cert.GqaLatIdeal.nD → PrngReg), Pre_GqaLatIdeal_gqa_lat_finite m →
    θ_run (Cert.GqaLatIdeal.defs (F := Ideal)) (onTc (τ := Cert.GqaLatIdeal.τ) (Cert.GqaLatIdeal.main (F := Ideal))) ⟨m, fun _ => 0, g⟩ (fun r => (∀ c : Dev Cert.GqaLatIdeal.nD,
      r.2.mem ((c.tc : Thread Cert.GqaLatIdeal.nD Cert.GqaLatIdeal.τ).loc Cert.GqaLatIdeal.main_arg0) = m ((c.tc : Thread Cert.GqaLatIdeal.nD Cert.GqaLatIdeal.τ).loc Cert.GqaLatIdeal.main_arg0)
      ∧ r.2.mem ((c.tc : Thread Cert.GqaLatIdeal.nD Cert.GqaLatIdeal.τ).loc Cert.GqaLatIdeal.main_arg1) = m ((c.tc : Thread Cert.GqaLatIdeal.nD Cert.GqaLatIdeal.τ).loc Cert.GqaLatIdeal.main_arg1)
      ∧ r.2.mem ((c.tc : Thread Cert.GqaLatIdeal.nD Cert.GqaLatIdeal.τ).loc Cert.GqaLatIdeal.main_arg2) = m ((c.tc : Thread Cert.GqaLatIdeal.nD Cert.GqaLatIdeal.τ).loc Cert.GqaLatIdeal.main_arg2)
      ∧ r.2.mem ((c.tc : Thread Cert.GqaLatIdeal.nD Cert.GqaLatIdeal.τ).loc Cert.GqaLatIdeal.main_arg3) = m ((c.tc : Thread Cert.GqaLatIdeal.nD Cert.GqaLatIdeal.τ).loc Cert.GqaLatIdeal.main_arg3)
      ∧ r.2.mem ((c.tc : Thread Cert.GqaLatIdeal.nD Cert.GqaLatIdeal.τ).loc Cert.GqaLatIdeal.main_arg4) = m ((c.tc : Thread Cert.GqaLatIdeal.nD Cert.GqaLatIdeal.τ).loc Cert.GqaLatIdeal.main_arg4)
      ∧ r.2.mem ((c.tc : Thread Cert.GqaLatIdeal.nD Cert.GqaLatIdeal.τ).loc Cert.GqaLatIdeal.main_arg5) = m ((c.tc : Thread Cert.GqaLatIdeal.nD Cert.GqaLatIdeal.τ).loc Cert.GqaLatIdeal.main_arg5)
      ∧ r.2.mem ((c.tc : Thread Cert.GqaLatIdeal.nD Cert.GqaLatIdeal.τ).loc Cert.GqaLatIdeal.main_arg6) = m ((c.tc : Thread Cert.GqaLatIdeal.nD Cert.GqaLatIdeal.τ).loc Cert.GqaLatIdeal.main_arg6)
      ∧ r.2.mem ((c.tc : Thread Cert.GqaLatIdeal.nD Cert.GqaLatIdeal.τ).loc Cert.GqaLatIdeal.main_arg7) = m ((c.tc : Thread Cert.GqaLatIdeal.nD Cert.GqaLatIdeal.τ).loc Cert.GqaLatIdeal.main_arg7))
      ∧ r.2.sem = fun _ => 0)

def quiescent_GqaLatRefIdeal [hGqaLatRefIdeal : Cert.GqaLatRefIdeal.Facts] : Prop :=
  ∀ (m : (ℓ : Loc Cert.GqaLatRefIdeal.nD Cert.GqaLatRefIdeal.τ Cert.GqaLatRefIdeal.sig) → Buf (Elt Ideal) ℓ) (g : Dev Cert.GqaLatRefIdeal.nD → PrngReg), Pre_GqaLatRefIdeal m →
    θ_run (Cert.GqaLatRefIdeal.defs (F := Ideal)) (onTc (τ := Cert.GqaLatRefIdeal.τ) (Cert.GqaLatRefIdeal.main (F := Ideal))) ⟨m, fun _ => 0, g⟩ (fun r => (∀ c : Dev Cert.GqaLatRefIdeal.nD,
      r.2.mem ((c.tc : Thread Cert.GqaLatRefIdeal.nD Cert.GqaLatRefIdeal.τ).loc Cert.GqaLatRefIdeal.main_arg0) = m ((c.tc : Thread Cert.GqaLatRefIdeal.nD Cert.GqaLatRefIdeal.τ).loc Cert.GqaLatRefIdeal.main_arg0)
      ∧ r.2.mem ((c.tc : Thread Cert.GqaLatRefIdeal.nD Cert.GqaLatRefIdeal.τ).loc Cert.GqaLatRefIdeal.main_arg1) = m ((c.tc : Thread Cert.GqaLatRefIdeal.nD Cert.GqaLatRefIdeal.τ).loc Cert.GqaLatRefIdeal.main_arg1)
      ∧ r.2.mem ((c.tc : Thread Cert.GqaLatRefIdeal.nD Cert.GqaLatRefIdeal.τ).loc Cert.GqaLatRefIdeal.main_arg2) = m ((c.tc : Thread Cert.GqaLatRefIdeal.nD Cert.GqaLatRefIdeal.τ).loc Cert.GqaLatRefIdeal.main_arg2)
      ∧ r.2.mem ((c.tc : Thread Cert.GqaLatRefIdeal.nD Cert.GqaLatRefIdeal.τ).loc Cert.GqaLatRefIdeal.main_arg3) = m ((c.tc : Thread Cert.GqaLatRefIdeal.nD Cert.GqaLatRefIdeal.τ).loc Cert.GqaLatRefIdeal.main_arg3)
      ∧ r.2.mem ((c.tc : Thread Cert.GqaLatRefIdeal.nD Cert.GqaLatRefIdeal.τ).loc Cert.GqaLatRefIdeal.main_arg4) = m ((c.tc : Thread Cert.GqaLatRefIdeal.nD Cert.GqaLatRefIdeal.τ).loc Cert.GqaLatRefIdeal.main_arg4)
      ∧ r.2.mem ((c.tc : Thread Cert.GqaLatRefIdeal.nD Cert.GqaLatRefIdeal.τ).loc Cert.GqaLatRefIdeal.main_arg5) = m ((c.tc : Thread Cert.GqaLatRefIdeal.nD Cert.GqaLatRefIdeal.τ).loc Cert.GqaLatRefIdeal.main_arg5)
      ∧ r.2.mem ((c.tc : Thread Cert.GqaLatRefIdeal.nD Cert.GqaLatRefIdeal.τ).loc Cert.GqaLatRefIdeal.main_arg6) = m ((c.tc : Thread Cert.GqaLatRefIdeal.nD Cert.GqaLatRefIdeal.τ).loc Cert.GqaLatRefIdeal.main_arg6)
      ∧ r.2.mem ((c.tc : Thread Cert.GqaLatRefIdeal.nD Cert.GqaLatRefIdeal.τ).loc Cert.GqaLatRefIdeal.main_arg7) = m ((c.tc : Thread Cert.GqaLatRefIdeal.nD Cert.GqaLatRefIdeal.τ).loc Cert.GqaLatRefIdeal.main_arg7))
      ∧ r.2.sem = fun _ => 0)

def quiescent_GqaLatRefIdeal_pre_gqa_lat_finite [hGqaLatRefIdeal : Cert.GqaLatRefIdeal.Facts] [hPre_gqa_lat_finite : Cert.Pre_gqa_lat_finite.Facts] : Prop :=
  ∀ (m : (ℓ : Loc Cert.GqaLatRefIdeal.nD Cert.GqaLatRefIdeal.τ Cert.GqaLatRefIdeal.sig) → Buf (Elt Ideal) ℓ) (g : Dev Cert.GqaLatRefIdeal.nD → PrngReg), Pre_GqaLatRefIdeal_gqa_lat_finite m →
    θ_run (Cert.GqaLatRefIdeal.defs (F := Ideal)) (onTc (τ := Cert.GqaLatRefIdeal.τ) (Cert.GqaLatRefIdeal.main (F := Ideal))) ⟨m, fun _ => 0, g⟩ (fun r => (∀ c : Dev Cert.GqaLatRefIdeal.nD,
      r.2.mem ((c.tc : Thread Cert.GqaLatRefIdeal.nD Cert.GqaLatRefIdeal.τ).loc Cert.GqaLatRefIdeal.main_arg0) = m ((c.tc : Thread Cert.GqaLatRefIdeal.nD Cert.GqaLatRefIdeal.τ).loc Cert.GqaLatRefIdeal.main_arg0)
      ∧ r.2.mem ((c.tc : Thread Cert.GqaLatRefIdeal.nD Cert.GqaLatRefIdeal.τ).loc Cert.GqaLatRefIdeal.main_arg1) = m ((c.tc : Thread Cert.GqaLatRefIdeal.nD Cert.GqaLatRefIdeal.τ).loc Cert.GqaLatRefIdeal.main_arg1)
      ∧ r.2.mem ((c.tc : Thread Cert.GqaLatRefIdeal.nD Cert.GqaLatRefIdeal.τ).loc Cert.GqaLatRefIdeal.main_arg2) = m ((c.tc : Thread Cert.GqaLatRefIdeal.nD Cert.GqaLatRefIdeal.τ).loc Cert.GqaLatRefIdeal.main_arg2)
      ∧ r.2.mem ((c.tc : Thread Cert.GqaLatRefIdeal.nD Cert.GqaLatRefIdeal.τ).loc Cert.GqaLatRefIdeal.main_arg3) = m ((c.tc : Thread Cert.GqaLatRefIdeal.nD Cert.GqaLatRefIdeal.τ).loc Cert.GqaLatRefIdeal.main_arg3)
      ∧ r.2.mem ((c.tc : Thread Cert.GqaLatRefIdeal.nD Cert.GqaLatRefIdeal.τ).loc Cert.GqaLatRefIdeal.main_arg4) = m ((c.tc : Thread Cert.GqaLatRefIdeal.nD Cert.GqaLatRefIdeal.τ).loc Cert.GqaLatRefIdeal.main_arg4)
      ∧ r.2.mem ((c.tc : Thread Cert.GqaLatRefIdeal.nD Cert.GqaLatRefIdeal.τ).loc Cert.GqaLatRefIdeal.main_arg5) = m ((c.tc : Thread Cert.GqaLatRefIdeal.nD Cert.GqaLatRefIdeal.τ).loc Cert.GqaLatRefIdeal.main_arg5)
      ∧ r.2.mem ((c.tc : Thread Cert.GqaLatRefIdeal.nD Cert.GqaLatRefIdeal.τ).loc Cert.GqaLatRefIdeal.main_arg6) = m ((c.tc : Thread Cert.GqaLatRefIdeal.nD Cert.GqaLatRefIdeal.τ).loc Cert.GqaLatRefIdeal.main_arg6)
      ∧ r.2.mem ((c.tc : Thread Cert.GqaLatRefIdeal.nD Cert.GqaLatRefIdeal.τ).loc Cert.GqaLatRefIdeal.main_arg7) = m ((c.tc : Thread Cert.GqaLatRefIdeal.nD Cert.GqaLatRefIdeal.τ).loc Cert.GqaLatRefIdeal.main_arg7))
      ∧ r.2.sem = fun _ => 0)

def quiescent_Down [hDown : Cert.Down.Facts] [hPre_tiles_fit : Cert.Pre_tiles_fit.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] [hPre_tiles_fit : Cert.Pre_tiles_fit.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownRefIdeal_pre_tiles_fit [hDownRefIdeal : Cert.DownRefIdeal.Facts] [hPre_tiles_fit : Cert.Pre_tiles_fit.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_tiles_fit m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] [hPre_up_tiles_fit : Cert.Pre_up_tiles_fit.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_up_tiles_fit : Cert.Pre_up_tiles_fit.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_up_tiles_fit [hUpRefIdeal : Cert.UpRefIdeal.Facts] [hPre_up_tiles_fit : Cert.Pre_up_tiles_fit.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_tiles_fit m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def preserves_GqaLat_GqaLatIdeal : Prop :=
  True

def algebraic_GqaLatIdeal_GqaLatRefIdeal_pre_gqa_lat_finite [hGqaLatIdeal : Cert.GqaLatIdeal.Facts] [hGqaLatRefIdeal : Cert.GqaLatRefIdeal.Facts] [hPre_gqa_lat_finite : Cert.Pre_gqa_lat_finite.Facts] : Prop :=
  ∀ (m : (ℓ : Loc Cert.GqaLatIdeal.nD Cert.GqaLatIdeal.τ Cert.GqaLatIdeal.sig) → Buf (Elt Ideal) ℓ) (g : Dev Cert.GqaLatIdeal.nD → PrngReg)
    (m' : (ℓ : Loc Cert.GqaLatRefIdeal.nD Cert.GqaLatRefIdeal.τ Cert.GqaLatRefIdeal.sig) → Buf (Elt Ideal) ℓ) (g' : Dev Cert.GqaLatRefIdeal.nD → PrngReg), Pre_GqaLatIdeal_gqa_lat_finite m →
    (∀ c : Dev Cert.GqaLatIdeal.nD,
      m' ((c.tc : Thread Cert.GqaLatRefIdeal.nD Cert.GqaLatRefIdeal.τ).loc Cert.GqaLatRefIdeal.main_arg0) = m ((c.tc : Thread Cert.GqaLatIdeal.nD Cert.GqaLatIdeal.τ).loc Cert.GqaLatIdeal.main_arg0)
      ∧ m' ((c.tc : Thread Cert.GqaLatRefIdeal.nD Cert.GqaLatRefIdeal.τ).loc Cert.GqaLatRefIdeal.main_arg1) = m ((c.tc : Thread Cert.GqaLatIdeal.nD Cert.GqaLatIdeal.τ).loc Cert.GqaLatIdeal.main_arg1)
      ∧ m' ((c.tc : Thread Cert.GqaLatRefIdeal.nD Cert.GqaLatRefIdeal.τ).loc Cert.GqaLatRefIdeal.main_arg2) = m ((c.tc : Thread Cert.GqaLatIdeal.nD Cert.GqaLatIdeal.τ).loc Cert.GqaLatIdeal.main_arg2)
      ∧ m' ((c.tc : Thread Cert.GqaLatRefIdeal.nD Cert.GqaLatRefIdeal.τ).loc Cert.GqaLatRefIdeal.main_arg3) = m ((c.tc : Thread Cert.GqaLatIdeal.nD Cert.GqaLatIdeal.τ).loc Cert.GqaLatIdeal.main_arg3)
      ∧ m' ((c.tc : Thread Cert.GqaLatRefIdeal.nD Cert.GqaLatRefIdeal.τ).loc Cert.GqaLatRefIdeal.main_arg4) = m ((c.tc : Thread Cert.GqaLatIdeal.nD Cert.GqaLatIdeal.τ).loc Cert.GqaLatIdeal.main_arg4)
      ∧ m' ((c.tc : Thread Cert.GqaLatRefIdeal.nD Cert.GqaLatRefIdeal.τ).loc Cert.GqaLatRefIdeal.main_arg5) = m ((c.tc : Thread Cert.GqaLatIdeal.nD Cert.GqaLatIdeal.τ).loc Cert.GqaLatIdeal.main_arg5)
      ∧ m' ((c.tc : Thread Cert.GqaLatRefIdeal.nD Cert.GqaLatRefIdeal.τ).loc Cert.GqaLatRefIdeal.main_arg6) = m ((c.tc : Thread Cert.GqaLatIdeal.nD Cert.GqaLatIdeal.τ).loc Cert.GqaLatIdeal.main_arg6)
      ∧ m' ((c.tc : Thread Cert.GqaLatRefIdeal.nD Cert.GqaLatRefIdeal.τ).loc Cert.GqaLatRefIdeal.main_arg7) = m ((c.tc : Thread Cert.GqaLatIdeal.nD Cert.GqaLatIdeal.τ).loc Cert.GqaLatIdeal.main_arg7)) →
    ∃ (v0 : (c : Dev Cert.GqaLatIdeal.nD) → Buf (Elt Ideal) ((c.tc : Thread Cert.GqaLatIdeal.nD Cert.GqaLatIdeal.τ).loc Cert.GqaLatIdeal.main_v28)),
      θ_run (Cert.GqaLatIdeal.defs (F := Ideal)) (onTc (τ := Cert.GqaLatIdeal.τ) (Cert.GqaLatIdeal.main (F := Ideal))) ⟨m, fun _ => 0, g⟩ (fun r => ∀ c : Dev Cert.GqaLatIdeal.nD,
          r.2.mem ((c.tc : Thread Cert.GqaLatIdeal.nD Cert.GqaLatIdeal.τ).loc Cert.GqaLatIdeal.main_v28) = v0 c
          ∧ r.2.mem ((c.tc : Thread Cert.GqaLatIdeal.nD Cert.GqaLatIdeal.τ).loc Cert.GqaLatIdeal.main_arg0) = m ((c.tc : Thread Cert.GqaLatIdeal.nD Cert.GqaLatIdeal.τ).loc Cert.GqaLatIdeal.main_arg0)
          ∧ r.2.mem ((c.tc : Thread Cert.GqaLatIdeal.nD Cert.GqaLatIdeal.τ).loc Cert.GqaLatIdeal.main_arg1) = m ((c.tc : Thread Cert.GqaLatIdeal.nD Cert.GqaLatIdeal.τ).loc Cert.GqaLatIdeal.main_arg1)
          ∧ r.2.mem ((c.tc : Thread Cert.GqaLatIdeal.nD Cert.GqaLatIdeal.τ).loc Cert.GqaLatIdeal.main_arg2) = m ((c.tc : Thread Cert.GqaLatIdeal.nD Cert.GqaLatIdeal.τ).loc Cert.GqaLatIdeal.main_arg2)
          ∧ r.2.mem ((c.tc : Thread Cert.GqaLatIdeal.nD Cert.GqaLatIdeal.τ).loc Cert.GqaLatIdeal.main_arg3) = m ((c.tc : Thread Cert.GqaLatIdeal.nD Cert.GqaLatIdeal.τ).loc Cert.GqaLatIdeal.main_arg3)
          ∧ r.2.mem ((c.tc : Thread Cert.GqaLatIdeal.nD Cert.GqaLatIdeal.τ).loc Cert.GqaLatIdeal.main_arg4) = m ((c.tc : Thread Cert.GqaLatIdeal.nD Cert.GqaLatIdeal.τ).loc Cert.GqaLatIdeal.main_arg4)
          ∧ r.2.mem ((c.tc : Thread Cert.GqaLatIdeal.nD Cert.GqaLatIdeal.τ).loc Cert.GqaLatIdeal.main_arg5) = m ((c.tc : Thread Cert.GqaLatIdeal.nD Cert.GqaLatIdeal.τ).loc Cert.GqaLatIdeal.main_arg5)
          ∧ r.2.mem ((c.tc : Thread Cert.GqaLatIdeal.nD Cert.GqaLatIdeal.τ).loc Cert.GqaLatIdeal.main_arg6) = m ((c.tc : Thread Cert.GqaLatIdeal.nD Cert.GqaLatIdeal.τ).loc Cert.GqaLatIdeal.main_arg6)
          ∧ r.2.mem ((c.tc : Thread Cert.GqaLatIdeal.nD Cert.GqaLatIdeal.τ).loc Cert.GqaLatIdeal.main_arg7) = m ((c.tc : Thread Cert.GqaLatIdeal.nD Cert.GqaLatIdeal.τ).loc Cert.GqaLatIdeal.main_arg7))
      ∧ θ_run (Cert.GqaLatRefIdeal.defs (F := Ideal)) (onTc (τ := Cert.GqaLatRefIdeal.τ) (Cert.GqaLatRefIdeal.main (F := Ideal))) ⟨m', fun _ => 0, g'⟩ (fun r => ∀ c : Dev Cert.GqaLatRefIdeal.nD,
          r.2.mem ((c.tc : Thread Cert.GqaLatRefIdeal.nD Cert.GqaLatRefIdeal.τ).loc Cert.GqaLatRefIdeal.main_v24) = v0 c
          ∧ r.2.mem ((c.tc : Thread Cert.GqaLatRefIdeal.nD Cert.GqaLatRefIdeal.τ).loc Cert.GqaLatRefIdeal.main_arg0) = m' ((c.tc : Thread Cert.GqaLatRefIdeal.nD Cert.GqaLatRefIdeal.τ).loc Cert.GqaLatRefIdeal.main_arg0)
          ∧ r.2.mem ((c.tc : Thread Cert.GqaLatRefIdeal.nD Cert.GqaLatRefIdeal.τ).loc Cert.GqaLatRefIdeal.main_arg1) = m' ((c.tc : Thread Cert.GqaLatRefIdeal.nD Cert.GqaLatRefIdeal.τ).loc Cert.GqaLatRefIdeal.main_arg1)
          ∧ r.2.mem ((c.tc : Thread Cert.GqaLatRefIdeal.nD Cert.GqaLatRefIdeal.τ).loc Cert.GqaLatRefIdeal.main_arg2) = m' ((c.tc : Thread Cert.GqaLatRefIdeal.nD Cert.GqaLatRefIdeal.τ).loc Cert.GqaLatRefIdeal.main_arg2)
          ∧ r.2.mem ((c.tc : Thread Cert.GqaLatRefIdeal.nD Cert.GqaLatRefIdeal.τ).loc Cert.GqaLatRefIdeal.main_arg3) = m' ((c.tc : Thread Cert.GqaLatRefIdeal.nD Cert.GqaLatRefIdeal.τ).loc Cert.GqaLatRefIdeal.main_arg3)
          ∧ r.2.mem ((c.tc : Thread Cert.GqaLatRefIdeal.nD Cert.GqaLatRefIdeal.τ).loc Cert.GqaLatRefIdeal.main_arg4) = m' ((c.tc : Thread Cert.GqaLatRefIdeal.nD Cert.GqaLatRefIdeal.τ).loc Cert.GqaLatRefIdeal.main_arg4)
          ∧ r.2.mem ((c.tc : Thread Cert.GqaLatRefIdeal.nD Cert.GqaLatRefIdeal.τ).loc Cert.GqaLatRefIdeal.main_arg5) = m' ((c.tc : Thread Cert.GqaLatRefIdeal.nD Cert.GqaLatRefIdeal.τ).loc Cert.GqaLatRefIdeal.main_arg5)
          ∧ r.2.mem ((c.tc : Thread Cert.GqaLatRefIdeal.nD Cert.GqaLatRefIdeal.τ).loc Cert.GqaLatRefIdeal.main_arg6) = m' ((c.tc : Thread Cert.GqaLatRefIdeal.nD Cert.GqaLatRefIdeal.τ).loc Cert.GqaLatRefIdeal.main_arg6)
          ∧ r.2.mem ((c.tc : Thread Cert.GqaLatRefIdeal.nD Cert.GqaLatRefIdeal.τ).loc Cert.GqaLatRefIdeal.main_arg7) = m' ((c.tc : Thread Cert.GqaLatRefIdeal.nD Cert.GqaLatRefIdeal.τ).loc Cert.GqaLatRefIdeal.main_arg7))

def preserves_Down_DownIdeal : Prop :=
  True

def algebraic_DownIdeal_DownRefIdeal [hDownIdeal : Cert.DownIdeal.Facts] [hDownRefIdeal : Cert.DownRefIdeal.Facts] [hPre_tiles_fit : Cert.Pre_tiles_fit.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v38)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v38) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v21) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] [hPre_up_tiles_fit : Cert.Pre_up_tiles_fit.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v71)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v71) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v24) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def Claim : Prop :=
  ∃ (hGqaLat : Cert.GqaLat.Facts) (hGqaLatIdeal : Cert.GqaLatIdeal.Facts) (hGqaLatRefIdeal : Cert.GqaLatRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hPre_gqa_lat_finite : Cert.Pre_gqa_lat_finite.Facts) (hPre_tiles_fit : Cert.Pre_tiles_fit.Facts) (hPre_up_tiles_fit : Cert.Pre_up_tiles_fit.Facts),
    quiescent_GqaLat (hGqaLat := hGqaLat)
    ∧ quiescent_GqaLatIdeal (hGqaLatIdeal := hGqaLatIdeal)
    ∧ quiescent_GqaLatIdeal_pre_gqa_lat_finite (hGqaLatIdeal := hGqaLatIdeal) (hPre_gqa_lat_finite := hPre_gqa_lat_finite)
    ∧ quiescent_GqaLatRefIdeal (hGqaLatRefIdeal := hGqaLatRefIdeal)
    ∧ quiescent_GqaLatRefIdeal_pre_gqa_lat_finite (hGqaLatRefIdeal := hGqaLatRefIdeal) (hPre_gqa_lat_finite := hPre_gqa_lat_finite)
    ∧ quiescent_Down (hDown := hDown) (hPre_tiles_fit := hPre_tiles_fit)
    ∧ quiescent_DownIdeal (hDownIdeal := hDownIdeal) (hPre_tiles_fit := hPre_tiles_fit)
    ∧ quiescent_DownRefIdeal (hDownRefIdeal := hDownRefIdeal)
    ∧ quiescent_DownRefIdeal_pre_tiles_fit (hDownRefIdeal := hDownRefIdeal) (hPre_tiles_fit := hPre_tiles_fit)
    ∧ quiescent_Up (hUp := hUp) (hPre_up_tiles_fit := hPre_up_tiles_fit)
    ∧ quiescent_UpIdeal (hUpIdeal := hUpIdeal) (hPre_up_tiles_fit := hPre_up_tiles_fit)
    ∧ quiescent_UpRefIdeal (hUpRefIdeal := hUpRefIdeal)
    ∧ quiescent_UpRefIdeal_pre_up_tiles_fit (hUpRefIdeal := hUpRefIdeal) (hPre_up_tiles_fit := hPre_up_tiles_fit)
    ∧ preserves_GqaLat_GqaLatIdeal
    ∧ algebraic_GqaLatIdeal_GqaLatRefIdeal_pre_gqa_lat_finite (hGqaLatIdeal := hGqaLatIdeal) (hGqaLatRefIdeal := hGqaLatRefIdeal) (hPre_gqa_lat_finite := hPre_gqa_lat_finite)
    ∧ preserves_Down_DownIdeal
    ∧ algebraic_DownIdeal_DownRefIdeal (hDownIdeal := hDownIdeal) (hDownRefIdeal := hDownRefIdeal) (hPre_tiles_fit := hPre_tiles_fit)
    ∧ preserves_Up_UpIdeal
    ∧ algebraic_UpIdeal_UpRefIdeal (hUpIdeal := hUpIdeal) (hUpRefIdeal := hUpRefIdeal) (hPre_up_tiles_fit := hPre_up_tiles_fit)
-- ==== Pre_gqa_lat_finite.lean ====
abbrev S32x256x8x128 : Shape := ⟨4, ![32, 256, 8, 128]⟩
abbrev S2x2048x8x128 : Shape := ⟨4, ![2, 2048, 8, 128]⟩
abbrev S32x256x2x128 : Shape := ⟨4, ![32, 256, 2, 128]⟩
abbrev S2x2048x2x128 : Shape := ⟨4, ![2, 2048, 2, 128]⟩
abbrev S2x1x512x2x128 : Shape := ⟨5, ![2, 1, 512, 2, 128]⟩
abbrev S_ : Shape := ⟨0, ![]⟩

class Facts : Prop where
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_
  h_S_ : 0 < S_.numel
  bcast_S_S2x2048x2x128 : S_.BroadcastsInDim S2x2048x2x128 (![] : Fin 0 → Fin S2x2048x2x128.rank)
  reducesTo_S2x2048x2x128_S_d0_1_2_3 : S2x2048x2x128.ReducesTo [0, 1, 2, 3] S_
  bcast_S_S2x1x512x2x128 : S_.BroadcastsInDim S2x1x512x2x128 (![] : Fin 0 → Fin S2x1x512x2x128.rank)
  reducesTo_S2x1x512x2x128_S_d0_1_2_3_4 : S2x1x512x2x128.ReducesTo [0, 1, 2, 3, 4] S_

variable [Facts]

def fn {F : FTy → Type} [FloatOps F] (main_arg0 : FVec F S32x256x8x128 .f32) (main_arg1 : FVec F S2x2048x8x128 .f32) (main_arg2 : FVec F S32x256x2x128 .f32) (main_arg3 : FVec F S2x2048x2x128 .f32) (main_arg4 : FVec F S32x256x2x128 .f32) (main_arg5 : FVec F S2x2048x2x128 .f32) (main_arg6 : FVec F S2x1x512x2x128 .f32) (main_arg7 : FVec F S2x1x512x2x128 .f32) : IVec S_ 1 :=
  let main_v0 : FVec F S2x2048x8x128 .f32 := Host.absf main_arg1
  let main_cst : FVec F S_ .f32 := constant S_ .f32 0x7F800000#32
  let main_v1 : FVec F S2x2048x8x128 .f32 := broadcastInDim S2x2048x8x128 ![] bcast_S_S2x2048x8x128 main_cst
  let main_v2 : IVec S2x2048x8x128 1 := cmpf .olt main_v0 main_v1
  let main_c : IVec S_ 1 := constantI S_ 1 1#1
  let main_v3 : IVec S_ 1 := (fun x v => Host.reduce IntOp.andi x v reducesTo_S2x2048x8x128_S_d0_1_2_3 h_S_) main_v2 main_c
  let main_v4 : FVec F S2x2048x2x128 .f32 := Host.absf main_arg3
  let main_cst_0 : FVec F S_ .f32 := constant S_ .f32 0x7F800000#32
  let main_v5 : FVec F S2x2048x2x128 .f32 := broadcastInDim S2x2048x2x128 ![] bcast_S_S2x2048x2x128 main_cst_0
  let main_v6 : IVec S2x2048x2x128 1 := cmpf .olt main_v4 main_v5
  let main_c_1 : IVec S_ 1 := constantI S_ 1 1#1
  let main_v7 : IVec S_ 1 := (fun x v => Host.reduce IntOp.andi x v reducesTo_S2x2048x2x128_S_d0_1_2_3 h_S_) main_v6 main_c_1
  let main_v8 : IVec S_ 1 := andi main_v3 main_v7
  let main_v9 : FVec F S2x1x512x2x128 .f32 := Host.absf main_arg6
  let main_cst_2 : FVec F S_ .f32 := constant S_ .f32 0x7F800000#32
  let main_v10 : FVec F S2x1x512x2x128 .f32 := broadcastInDim S2x1x512x2x128 ![] bcast_S_S2x1x512x2x128 main_cst_2
  let main_v11 : IVec S2x1x512x2x128 1 := cmpf .olt main_v9 main_v10
  let main_c_3 : IVec S_ 1 := constantI S_ 1 1#1
  let main_v12 : IVec S_ 1 := (fun x v => Host.reduce IntOp.andi x v reducesTo_S2x1x512x2x128_S_d0_1_2_3_4 h_S_) main_v11 main_c_3
  let main_v13 : IVec S_ 1 := andi main_v8 main_v12
  main_v13
-- ==== Pre_tiles_fit.lean ====
abbrev S8 : Shape := ⟨1, ![8]⟩
abbrev S28672x3584 : Shape := ⟨2, ![28672, 3584]⟩
abbrev S8x3584x1024 : Shape := ⟨3, ![8, 3584, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S28672x3584 .bf16) (main_arg2 : FVec F S8x3584x1024 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 56#32
  let main_v3 : IVec S8 32 := broadcastInDim S8 ![] bcast_S_S8 main_c_1
  let main_v4 : IVec S8 1 := cmpi .sle main_arg0 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg0 main_c_3
  let main_c_4 : IVec S_ 32 := constantI S_ 32 56#32
  let main_v8 : IVec S_ 1 := cmpi .sle main_v7 main_c_4
  let main_v9 : IVec S_ 1 := andi main_v6 main_v8
  main_v9
-- ==== Pre_up_tiles_fit.lean ====
abbrev S8 : Shape := ⟨1, ![8]⟩
abbrev S28672x1024 : Shape := ⟨2, ![28672, 1024]⟩
abbrev S8x1024x3584 : Shape := ⟨3, ![8, 1024, 3584]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S28672x1024 .f32) (main_arg2 : FVec F S8x1024x3584 .f32) (main_arg3 : FVec F S8x1024x3584 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 56#32
  let main_v3 : IVec S8 32 := broadcastInDim S8 ![] bcast_S_S8 main_c_1
  let main_v4 : IVec S8 1 := cmpi .sle main_arg0 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg0 main_c_3
  let main_c_4 : IVec S_ 32 := constantI S_ 32 56#32
  let main_v8 : IVec S_ 1 := cmpi .sle main_v7 main_c_4
  let main_v9 : IVec S_ 1 := andi main_v6 main_v8
  main_v9
-- ==== GqaLat.lean ====
abbrev S32x256x8x128 : Shape := ⟨4, ![32, 256, 8, 128]⟩
abbrev S2x2048x8x128 : Shape := ⟨4, ![2, 2048, 8, 128]⟩
abbrev S32x256x2x128 : Shape := ⟨4, ![32, 256, 2, 128]⟩
abbrev S2x2048x2x128 : Shape := ⟨4, ![2, 2048, 2, 128]⟩
abbrev S2x1x512x2x128 : Shape := ⟨5, ![2, 1, 512, 2, 128]⟩
abbrev S2x512x2x128 : Shape := ⟨4, ![2, 512, 2, 128]⟩
abbrev S2x512x256 : Shape := ⟨3, ![2, 512, 256]⟩
abbrev S_ : Shape := ⟨0, ![]⟩
abbrev S2x512x2x256 : Shape := ⟨4, ![2, 512, 2, 256]⟩
abbrev S2x512x512 : Shape := ⟨3, ![2, 512, 512]⟩
abbrev S8192x1024 : Shape := ⟨2, ![8192, 1024]⟩
abbrev S4096x1024 : Shape := ⟨2, ![4096, 1024]⟩
abbrev S12288x1024 : Shape := ⟨2, ![12288, 1024]⟩
abbrev S8192x256 : Shape := ⟨2, ![8192, 256]⟩
abbrev S4096x256 : Shape := ⟨2, ![4096, 256]⟩
abbrev S12288x256 : Shape := ⟨2, ![12288, 256]⟩
abbrev S8192x2x128 : Shape := ⟨3, ![8192, 2, 128]⟩
abbrev S4096x2x128 : Shape := ⟨3, ![4096, 2, 128]⟩
abbrev S12288x2x128 : Shape := ⟨3, ![12288, 2, 128]⟩
abbrev S12288x2x256 : Shape := ⟨3, ![12288, 2, 256]⟩
abbrev S12288x512 : Shape := ⟨2, ![12288, 512]⟩
abbrev S256x1024 : Shape := ⟨2, ![256, 1024]⟩
abbrev S2048x256 : Shape := ⟨2, ![2048, 256]⟩
abbrev S2048x512 : Shape := ⟨2, ![2048, 512]⟩
abbrev S1x512x256 : Shape := ⟨3, ![1, 512, 256]⟩
abbrev S1x512x512 : Shape := ⟨3, ![1, 512, 512]⟩
abbrev S256x128 : Shape := ⟨2, ![256, 128]⟩
abbrev S1024x128 : Shape := ⟨2, ![1024, 128]⟩
abbrev S2048x128 : Shape := ⟨2, ![2048, 128]⟩
abbrev S1x512x128 : Shape := ⟨3, ![1, 512, 128]⟩
abbrev S512x128 : Shape := ⟨2, ![512, 128]⟩
abbrev S512x256 : Shape := ⟨2, ![512, 256]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩

abbrev nBuf : Space → Nat
  | .hbm => 41
  | .vmem => 12
  | .smem => 0
  | _ => 0

abbrev bufTy : (tb : Table) → Fin (tcTables nBuf tb) → BufTy
  | .hbm, ⟨0, _⟩ => ⟨S32x256x8x128, .f32⟩
  | .hbm, ⟨1, _⟩ => ⟨S2x2048x8x128, .f32⟩
  | .hbm, ⟨2, _⟩ => ⟨S32x256x2x128, .f32⟩
  | .hbm, ⟨3, _⟩ => ⟨S2x2048x2x128, .f32⟩
  | .hbm, ⟨4, _⟩ => ⟨S32x256x2x128, .f32⟩
  | .hbm, ⟨5, _⟩ => ⟨S2x2048x2x128, .f32⟩
  | .hbm, ⟨6, _⟩ => ⟨S2x1x512x2x128, .f32⟩
  | .hbm, ⟨7, _⟩ => ⟨S2x1x512x2x128, .f32⟩
  | .hbm, ⟨8, _⟩ => ⟨S2x512x2x128, .f32⟩
  | .hbm, ⟨9, _⟩ => ⟨S2x512x256, .f32⟩
  | .hbm, ⟨10, _⟩ => ⟨S2x512x256, .bf16⟩
  | .hbm, ⟨11, _⟩ => ⟨S2x512x2x128, .f32⟩
  | .hbm, ⟨12, _⟩ => ⟨S2x512x2x128, .bf16⟩
  | .hbm, ⟨13, _⟩ => ⟨S_, .bf16⟩
  | .hbm, ⟨14, _⟩ => ⟨S2x512x2x128, .bf16⟩
  | .hbm, ⟨15, _⟩ => ⟨S2x512x2x256, .bf16⟩
  | .hbm, ⟨16, _⟩ => ⟨S2x512x512, .bf16⟩
  | .hbm, ⟨17, _⟩ => ⟨S8192x1024, .f32⟩
  | .hbm, ⟨18, _⟩ => ⟨S4096x1024, .f32⟩
  | .hbm, ⟨19, _⟩ => ⟨S12288x1024, .f32⟩
  | .hbm, ⟨20, _⟩ => ⟨S8192x256, .f32⟩
  | .hbm, ⟨21, _⟩ => ⟨S4096x256, .f32⟩
  | .hbm, ⟨22, _⟩ => ⟨S12288x256, .f32⟩
  | .hbm, ⟨23, _⟩ => ⟨S8192x2x128, .f32⟩
  | .hbm, ⟨24, _⟩ => ⟨S4096x2x128, .f32⟩
  | .hbm, ⟨25, _⟩ => ⟨S12288x2x128, .f32⟩
  | .hbm, ⟨26, _⟩ => ⟨S_, .f32⟩
  | .hbm, ⟨27, _⟩ => ⟨S12288x1024, .f32⟩
  | .hbm, ⟨28, _⟩ => ⟨S12288x1024, .f32⟩
  | .hbm, ⟨29, _⟩ => ⟨S_, .f32⟩
  | .hbm, ⟨30, _⟩ => ⟨S_, .f32⟩
  | .hbm, ⟨31, _⟩ => ⟨S12288x1024, .f32⟩
  | .hbm, ⟨32, _⟩ => ⟨S12288x1024, .f32⟩
  | .hbm, ⟨33, _⟩ => ⟨S12288x1024, .bf16⟩
  | .hbm, ⟨34, _⟩ => ⟨S12288x256, .bf16⟩
  | .hbm, ⟨35, _⟩ => ⟨S12288x2x128, .bf16⟩
  | .hbm, ⟨36, _⟩ => ⟨S_, .bf16⟩
  | .hbm, ⟨37, _⟩ => ⟨S12288x2x128, .bf16⟩
  | .hbm, ⟨38, _⟩ => ⟨S12288x2x256, .bf16⟩
  | .hbm, ⟨39, _⟩ => ⟨S12288x512, .bf16⟩
  | .hbm, ⟨40, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x512, .bf16⟩
  | .local _ .vmem, ⟨9, _⟩ => ⟨S1x512x512, .bf16⟩
  | .local _ .vmem, ⟨10, _⟩ => ⟨S256x1024, .bf16⟩
  | .local _ .vmem, ⟨11, _⟩ => ⟨S256x1024, .bf16⟩
  | _, _ => ⟨S32x256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaLatRefIdeal.lean ====
abbrev S32x256x8x128 : Shape := ⟨4, ![32, 256, 8, 128]⟩
abbrev S2x2048x8x128 : Shape := ⟨4, ![2, 2048, 8, 128]⟩
abbrev S32x256x2x128 : Shape := ⟨4, ![32, 256, 2, 128]⟩
abbrev S2x2048x2x128 : Shape := ⟨4, ![2, 2048, 2, 128]⟩
abbrev S2x1x512x2x128 : Shape := ⟨5, ![2, 1, 512, 2, 128]⟩
abbrev S2x512x2x128 : Shape := ⟨4, ![2, 512, 2, 128]⟩
abbrev S2x2560x2x128 : Shape := ⟨4, ![2, 2560, 2, 128]⟩
abbrev S2x2048x2x4x128 : Shape := ⟨5, ![2, 2048, 2, 4, 128]⟩
abbrev S2x2x2560x2048x4 : Shape := ⟨5, ![2, 2, 2560, 2048, 4]⟩
abbrev S2x2x4x2048x2560 : Shape := ⟨5, ![2, 2, 4, 2048, 2560]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩
abbrev S2x2048x1024 : Shape := ⟨3, ![2, 2048, 1024]⟩
abbrev S4096x1024 : Shape := ⟨2, ![4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32x256x8x128, .f32⟩
  | .hbm, ⟨1, _⟩ => ⟨S2x2048x8x128, .f32⟩
  | .hbm, ⟨2, _⟩ => ⟨S32x256x2x128, .f32⟩
  | .hbm, ⟨3, _⟩ => ⟨S2x2048x2x128, .f32⟩
  | .hbm, ⟨4, _⟩ => ⟨S32x256x2x128, .f32⟩
  | .hbm, ⟨5, _⟩ => ⟨S2x2048x2x128, .f32⟩
  | .hbm, ⟨6, _⟩ => ⟨S2x1x512x2x128, .f32⟩
  | .hbm, ⟨7, _⟩ => ⟨S2x1x512x2x128, .f32⟩
  | .hbm, ⟨8, _⟩ => ⟨S2x512x2x128, .f32⟩
  | .hbm, ⟨9, _⟩ => ⟨S2x2560x2x128, .f32⟩
  | .hbm, ⟨10, _⟩ => ⟨S2x512x2x128, .f32⟩
  | .hbm, ⟨11, _⟩ => ⟨S2x2560x2x128, .f32⟩
  | .hbm, ⟨12, _⟩ => ⟨S2x2048x2x4x128, .f32⟩
  | .hbm, ⟨13, _⟩ => ⟨S2x2x2560x2048x4, .f32⟩
  | .hbm, ⟨14, _⟩ => ⟨S2x2x4x2048x2560, .f32⟩
  | .hbm, ⟨15, _⟩ => ⟨S_, .f32⟩
  | .hbm, ⟨16, _⟩ => ⟨S2x2x4x2048x2560, .f32⟩
  | .hbm, ⟨17, _⟩ => ⟨S2x2x4x2048x2560, .f32⟩
  | .hbm, ⟨18, _⟩ => ⟨S_, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .f32⟩
  | .hbm, ⟨23, _⟩ => ⟨S2x2x4x2048x1, .f32⟩
  | .hbm, ⟨24, _⟩ => ⟨S2x2x4x2048x2560, .f32⟩
  | .hbm, ⟨25, _⟩ => ⟨S2x2x4x2048x2560, .f32⟩
  | .hbm, ⟨26, _⟩ => ⟨S2x2x4x2048x2560, .f32⟩
  | .hbm, ⟨27, _⟩ => ⟨S_, .f32⟩
  | .hbm, ⟨28, _⟩ => ⟨S2x2x4x2048, .f32⟩
  | .hbm, ⟨29, _⟩ => ⟨S2x2x4x2048x1, .f32⟩
  | .hbm, ⟨30, _⟩ => ⟨S2x2x4x2048x2560, .f32⟩
  | .hbm, ⟨31, _⟩ => ⟨S2x2x4x2048x2560, .f32⟩
  | .hbm, ⟨32, _⟩ => ⟨S2x2x128x4x2048, .f32⟩
  | .hbm, ⟨33, _⟩ => ⟨S2x2048x2x4x128, .f32⟩
  | .hbm, ⟨34, _⟩ => ⟨S2x2048x1024, .f32⟩
  | .hbm, ⟨35, _⟩ => ⟨S4096x1024, .f32⟩
  | .hbm, ⟨36, _⟩ => ⟨S4096x1024, .bf16⟩
  | _, _ => ⟨S32x256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Down.lean ====
abbrev S8 : Shape := ⟨1, ![8]⟩
abbrev S28672x3584 : Shape := ⟨2, ![28672, 3584]⟩
abbrev S8x3584x1024 : Shape := ⟨3, ![8, 3584, 1024]⟩
abbrev S_ : Shape := ⟨0, ![]⟩
abbrev S56 : Shape := ⟨1, ![56]⟩
abbrev S56x1 : Shape := ⟨2, ![56, 1]⟩
abbrev S1x8 : Shape := ⟨2, ![1, 8]⟩
abbrev S56x8 : Shape := ⟨2, ![56, 8]⟩
abbrev S1 : Shape := ⟨1, ![1]⟩
abbrev S28672x1024 : Shape := ⟨2, ![28672, 1024]⟩
abbrev S512x3584 : Shape := ⟨2, ![512, 3584]⟩
abbrev S1x3584x1024 : Shape := ⟨3, ![1, 3584, 1024]⟩
abbrev S512x1024 : Shape := ⟨2, ![512, 1024]⟩
abbrev S3584x1024 : Shape := ⟨2, ![3584, 1024]⟩
abbrev S1x256x1024 : Shape := ⟨3, ![1, 256, 1024]⟩
abbrev S256x1024 : Shape := ⟨2, ![256, 1024]⟩

abbrev nBuf : Space → Nat
  | .hbm => 52
  | .vmem => 7
  | .smem => 4
  | _ => 0

abbrev bufTy : (tb : Table) → Fin (tcTables nBuf tb) → BufTy
  | .hbm, ⟨0, _⟩ => ⟨S8, .i32⟩
  | .hbm, ⟨1, _⟩ => ⟨S28672x3584, .bf16⟩
  | .hbm, ⟨2, _⟩ => ⟨S8x3584x1024, .f32⟩
  | .hbm, ⟨3, _⟩ => ⟨S_, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8, .i32⟩
  | .hbm, ⟨8, _⟩ => ⟨S56, .i32⟩
  | .hbm, ⟨9, _⟩ => ⟨S56x1, .i32⟩
  | .hbm, ⟨10, _⟩ => ⟨S1x8, .i32⟩
  | .hbm, ⟨11, _⟩ => ⟨S56x8, .i32⟩
  | .hbm, ⟨12, _⟩ => ⟨S56x8, .i32⟩
  | .hbm, ⟨13, _⟩ => ⟨S56x8, .i1⟩
  | .hbm, ⟨14, _⟩ => ⟨S56x8, .i32⟩
  | .hbm, ⟨15, _⟩ => ⟨S_, .i32⟩
  | .hbm, ⟨16, _⟩ => ⟨S56, .i32⟩
  | .hbm, ⟨17, _⟩ => ⟨S_, .i32⟩
  | .hbm, ⟨18, _⟩ => ⟨S56, .i32⟩
  | .hbm, ⟨19, _⟩ => ⟨S1, .i32⟩
  | .hbm, ⟨20, _⟩ => ⟨S_, .i32⟩
  | .hbm, ⟨21, _⟩ => ⟨S56, .i32⟩
  | .hbm, ⟨22, _⟩ => ⟨S56, .i1⟩
  | .hbm, ⟨23, _⟩ => ⟨S56x1, .i32⟩
  | .hbm, ⟨24, _⟩ => ⟨S1x8, .i32⟩
  | .hbm, ⟨25, _⟩ => ⟨S56x8, .i32⟩
  | .hbm, ⟨26, _⟩ => ⟨S56x8, .i32⟩
  | .hbm, ⟨27, _⟩ => ⟨S56x8, .i1⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x8, .i32⟩
  | .hbm, ⟨35, _⟩ => ⟨S_, .i32⟩
  | .hbm, ⟨36, _⟩ => ⟨S_, .i32⟩
  | .hbm, ⟨37, _⟩ => ⟨S56x8, .i32⟩
  | .hbm, ⟨38, _⟩ => ⟨S56x8, .i32⟩
  | .hbm, ⟨39, _⟩ => ⟨S56x8, .i32⟩
  | .hbm, ⟨40, _⟩ => ⟨S_, .i32⟩
  | .hbm, ⟨41, _⟩ => ⟨S56, .i32⟩
  | .hbm, ⟨42, _⟩ => ⟨S_, .i32⟩
  | .hbm, ⟨43, _⟩ => ⟨S56, .i32⟩
  | .hbm, ⟨44, _⟩ => ⟨S56, .i1⟩
  | .hbm, ⟨45, _⟩ => ⟨S56, .i32⟩
  | .hbm, ⟨46, _⟩ => ⟨S_, .i32⟩
  | .hbm, ⟨47, _⟩ => ⟨S56, .i32⟩
  | .hbm, ⟨48, _⟩ => ⟨S56, .i1⟩
  | .hbm, ⟨49, _⟩ => ⟨S56, .i1⟩
  | .hbm, ⟨50, _⟩ => ⟨S56, .i1⟩
  | .hbm, ⟨51, _⟩ => ⟨S28672x1024, .f32⟩
  | .local _ .vmem, ⟨0, _⟩ => ⟨S512x3584, .bf16⟩
  | .local _ .vmem, ⟨1, _⟩ => ⟨S512x3584, .bf16⟩
  | .local _ .vmem, ⟨2, _⟩ => ⟨S1x3584x1024, .f32⟩
  | .local _ .vmem, ⟨3, _⟩ => ⟨S1x3584x1024, .f32⟩
  | .local _ .vmem, ⟨4, _⟩ => ⟨S512x1024, .f32⟩
  | .local _ .vmem, ⟨5, _⟩ => ⟨S512x1024, .f32⟩
  | .local _ .vmem, ⟨6, _⟩ => ⟨S3584x1024, .bf16⟩
  | .local _ .smem, ⟨0, _⟩ => ⟨S56, .i32⟩
  | .local _ .smem, ⟨1, _⟩ => ⟨S56, .i32⟩
  | .local _ .smem, ⟨2, _⟩ => ⟨S56, .i32⟩
  | .local _ .smem, ⟨3, _⟩ => ⟨S56, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_call2_v0 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v38 : Ref sig .tc := ⟨.hbm, 51, rfl⟩
abbrev main_v32 : Ref sig .tc := ⟨.smem, 0, rfl⟩
abbrev main_v12 : Ref sig .tc := ⟨.smem, 1, rfl⟩
abbrev main_v37 : Ref sig .tc := ⟨.smem, 2, rfl⟩
abbrev main_v17 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![56], ![false]⟩

abbrev pre0 : Pipeline.Prefetch sig := ⟨4, ![main_v32.idx, main_v12.idx, main_v37.idx, main_v17.idx], fun | 0 => main_v32.names | 1 => main_v12.names | 2 => main_v37.names | 3 => main_v17.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_4 : BitVec 32 := 0#32
  let c14_i32 : BitVec 32 := 14#32
  let v15 : BitVec 32 := Scalar.addi c0_i32_4 c14_i32
  let c1_i32_5 : BitVec 32 := 1#32
  ⟨c0_i32_4, v15, c1_i32_5⟩
def k0_mult1 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c256_i32 : BitVec 32 := 256#32
  let v16 : BitVec 32 := Scalar.muli arg9 c256_i32
  v16
def k0_off2 (k0_t1 : Fin k0_t1_loop.trips) : Fin 3 → Nat :=
  let c0 : Index := 0#32
  let c0_i32_4 : BitVec 32 := 0#32
  let c1_i32_5 : BitVec 32 := 1#32
  let arg9 : BitVec 32 := Scf.iv c0_i32_4 c1_i32_5 k0_t1
  let c256_i32 : BitVec 32 := 256#32
  let v16 : BitVec 32 := Scalar.muli arg9 c256_i32
  let v17 : BitVec 32 := v16
  let v18 : Index := Scalar.indexCast v17
  let c0_7 : Index := 0#32
  ![0, v18.toNat, 0]
def k0_off3 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c256_i32 : BitVec 32 := 256#32
  let v16 : BitVec 32 := Scalar.muli arg9 c256_i32
  let v17 : BitVec 32 := v16
  let v22 : Index := Scalar.indexCast v17
  let c0_8 : Index := 0#32
  ![v22.toNat, 0]
def k0_off4 (i : grid0.Coords) : Fin 1 → Nat :=
  let arg0 : BitVec 32 := BitVec.ofNat 32 (i 0).val
  let v5 : Index := Scalar.indexCast arg0
  ![v5.toNat]
def k0_off5 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S56.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S56) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S56.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S56) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRefIdeal.lean ====
abbrev S8 : Shape := ⟨1, ![8]⟩
abbrev S28672x3584 : Shape := ⟨2, ![28672, 3584]⟩
abbrev S8x3584x1024 : Shape := ⟨3, ![8, 3584, 1024]⟩
abbrev S_ : Shape := ⟨0, ![]⟩
abbrev S28672 : Shape := ⟨1, ![28672]⟩
abbrev S28672x1 : Shape := ⟨2, ![28672, 1]⟩
abbrev S1x8 : Shape := ⟨2, ![1, 8]⟩
abbrev S28672x8 : Shape := ⟨2, ![28672, 8]⟩
abbrev S28672x8x1024 : Shape := ⟨3, ![28672, 8, 1024]⟩
abbrev S28672x8x1 : Shape := ⟨3, ![28672, 8, 1]⟩
abbrev S28672x1024 : Shape := ⟨2, ![28672, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8, .i32⟩
  | .hbm, ⟨1, _⟩ => ⟨S28672x3584, .bf16⟩
  | .hbm, ⟨2, _⟩ => ⟨S8x3584x1024, .f32⟩
  | .hbm, ⟨3, _⟩ => ⟨S_, .i32⟩
  | .hbm, ⟨4, _⟩ => ⟨S_, .i32⟩
  | .hbm, ⟨5, _⟩ => ⟨S8, .i32⟩
  | .hbm, ⟨6, _⟩ => ⟨S28672, .i32⟩
  | .hbm, ⟨7, _⟩ => ⟨S28672x1, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S1x8, .i32⟩
  | .hbm, ⟨13, _⟩ => ⟨S28672x8, .i32⟩
  | .hbm, ⟨14, _⟩ => ⟨S28672x8, .i32⟩
  | .hbm, ⟨15, _⟩ => ⟨S28672x8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S1x8, .i32⟩
  | .hbm, ⟨20, _⟩ => ⟨S28672x8, .i32⟩
  | .hbm, ⟨21, _⟩ => ⟨S28672x8, .i32⟩
  | .hbm, ⟨22, _⟩ => ⟨S28672x8, .i1⟩
  | .hbm, ⟨23, _⟩ => ⟨S28672x8, .i1⟩
  | .hbm, ⟨24, _⟩ => ⟨S28672x3584, .f32⟩
  | .hbm, ⟨25, _⟩ => ⟨S28672x8x1024, .f32⟩
  | .hbm, ⟨26, _⟩ => ⟨S28672x8x1, .i1⟩
  | .hbm, ⟨27, _⟩ => ⟨S_, .f32⟩
  | .hbm, ⟨28, _⟩ => ⟨S_, .f32⟩
  | .hbm, ⟨29, _⟩ => ⟨S28672x8x1024, .i1⟩
  | .hbm, ⟨30, _⟩ => ⟨S28672x8x1024, .f32⟩
  | .hbm, ⟨31, _⟩ => ⟨S28672x8x1024, .f32⟩
  | .hbm, ⟨32, _⟩ => ⟨S_, .f32⟩
  | .hbm, ⟨33, _⟩ => ⟨S28672x1024, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Up.lean ====
abbrev S8 : Shape := ⟨1, ![8]⟩
abbrev S28672x1024 : Shape := ⟨2, ![28672, 1024]⟩
abbrev S8x1024x3584 : Shape := ⟨3, ![8, 1024, 3584]⟩
abbrev S_ : Shape := ⟨0, ![]⟩
abbrev S56 : Shape := ⟨1, ![56]⟩
abbrev S56x1 : Shape := ⟨2, ![56, 1]⟩
abbrev S1x8 : Shape := ⟨2, ![1, 8]⟩
abbrev S56x8 : Shape := ⟨2, ![56, 8]⟩
abbrev S1 : Shape := ⟨1, ![1]⟩
abbrev S112 : Shape := ⟨1, ![112]⟩
abbrev S112x1 : Shape := ⟨2, ![112, 1]⟩
abbrev S112x8 : Shape := ⟨2, ![112, 8]⟩
abbrev S28672x3584 : Shape := ⟨2, ![28672, 3584]⟩
abbrev S512x1024 : Shape := ⟨2, ![512, 1024]⟩
abbrev S1x1024x1792 : Shape := ⟨3, ![1, 1024, 1792]⟩
abbrev S512x1792 : Shape := ⟨2, ![512, 1792]⟩
abbrev S1024x1792 : Shape := ⟨2, ![1024, 1792]⟩
abbrev S1x128x1792 : Shape := ⟨3, ![1, 128, 1792]⟩
abbrev S128x1792 : Shape := ⟨2, ![128, 1792]⟩
abbrev S1024x256 : Shape := ⟨2, ![1024, 256]⟩
abbrev S512x256 : Shape := ⟨2, ![512, 256]⟩
abbrev S64x1792 : Shape := ⟨2, ![64, 1792]⟩

abbrev nBuf : Space → Nat
  | .hbm => 188
  | .vmem => 10
  | .smem => 5
  | _ => 0

abbrev hbmTy0_0 (i : Nat) : BufTy := match i % 128 with
  | 0 => ⟨S8, .i32⟩
  | 1 => ⟨S28672x1024, .f32⟩
  | 2 => ⟨S8x1024x3584, .f32⟩
  | 3 => ⟨S8x1024x3584, .f32⟩
  | 4 => ⟨S_, .i32⟩
  | 5 => ⟨S_, .i32⟩
  | 6 => ⟨S8, .i32⟩
  | 7 => ⟨S8, .i32⟩
  | 8 => ⟨S8, .i32⟩
  | 9 => ⟨S56, .i32⟩
  | 10 => ⟨S56x1, .i32⟩
  | 11 => ⟨S1x8, .i32⟩
  | 12 => ⟨S56x8, .i32⟩
  | 13 => ⟨S56x8, .i32⟩
  | 14 => ⟨S56x8, .i1⟩
  | 15 => ⟨S56x8, .i32⟩
  | 16 => ⟨S_, .i32⟩
  | 17 => ⟨S56, .i32⟩
  | 18 => ⟨S_, .i32⟩
  | 19 => ⟨S56, .i32⟩
  | 20 => ⟨S56, .i32⟩
  | 21 => ⟨S1, .i32⟩
  | 22 => ⟨S_, .i32⟩
  | 23 => ⟨S_, .i32⟩
  | 24 => ⟨S_, .i32⟩
  | 25 => ⟨S_, .i32⟩
  | 26 => ⟨S_, .i32⟩
  | 27 => ⟨S56, .i32⟩
  | 28 => ⟨S56, .i1⟩
  | 29 => ⟨S_, .i32⟩
  | 30 => ⟨S_, .i32⟩
  | 31 => ⟨S56, .i32⟩
  | 32 => ⟨S56, .i32⟩
  | 33 => ⟨S_, .i32⟩
  | 34 => ⟨S_, .i32⟩
  | 35 => ⟨S112, .i32⟩
  | 36 => ⟨S112x1, .i32⟩
  | 37 => ⟨S1x8, .i32⟩
  | 38 => ⟨S_, .i32⟩
  | 39 => ⟨S1x8, .i32⟩
  | 40 => ⟨S1x8, .i32⟩
  | 41 => ⟨S112x8, .i32⟩
  | 42 => ⟨S112x8, .i32⟩
  | 43 => ⟨S112x8, .i1⟩
  | 44 => ⟨S112x8, .i32⟩
  | 45 => ⟨S_, .i32⟩
  | 46 => ⟨S112, .i32⟩
  | 47 => ⟨S_, .i32⟩
  | 48 => ⟨S112, .i32⟩
  | 49 => ⟨S112, .i32⟩
  | 50 => ⟨S112x1, .i32⟩
  | 51 => ⟨S1x8, .i32⟩
  | 52 => ⟨S112x8, .i32⟩
  | 53 => ⟨S112x8, .i32⟩
  | 54 => ⟨S112x8, .i1⟩
  | 55 => ⟨S1x8, .i32⟩
  | 56 => ⟨S_, .i32⟩
  | 57 => ⟨S_, .i32⟩
  | 58 => ⟨S112x8, .i32⟩
  | 59 => ⟨S112x8, .i32⟩
  | 60 => ⟨S112x8, .i32⟩
  | 61 => ⟨S_, .i32⟩
  | 62 => ⟨S112, .i32⟩
  | 63 => ⟨S1x8, .i32⟩
  | 64 => ⟨S_, .i32⟩
  | 65 => ⟨S_, .i32⟩
  | 66 => ⟨S112x8, .i32⟩
  | 67 => ⟨S112x8, .i32⟩
  | 68 => ⟨S112x8, .i32⟩
  | 69 => ⟨S_, .i32⟩
  | 70 => ⟨S112, .i32⟩
  | 71 => ⟨S_, .i32⟩
  | 72 => ⟨S112, .i32⟩
  | 73 => ⟨S112, .i32⟩
  | 74 => ⟨S_, .i32⟩
  | 75 => ⟨S112, .i32⟩
  | 76 => ⟨S112, .i32⟩
  | 77 => ⟨S112, .i32⟩
  | 78 => ⟨S_, .i32⟩
  | 79 => ⟨S_, .i32⟩
  | 80 => ⟨S112, .i32⟩
  | 81 => ⟨S112, .i1⟩
  | 82 => ⟨S_, .i32⟩
  | 83 => ⟨S_, .i32⟩
  | 84 => ⟨S112, .i32⟩
  | 85 => ⟨S112, .i32⟩
  | 86 => ⟨S_, .i32⟩
  | 87 => ⟨S112, .i32⟩
  | 88 => ⟨S112, .i1⟩
  | 89 => ⟨S_, .i32⟩
  | 90 => ⟨S112, .i32⟩
  | 91 => ⟨S112, .i32⟩
  | 92 => ⟨S112, .i32⟩
  | 93 => ⟨S_, .i32⟩
  | 94 => ⟨S112, .i32⟩
  | 95 => ⟨S112, .i1⟩
  | 96 => ⟨S_, .i32⟩
  | 97 => ⟨S112, .i32⟩
  | 98 => ⟨S112, .i1⟩
  | 99 => ⟨S_, .i32⟩
  | 100 => ⟨S112, .i32⟩
  | 101 => ⟨S112, .i1⟩
  | 102 => ⟨S112, .i1⟩
  | 103 => ⟨S112, .i1⟩
  | 104 => ⟨S112, .i32⟩
  | 105 => ⟨S112, .i32⟩
  | 106 => ⟨S112, .i32⟩
  | 107 => ⟨S_, .i32⟩
  | 108 => ⟨S_, .i32⟩
  | 109 => ⟨S112, .i32⟩
  | 110 => ⟨S112, .i32⟩
  | 111 => ⟨S112, .i32⟩
  | 112 => ⟨S_, .i32⟩
  | 113 => ⟨S112, .i32⟩
  | 114 => ⟨S112, .i1⟩
  | 115 => ⟨S112, .i32⟩
  | 116 => ⟨S112, .i32⟩
  | 117 => ⟨S_, .i32⟩
  | 118 => ⟨S112, .i32⟩
  | 119 => ⟨S112, .i1⟩
  | 120 => ⟨S112, .i1⟩
  | 121 => ⟨S_, .i32⟩
  | 122 => ⟨S112, .i32⟩
  | 123 => ⟨S112, .i32⟩
  | 124 => ⟨S112, .i32⟩
  | 125 => ⟨S112, .i32⟩
  | 126 => ⟨S112, .i32⟩
  | 127 => ⟨S112, .i32⟩
  | _ => ⟨S8, .i32⟩

abbrev hbmTy0_1 (i : Nat) : BufTy := match i % 128 with
  | 0 => ⟨S112, .i32⟩
  | 1 => ⟨S112, .i32⟩
  | 2 => ⟨S112, .i1⟩
  | 3 => ⟨S112, .i32⟩
  | 4 => ⟨S_, .i32⟩
  | 5 => ⟨S112, .i32⟩
  | 6 => ⟨S112, .i1⟩
  | 7 => ⟨S112, .i1⟩
  | 8 => ⟨S_, .i32⟩
  | 9 => ⟨S112, .i32⟩
  | 10 => ⟨S112, .i32⟩
  | 11 => ⟨S112, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S112, .i32⟩
  | 19 => ⟨S112, .i32⟩
  | 20 => ⟨S_, .i32⟩
  | 21 => ⟨S112, .i32⟩
  | 22 => ⟨S112, .i1⟩
  | 23 => ⟨S_, .i32⟩
  | 24 => ⟨S112, .i32⟩
  | 25 => ⟨S112, .i1⟩
  | 26 => ⟨S_, .i32⟩
  | 27 => ⟨S_, .i1⟩
  | 28 => ⟨S112, .i1⟩
  | 29 => ⟨S112, .i1⟩
  | 30 => ⟨S112, .i1⟩
  | 31 => ⟨S112, .i32⟩
  | 32 => ⟨S112, .i32⟩
  | 33 => ⟨S112, .i32⟩
  | 34 => ⟨S112, .i32⟩
  | 35 => ⟨S_, .i32⟩
  | 36 => ⟨S112, .i32⟩
  | 37 => ⟨S112, .i1⟩
  | 38 => ⟨S_, .i32⟩
  | 39 => ⟨S112, .i32⟩
  | 40 => ⟨S112, .i32⟩
  | 41 => ⟨S112, .i32⟩
  | 42 => ⟨S_, .i32⟩
  | 43 => ⟨S112, .i32⟩
  | 44 => ⟨S112, .i1⟩
  | 45 => ⟨S_, .i32⟩
  | 46 => ⟨S112, .i32⟩
  | 47 => ⟨S112, .i1⟩
  | 48 => ⟨S_, .i32⟩
  | 49 => ⟨S112, .i32⟩
  | 50 => ⟨S112, .i1⟩
  | 51 => ⟨S112, .i1⟩
  | 52 => ⟨S112, .i1⟩
  | 53 => ⟨S112, .i32⟩
  | 54 => ⟨S112, .i32⟩
  | 55 => ⟨S_, .i32⟩
  | 56 => ⟨S112, .i32⟩
  | 57 => ⟨S112, .i1⟩
  | 58 => ⟨S112, .i1⟩
  | 59 => ⟨S28672x3584, .bf16⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024x1792, .f32⟩
  | .local _ .vmem, ⟨3, _⟩ => ⟨S1x1024x1792, .f32⟩
  | .local _ .vmem, ⟨4, _⟩ => ⟨S1x1024x1792, .f32⟩
  | .local _ .vmem, ⟨5, _⟩ => ⟨S1x1024x1792, .f32⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | .local _ .vmem, ⟨9, _⟩ => ⟨S1024x1792, .bf16⟩
  | .local _ .smem, ⟨0, _⟩ => ⟨S112, .i32⟩
  | .local _ .smem, ⟨1, _⟩ => ⟨S112, .i32⟩
  | .local _ .smem, ⟨2, _⟩ => ⟨S112, .i32⟩
  | .local _ .smem, ⟨3, _⟩ => ⟨S112, .i32⟩
  | .local _ .smem, ⟨4, _⟩ => ⟨S112, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_c_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_1 : Ref sig .tc := ⟨.hbm, 93, rfl⟩
abbrev main_call4_v5 : Ref sig .tc := ⟨.hbm, 94, rfl⟩
abbrev main_call4_v6 : Ref sig .tc := ⟨.hbm, 95, rfl⟩
abbrev main_call4_c_2 : Ref sig .tc := ⟨.hbm, 96, rfl⟩
abbrev main_call4_v7 : Ref sig .tc := ⟨.hbm, 97, rfl⟩
abbrev main_call4_v8 : Ref sig .tc := ⟨.hbm, 98, rfl⟩
abbrev main_call4_c_3 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_v55 : Ref sig .tc := ⟨.hbm, 105, rfl⟩
abbrev main_v56 : Ref sig .tc := ⟨.hbm, 106, rfl⟩
abbrev main_c_16 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_c : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_0 : Ref sig .tc := ⟨.hbm, 121, rfl⟩
abbrev main_call5_v12 : Ref sig .tc := ⟨.hbm, 122, rfl⟩
abbrev main_call5_v13 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_c : Ref sig .tc := ⟨.hbm, 132, rfl⟩
abbrev main_call7_v5 : Ref sig .tc := ⟨.hbm, 133, rfl⟩
abbrev main_call7_v6 : Ref sig .tc := ⟨.hbm, 134, rfl⟩
abbrev main_call7_v7 : Ref sig .tc := ⟨.hbm, 135, rfl⟩
abbrev main_call7_c_0 : Ref sig .tc := ⟨.hbm, 136, rfl⟩
abbrev main_call7_v8 : Ref sig .tc := ⟨.hbm, 137, rfl⟩
abbrev main_call7_v9 : Ref sig .tc := ⟨.hbm, 138, rfl⟩
abbrev main_v61 : Ref sig .tc := ⟨.hbm, 139, rfl⟩
abbrev main_c_17 : Ref sig .tc := ⟨.hbm, 140, rfl⟩
abbrev main_call8_v0 : Ref sig .tc := ⟨.hbm, 141, rfl⟩
abbrev main_call8_c : Ref sig .tc := ⟨.hbm, 142, rfl⟩
abbrev main_call8_v1 : Ref sig .tc := ⟨.hbm, 143, rfl⟩
abbrev main_call8_c_0 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_call8_c_1 : Ref sig .tc := ⟨.hbm, 148, rfl⟩
abbrev main_call8_v5 : Ref sig .tc := ⟨.hbm, 149, rfl⟩
abbrev main_call8_v6 : Ref sig .tc := ⟨.hbm, 150, rfl⟩
abbrev main_call8_c_2 : Ref sig .tc := ⟨.hbm, 151, rfl⟩
abbrev main_call8_v7 : Ref sig .tc := ⟨.hbm, 152, rfl⟩
abbrev main_call8_v8 : Ref sig .tc := ⟨.hbm, 153, rfl⟩
abbrev main_call8_c_3 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_v12 : Ref sig .tc := ⟨.hbm, 158, rfl⟩
abbrev main_call8_v13 : Ref sig .tc := ⟨.hbm, 159, rfl⟩
abbrev main_call8_v14 : Ref sig .tc := ⟨.hbm, 160, rfl⟩
abbrev main_v62 : Ref sig .tc := ⟨.hbm, 161, rfl⟩
abbrev main_call10_v0 : Ref sig .tc := ⟨.hbm, 162, rfl⟩
abbrev main_call11_c : Ref sig .tc := ⟨.hbm, 163, rfl⟩
abbrev main_call11_v0 : Ref sig .tc := ⟨.hbm, 164, rfl⟩
abbrev main_call11_v1 : Ref sig .tc := ⟨.hbm, 165, rfl⟩
abbrev main_call11_c_0 : Ref sig .tc := ⟨.hbm, 166, rfl⟩
abbrev main_call11_v2 : Ref sig .tc := ⟨.hbm, 167, rfl⟩
abbrev main_call11_v3 : Ref sig .tc := ⟨.hbm, 168, rfl⟩
abbrev main_call11_v4 : Ref sig .tc := ⟨.hbm, 169, rfl⟩
abbrev main_call11_c_1 : Ref sig .tc := ⟨.hbm, 170, rfl⟩
abbrev main_call11_v5 : Ref sig .tc := ⟨.hbm, 171, rfl⟩
abbrev main_call11_v6 : Ref sig .tc := ⟨.hbm, 172, rfl⟩
abbrev main_call11_c_2 : Ref sig .tc := ⟨.hbm, 173, rfl⟩
abbrev main_call11_v7 : Ref sig .tc := ⟨.hbm, 174, rfl⟩
abbrev main_call11_v8 : Ref sig .tc := ⟨.hbm, 175, rfl⟩
abbrev main_call11_c_3 : Ref sig .tc := ⟨.hbm, 176, rfl⟩
abbrev main_call11_v9 : Ref sig .tc := ⟨.hbm, 177, rfl⟩
abbrev main_call11_v10 : Ref sig .tc := ⟨.hbm, 178, rfl⟩
abbrev main_call11_v11 : Ref sig .tc := ⟨.hbm, 179, rfl⟩
abbrev main_call11_v12 : Ref sig .tc := ⟨.hbm, 180, rfl⟩
abbrev main_call11_v13 : Ref sig .tc := ⟨.hbm, 181, rfl⟩
abbrev main_v65 : Ref sig .tc := ⟨.hbm, 182, rfl⟩
abbrev main_c_18 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v71 : Ref sig .tc := ⟨.hbm, 187, rfl⟩
abbrev main_v60 : Ref sig .tc := ⟨.smem, 0, rfl⟩
abbrev main_v63 : Ref sig .tc := ⟨.smem, 1, rfl⟩
abbrev main_v64 : Ref sig .tc := ⟨.smem, 2, rfl⟩
abbrev main_v69 : Ref sig .tc := ⟨.smem, 3, rfl⟩
abbrev main_v70 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![112], ![false]⟩

abbrev pre0 : Pipeline.Prefetch sig := ⟨5, ![main_v60.idx, main_v63.idx, main_v64.idx, main_v69.idx, main_v70.idx], fun | 0 => main_v60.names | 1 => main_v63.names | 2 => main_v64.names | 3 => main_v69.names | 4 => main_v70.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_4 : BitVec 32 := 0#32
  let c8_i32 : BitVec 32 := 8#32
  let v15 : BitVec 32 := Scalar.addi c0_i32_4 c8_i32
  let c1_i32_5 : BitVec 32 := 1#32
  ⟨c0_i32_4, v15, c1_i32_5⟩
def k0_mult1 (k0_t1 : Fin k0_t1_loop.trips) : BitVec 32 :=
  let c0_i32_4 : BitVec 32 := 0#32
  let c1_i32_5 : BitVec 32 := 1#32
  let arg12 : BitVec 32 := Scf.iv c0_i32_4 c1_i32_5 k0_t1
  let c128_i32 : BitVec 32 := 128#32
  let v17 : BitVec 32 := Scalar.muli arg12 c128_i32
  v17
def k0_off2 (k0_t1 : Fin k0_t1_loop.trips) : Fin 3 → Nat :=
  let c0 : Index := 0#32
  let c0_i32_4 : BitVec 32 := 0#32
  let c1_i32_5 : BitVec 32 := 1#32
  let arg12 : BitVec 32 := Scf.iv c0_i32_4 c1_i32_5 k0_t1
  let c128_i32 : BitVec 32 := 128#32
  let v17 : BitVec 32 := Scalar.muli arg12 c128_i32
  let v18 : BitVec 32 := v17
  let v19 : Index := Scalar.indexCast v18
  let c0_11 : Index := 0#32
  ![0, v19.toNat, 0]
def k0_off3 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c128_i32 : BitVec 32 := 128#32
  let v17 : BitVec 32 := Scalar.muli arg12 c128_i32
  let v18 : BitVec 32 := v17
  let v23 : Index := Scalar.indexCast v18
  let c0_12 : Index := 0#32
  ![v23.toNat, 0]
@[reducible] def k0_t2_loop : Scf.Loop 32 :=
  let c0_i32_7 : BitVec 32 := 0#32
  let c8_i32_8 : BitVec 32 := 8#32
  let v16 : BitVec 32 := Scalar.addi c0_i32_7 c8_i32_8
  let c1_i32_9 : BitVec 32 := 1#32
  ⟨c0_i32_7, v16, c1_i32_9⟩
def k0_mult2 (k0_t2 : Fin k0_t2_loop.trips) : BitVec 32 :=
  let c0_i32_7 : BitVec 32 := 0#32
  let c1_i32_9 : BitVec 32 := 1#32
  let arg12 : BitVec 32 := Scf.iv c0_i32_7 c1_i32_9 k0_t2
  let c128_i32 : BitVec 32 := 128#32
  let v17 : BitVec 32 := Scalar.muli arg12 c128_i32
  v17
def k0_off4 (k0_t2 : Fin k0_t2_loop.trips) : Fin 3 → Nat :=
  let c0 : Index := 0#32
  let c0_i32_7 : BitVec 32 := 0#32
  let c1_i32_9 : BitVec 32 := 1#32
  let arg12 : BitVec 32 := Scf.iv c0_i32_7 c1_i32_9 k0_t2
  let c128_i32 : BitVec 32 := 128#32
  let v17 : BitVec 32 := Scalar.muli arg12 c128_i32
  let v18 : BitVec 32 := v17
  let v19 : Index := Scalar.indexCast v18
  let c0_11 : Index := 0#32
  ![0, v19.toNat, 0]
def k0_off5 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c128_i32 : BitVec 32 := 128#32
  let v17 : BitVec 32 := Scalar.muli arg12 c128_i32
  let v18 : BitVec 32 := v17
  let v23 : Index := Scalar.indexCast v18
  let c0_12 : Index := 0#32
  ![v23.toNat, 0]
def k0_off6 (i : grid0.Coords) : Fin 1 → Nat :=
  let arg0 : BitVec 32 := BitVec.ofNat 32 (i 0).val
  let v5 : Index := Scalar.indexCast arg0
  ![v5.toNat]
def k0_off7 (i : grid0.Coords) : Fin 1 → Nat :=
  let arg0 : BitVec 32 := BitVec.ofNat 32 (i 0).val
  let v10 : Index := Scalar.indexCast arg0
  ![v10.toNat]
@[reducible] def k0_t3_loop : Scf.Loop 32 :=
  let c0_i32_4 : BitVec 32 := 0#32
  let c8_i32 : BitVec 32 := 8#32
  let v15 : BitVec 32 := Scalar.addi c0_i32_4 c8_i32
  let c1_i32_5 : BitVec 32 := 1#32
  ⟨c0_i32_4, v15, c1_i32_5⟩
def k0_mult3 (k0_t3 : Fin k0_t3_loop.trips) : BitVec 32 :=
  let c0_i32_4 : BitVec 32 := 0#32
  let c1_i32_5 : BitVec 32 := 1#32
  let arg12 : BitVec 32 := Scf.iv c0_i32_4 c1_i32_5 k0_t3
  let c64_i32 : BitVec 32 := 64#32
  let v17 : BitVec 32 := Scalar.muli arg12 c64_i32
  v17
def k0_off8 (k0_t3 : Fin k0_t3_loop.trips) : Fin 2 → Nat :=
  let c0_i32_4 : BitVec 32 := 0#32
  let c1_i32_5 : BitVec 32 := 1#32
  let arg12 : BitVec 32 := Scf.iv c0_i32_4 c1_i32_5 k0_t3
  let c64_i32 : BitVec 32 := 64#32
  let v17 : BitVec 32 := Scalar.muli arg12 c64_i32
  let v18 : BitVec 32 := v17
  let v19 : Index := Scalar.indexCast v18
  let c0 : Index := 0#32
  ![v19.toNat, 0]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S112.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S112.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S112) ![v0.toNat] S1.size (k0_off1_inb i)) numel1_S1
  let v2 : Index := Scalar.indexCast arg0
  let v3 : BitVec 32 := pf.at 4 (Rect.unit (s := S112) ![v2.toNat] S1.size (k0_off1_inb i)) numel1_S1
  let c1_i32 : BitVec 32 := 1#32
  let v4 : BitVec 1 := Scalar.cmpi .eq v3 c1_i32
  let v5 : Index := Scalar.indexCast arg0
  let v6 : BitVec 32 := pf.at 1 (Rect.unit (s := S112) ![v5.toNat] S1.size (k0_off1_inb i)) numel1_S1
  let c1_i32_0 : BitVec 32 := 1#32
  let v7 : BitVec 32 := Scalar.select v4 v6 c1_i32_0
  let c0_i32 : BitVec 32 := 0#32
  let c0_i32_1 : BitVec 32 := 0#32
  ![v1.toNat, c0_i32.toNat, v7.toNat]

def cc0_transform_2 (k0_off1_inb : ∀ i : grid0.Coords, ∀ a, (k0_off1 i) a + S1.size a ≤ S112.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S112) ![v0.toNat] S1.size (k0_off1_inb i)) numel1_S1
  let v2 : Index := Scalar.indexCast arg0
  let v3 : BitVec 32 := pf.at 4 (Rect.unit (s := S112) ![v2.toNat] S1.size (k0_off1_inb i)) numel1_S1
  let c1_i32 : BitVec 32 := 1#32
  let v4 : BitVec 1 := Scalar.cmpi .eq v3 c1_i32
  let v5 : Index := Scalar.indexCast arg0
  let v6 : BitVec 32 := pf.at 1 (Rect.unit (s := S112) ![v5.toNat] S1.size (k0_off1_inb i)) numel1_S1
  let c1_i32_0 : BitVec 32 := 1#32
  let v7 : BitVec 32 := Scalar.select v4 v6 c1_i32_0
  let c0_i32 : BitVec 32 := 0#32
  let c0_i32_1 : BitVec 32 := 0#32
  ![v1.toNat, c0_i32.toNat, v7.toNat]

def cc0_transform_3 (k0_off1_inb : ∀ i : grid0.Coords, ∀ a, (k0_off1 i) a + S1.size a ≤ S112.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let v2 : Index := Scalar.indexCast arg0
  let v3 : BitVec 32 := pf.at 1 (Rect.unit (s := S112) ![v2.toNat] S1.size (k0_off1_inb i)) numel1_S1
  let c0_i32 : BitVec 32 := 0#32
  ![v1.toNat, v3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S8 : Shape := ⟨1, ![8]⟩
abbrev S28672x1024 : Shape := ⟨2, ![28672, 1024]⟩
abbrev S8x1024x3584 : Shape := ⟨3, ![8, 1024, 3584]⟩
abbrev S_ : Shape := ⟨0, ![]⟩
abbrev S28672 : Shape := ⟨1, ![28672]⟩
abbrev S28672x1 : Shape := ⟨2, ![28672, 1]⟩
abbrev S1x8 : Shape := ⟨2, ![1, 8]⟩
abbrev S28672x8 : Shape := ⟨2, ![28672, 8]⟩
abbrev S28672x8x3584 : Shape := ⟨3, ![28672, 8, 3584]⟩
abbrev S28672x8x1 : Shape := ⟨3, ![28672, 8, 1]⟩
abbrev S28672x3584 : Shape := ⟨2, ![28672, 3584]⟩

abbrev nBuf : Space → Nat
  | .hbm => 46
  | .vmem => 0
  | .smem => 0
  | _ => 0

abbrev bufTy : (tb : Table) → Fin (tcTables nBuf tb) → BufTy
  | .hbm, ⟨0, _⟩ => ⟨S8, .i32⟩
  | .hbm, ⟨1, _⟩ => ⟨S28672x1024, .f32⟩
  | .hbm, ⟨2, _⟩ => ⟨S8x1024x3584, .f32⟩
  | .hbm, ⟨3, _⟩ => ⟨S8x1024x3584, .f32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S28672, .i32⟩
  | .hbm, ⟨8, _⟩ => ⟨S28672x1, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S1x8, .i32⟩
  | .hbm, ⟨14, _⟩ => ⟨S28672x8, .i32⟩
  | .hbm, ⟨15, _⟩ => ⟨S28672x8, .i32⟩
  | .hbm, ⟨16, _⟩ => ⟨S28672x8, .i1⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S1x8, .i32⟩
  | .hbm, ⟨21, _⟩ => ⟨S28672x8, .i32⟩
  | .hbm, ⟨22, _⟩ => ⟨S28672x8, .i32⟩
  | .hbm, ⟨23, _⟩ => ⟨S28672x8, .i1⟩
  | .hbm, ⟨24, _⟩ => ⟨S28672x8, .i1⟩
  | .hbm, ⟨25, _⟩ => ⟨S28672x8x3584, .f32⟩
  | .hbm, ⟨26, _⟩ => ⟨S28672x8x3584, .f32⟩
  | .hbm, ⟨27, _⟩ => ⟨S28672x8x1, .i1⟩
  | .hbm, ⟨28, _⟩ => ⟨S28672x8x3584, .f32⟩
  | .hbm, ⟨29, _⟩ => ⟨S28672x8x3584, .f32⟩
  | .hbm, ⟨30, _⟩ => ⟨S_, .f32⟩
  | .hbm, ⟨31, _⟩ => ⟨S28672x8x3584, .f32⟩
  | .hbm, ⟨32, _⟩ => ⟨S28672x8x3584, .f32⟩
  | .hbm, ⟨33, _⟩ => ⟨S_, .f32⟩
  | .hbm, ⟨34, _⟩ => ⟨S28672x8x3584, .f32⟩
  | .hbm, ⟨35, _⟩ => ⟨S28672x8x3584, .f32⟩
  | .hbm, ⟨36, _⟩ => ⟨S28672x8x3584, .f32⟩
  | .hbm, ⟨37, _⟩ => ⟨S28672x8x3584, .f32⟩
  | .hbm, ⟨38, _⟩ => ⟨S_, .f32⟩
  | .hbm, ⟨39, _⟩ => ⟨S_, .f32⟩
  | .hbm, ⟨40, _⟩ => ⟨S28672x8x3584, .i1⟩
  | .hbm, ⟨41, _⟩ => ⟨S28672x8x3584, .f32⟩
  | .hbm, ⟨42, _⟩ => ⟨S28672x8x3584, .f32⟩
  | .hbm, ⟨43, _⟩ => ⟨S_, .f32⟩
  | .hbm, ⟨44, _⟩ => ⟨S28672x3584, .f32⟩
  | .hbm, ⟨45, _⟩ => ⟨S28672x3584, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Proof.Softmax.lean ====
module

public import Idealize.ShloMosaic.PureOps.Ideal.Laws
public import Idealize.ShloMosaic.Lib.Pointwise
public import Idealize.ShloMosaic.Lib.IdealHost
public import Mathlib.Analysis.SpecialFunctions.Pow.Real

/-! # Softmax-weighted sums over the extended reals

    Facts about `exp`, `exp2`, maxima and weighted sums that hold for any family of finite scores: a running maximum
    of finite scores is finite, and the softmax-weighted sum does not depend on which finite number is subtracted
    from the scores, on the base of the exponential (with the scores scaled to it), or on whether the division by
    the sum of the weights comes before or after the weighted sum. The summed values may be infinite. -/

@[expose] public section

noncomputable section

namespace Cert.Softmax

open Idealize.ShloMosaic

/-- A maximum over a nonempty range of finite numbers, started at `⊥`, is finite. -/
theorem fold_max_real {n : ℕ} (hn : 0 < n) (f : Fin n → EReal) (hf : ∀ k, ∃ r : ℝ, f k = (r : EReal)) :
    ∃ M : ℝ, Finset.univ.fold max (⊥ : EReal) f = (M : EReal) := by
  have hsup : Finset.univ.fold max (⊥ : EReal) f = Finset.univ.sup f := rfl
  rw [hsup]
  have hne : (Finset.univ : Finset (Fin n)).Nonempty := ⟨⟨0, hn⟩, Finset.mem_univ _⟩
  obtain ⟨k, _, hk⟩ := Finset.exists_mem_eq_sup Finset.univ hne f
  obtain ⟨r, hr⟩ := hf k
  exact ⟨r, by rw [hk, hr]⟩

/-- The greater of two finite numbers is finite. -/
theorem max_real {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb
  rcases max_choice (r : EReal) s with h | h
  · exact ⟨r, h⟩
  · exact ⟨s, h⟩

/-- The coercion of a finite sum of reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Multiplication by a nonnegative real distributes over any finite sum of extended reals. -/
theorem sum_mul_real {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Dividing a finite number by a finite nonzero number. -/
theorem div_real (x : ℝ) {y : ℝ} (h : y ≠ 0) : Ideal.div (x : EReal) (y : EReal) = ((x / y : ℝ) : EReal) := by
  rw [Ideal.div_coe h, ← EReal.coe_mul, mul_one_div]

/-- `2 ^ (x / ln 2 - T)` as a multiple of `e ^ x`. -/
theorem exp2_scaled (x T : ℝ) :
    Ideal.exp2 (((x / Real.log 2 : ℝ) : EReal) - (T : EReal)) = ((Real.exp x * Real.exp (-(T * Real.log 2)) : ℝ) : EReal) := by
  have h2 : Real.log 2 ≠ 0 := (Real.log_pos (by norm_num)).ne'
  rw [← EReal.coe_sub, Ideal.exp2_coe]
  congr 1
  show (2 : ℝ) ^ (x / Real.log 2 - T) = _
  rw [Real.rpow_def_of_pos (by norm_num), ← Real.exp_add]
  congr 1
  field_simp
  ring

/-- `e ^ (x - M)` as a multiple of `e ^ x`. -/
theorem exp_shifted (x M : ℝ) :
    Ideal.exp ((x : EReal) - (M : EReal)) = ((Real.exp x * Real.exp (-M) : ℝ) : EReal) := by
  rw [← EReal.coe_sub, Ideal.exp_coe, ← Real.exp_add, sub_eq_add_neg]

/-- Softmax weights up to a common positive factor: dividing the weighted sum by the sum of the weights is the sum
    weighted by the quotients, whichever positive factor `a`, `b` the weights carry on either side. -/
theorem weighted {ι : Type*} [Fintype ι] [Nonempty ι] (s : ι → ℝ) (v : ι → EReal) {a b : ℝ} (ha : 0 < a) (hb : 0 < b) :
    (∑ k, ((Real.exp (s k) * a : ℝ) : EReal) * v k) * Ideal.div 1 (∑ k, ((Real.exp (s k) * a : ℝ) : EReal) * 1)
      = ∑ k, v k * Ideal.div ((Real.exp (s k) * b : ℝ) : EReal) (∑ k, ((Real.exp (s k) * b : ℝ) : EReal)) := by
  have hZ : 0 < ∑ k, Real.exp (s k) := Finset.sum_pos (fun k _ => Real.exp_pos _) Finset.univ_nonempty
  have hA : (∑ k, ((Real.exp (s k) * a : ℝ) : EReal) * 1) = (((∑ k, Real.exp (s k)) * a : ℝ) : EReal) := by
    simp only [mul_one]; rw [← coe_sum, Finset.sum_mul]
  have hB : (∑ k, ((Real.exp (s k) * b : ℝ) : EReal)) = (((∑ k, Real.exp (s k)) * b : ℝ) : EReal) := by
    rw [← coe_sum, Finset.sum_mul]
  rw [hA, hB, show (1 : EReal) = ((1 : ℝ) : EReal) from rfl, div_real _ (mul_pos hZ ha).ne',
    sum_mul_real _ _ _ (div_pos one_pos (mul_pos hZ ha)).le]
  refine Finset.sum_congr rfl fun k _ => ?_
  rw [div_real _ (mul_pos hZ hb).ne', mul_comm _ (v k), mul_assoc, ← EReal.coe_mul]
  congr 2
  field_simp

/-- The kernel's attention row against the reference's: the kernel exponentiates to base 2 scores divided by `ln 2`,
    subtracts any finite `T`, sums two key ranges apart, and divides at the end by the sum of the weights, got as a
    product with a column of ones; the reference subtracts any finite `M` and weights the values by quotients. -/
theorem attend {n n' : ℕ} (hn : 0 < n) (s : Fin n → ℝ) (s' : Fin n' → ℝ) (v : Fin n → EReal) (v' : Fin n' → EReal) (T M : ℝ) :
    ((∑ k, Ideal.exp2 (((s k / Real.log 2 : ℝ) : EReal) - (T : EReal)) * v k)
        + ∑ k, Ideal.exp2 (((s' k / Real.log 2 : ℝ) : EReal) - (T : EReal)) * v' k)
      * Ideal.div 1 ((∑ k, Ideal.exp2 (((s k / Real.log 2 : ℝ) : EReal) - (T : EReal)) * 1)
        + ∑ k, Ideal.exp2 (((s' k / Real.log 2 : ℝ) : EReal) - (T : EReal)) * 1)
      = (∑ k, v k * Ideal.div (Ideal.exp ((s k : EReal) - (M : EReal)))
            ((∑ k, Ideal.exp ((s k : EReal) - (M : EReal))) + ∑ k, Ideal.exp ((s' k : EReal) - (M : EReal))))
        + ∑ k, v' k * Ideal.div (Ideal.exp ((s' k : EReal) - (M : EReal)))
            ((∑ k, Ideal.exp ((s k : EReal) - (M : EReal))) + ∑ k, Ideal.exp ((s' k : EReal) - (M : EReal))) := by
  haveI : Nonempty (Fin n ⊕ Fin n') := ⟨.inl ⟨0, hn⟩⟩
  simp only [exp2_scaled, exp_shifted]
  have h := weighted (Sum.elim s s') (Sum.elim v v') (Real.exp_pos (-(T * Real.log 2))) (Real.exp_pos (-M))
  simpa only [Fintype.sum_sum_type, Sum.elim_inl, Sum.elim_inr] using h

/-- Scores of finite rows are finite. -/
theorem dot_real {n : ℕ} (f g : Fin n → ℝ) : (∑ k, (f k : EReal) * (g k : EReal)) = ((∑ k, f k * g k : ℝ) : EReal) := by
  rw [coe_sum]; simp only [EReal.coe_mul]

/-! ## Maxima as the two programs print them -/

/-- The word of `-∞`. -/
theorem negInf : Ideal.ofBits .f32 0xFF800000#32 = ⊥ := by simp [Ideal.ofBits, Ideal.ieee]

/-- The host's maximum over the last axis of a rank-5 tensor of finite numbers is finite. -/
theorem host_max_real {n0 n1 n2 n3 n4 : ℕ} {t u : Shape} (hn : 0 < n4) (x : FVec Ideal ⟨5, ![n0, n1, n2, n3, n4]⟩ .f32)
    (init : FVec Ideal u .f32) (h : (⟨5, ![n0, n1, n2, n3, n4]⟩ : Shape).ReducesTo [4] t) (hu : 0 < u.numel) (j : t.Idx)
    (hinit : ∀ i, init i = (⊥ : EReal)) (hx : ∀ i, ∃ r : ℝ, x i = (r : EReal)) :
    ∃ M : ℝ, Host.reduce FloatOps.maximumf x init h hu j = (M : EReal) := by
  rw [Ideal.maximumf_eq_max, Host.reduce_eq_fold, Shape.ReducesTo.fold_fiber_r5_a4, hinit]
  exact fold_max_real hn _ fun k => hx _

/-- A kernel's maximum along the rows of a matrix of finite numbers is finite. -/
theorem row_max_real {n0 n1 : ℕ} {t : Shape} (hn : 0 < n1) (x : FVec Ideal ⟨2, ![n0, n1]⟩ .f32)
    (h : (⟨2, ![n0, n1]⟩ : Shape).Reduces [1] t) (hφ : FKind.Formats .f32) (hacc : 0xFF800000#32 = FKind.maximumf.neutral .f32 hφ)
    (j : t.Idx) (hx : ∀ i, ∃ r : ℝ, x i = (r : EReal)) :
    ∃ M : ℝ, multiReduction .maximumf [1] t x 0xFF800000#32 h hφ hacc j = (M : EReal) := by
  rw [multiReduction_maximumf_eq_fold, Shape.Reduces.fold_fiber_r2_a1]
  show ∃ M : ℝ, Finset.univ.fold max (Ideal.ofBits .f32 0xFF800000#32) _ = (M : EReal)
  rw [negInf]
  exact fold_max_real hn _ fun k => hx _

end Cert.Softmax

end
-- ==== Proof.GqaLatBlock.lean ====
module

public import proofs.«01_k».proof.Proof.Gen.GqaLatIdeal.Value
public import proofs.«01_k».proof.Proof.Softmax
public import Idealize.ShloMosaic.Lib.Pipeline.ValueKit
public import Idealize.ShloMosaic.Lib.Pointwise

/-! # One grid step of the sample-side grouped attention

    What the body of `gqa_lat` leaves in its output block, as a function of its five input blocks: query rows and
    heads, keys, values beside a column block of ones, and the same for the cached keys and values. Four query heads
    share a key head and are stacked as 1024 rows. The greatest score of a row enters only through the fact that it
    is finite. -/

@[expose] public section

set_option maxRecDepth 200000

noncomputable section

namespace Cert.GqaLatIdeal.Attention

open Idealize.ShloMosaic Idealize.ShloMosaic.TcCoe Idealize.SL.Sem
open Cert.GqaLatIdeal Cert.GqaLatIdeal.Gen

/-- Scores of the stacked query rows against the sample's own keys. -/
def scores (q : FVec Ideal S1024x128 .bf16) (k : FVec Ideal S2048x128 .bf16) : FVec Ideal S1024x2048 .f32 :=
  matmul dot_S1024x128_S2048x128_S1024x2048_1_1_0_0_n_n none q k (constant S1024x2048 .f32 0x00000000#32)

/-- Scores of the stacked query rows against the cached keys. -/
def scores' (q : FVec Ideal S1024x128 .bf16) (k : FVec Ideal S512x128 .bf16) : FVec Ideal S1024x512 .f32 :=
  matmul dot_S1024x128_S512x128_S1024x512_1_1_0_0_n_n none q k (constant S1024x512 .f32 0x00000000#32)

/-- The greatest score of each row, over both key ranges. -/
def tops (s : FVec Ideal S1024x2048 .f32) (s' : FVec Ideal S1024x512 .f32) : FVec Ideal S1024x1 .f32 :=
  maximumf (shapeCast S1024x1 (multiReduction .maximumf [1] S1024 s 0xFF800000#32 reduces_S1024x2048_S1024 (.inl rfl) rfl) shapeCasts_S1024_S1024x1)
    (shapeCast S1024x1 (multiReduction .maximumf [1] S1024 s' 0xFF800000#32 reduces_S1024x512_S1024 (.inl rfl) rfl) shapeCasts_S1024_S1024x1)

/-- Weights `2 ^ (score - top)` times the values, over both key ranges. -/
def weigh (s : FVec Ideal S1024x2048 .f32) (s' : FVec Ideal S1024x512 .f32) (T : FVec Ideal S1024x1 .f32)
    (v : FVec Ideal S2048x256 .bf16) (v' : FVec Ideal S512x256 .bf16) : FVec Ideal S1024x256 .f32 :=
  addf (matmul dot_S1024x2048_S2048x256_S1024x256_1_0_0_1_n_n none
      (truncf .bf16 (exp2 (subf s (broadcastTo S1024x2048 T broadcasts_S1024x1_S1024x2048))) bitsLt_bf16_f32) v (constant S1024x256 .f32 0x00000000#32))
    (matmul dot_S1024x512_S512x256_S1024x256_1_0_0_1_n_n none
      (truncf .bf16 (exp2 (subf s' (broadcastTo S1024x512 T broadcasts_S1024x1_S1024x512))) bitsLt_bf16_f32) v' (constant S1024x256 .f32 0x00000000#32))

theorem pay8_eq (q : FVec Ideal S1024x128 .bf16) (k : FVec Ideal S2048x128 .bf16) (v : FVec Ideal S2048x256 .bf16)
    (kc : FVec Ideal S512x128 .bf16) (vc : FVec Ideal S512x256 .bf16) :
    k0_pay8 q k v kc vc = weigh (scores q k) (scores' q kc) (tops (scores q k) (scores' q kc)) v vc := rfl

theorem pay9_eq (q : FVec Ideal S1024x128 .bf16) (k : FVec Ideal S2048x128 .bf16) (v : FVec Ideal S2048x256 .bf16)
    (kc : FVec Ideal S1x512x128 .bf16) (vc : FVec Ideal S1x512x256 .bf16) :
    k0_pay9 q k v kc vc = k0_pay8 q k (k0_pay3 v) (k0_pay4 kc) (k0_pay5 vc) := rfl

theorem weigh_at (s : FVec Ideal S1024x2048 .f32) (s' : FVec Ideal S1024x512 .f32) (T : FVec Ideal S1024x1 .f32)
    (v : FVec Ideal S2048x256 .bf16) (v' : FVec Ideal S512x256 .bf16) (r : Fin 1024) (j : Fin 256) :
    weigh s s' T v v' (ix2 r j) = (∑ n : Fin 2048, Ideal.exp2 (s (ix2 r n) - T (ix2 r 0)) * v (ix2 n j))
      + ∑ n : Fin 512, Ideal.exp2 (s' (ix2 r n) - T (ix2 r 0)) * v' (ix2 n j) := by
  pointwise [weigh]
  rfl

theorem scores_at (q : FVec Ideal S1024x128 .bf16) (k : FVec Ideal S2048x128 .bf16) (r : Fin 1024) (n : Fin 2048) :
    scores q k (ix2 r n) = ∑ e : Fin 128, q (ix2 r e) * k (ix2 n e) := by
  pointwise [scores]

theorem scores'_at (q : FVec Ideal S1024x128 .bf16) (k : FVec Ideal S512x128 .bf16) (r : Fin 1024) (n : Fin 512) :
    scores' q k (ix2 r n) = ∑ e : Fin 128, q (ix2 r e) * k (ix2 n e) := by
  pointwise [scores']

/-- Finite scores have a finite greatest score. -/
theorem tops_real (s : FVec Ideal S1024x2048 .f32) (s' : FVec Ideal S1024x512 .f32) (r : Fin 1024)
    (hs : ∀ i, ∃ x : ℝ, s i = (x : EReal)) (hs' : ∀ i, ∃ x : ℝ, s' i = (x : EReal)) :
    ∃ T : ℝ, tops s s' (ix2 r 0) = (T : EReal) :=
  Softmax.max_real (Softmax.row_max_real (by decide) s _ _ _ _ hs) (Softmax.row_max_real (by decide) s' _ _ _ _ hs')

/-- The stacked rows of finite queries against finite keys: for one finite `T` per row, every column is the weighted
    sum of that column of the values. -/
theorem pay8_at (q : FVec Ideal S1024x128 .bf16) (k : FVec Ideal S2048x128 .bf16) (v : FVec Ideal S2048x256 .bf16)
    (kc : FVec Ideal S512x128 .bf16) (vc : FVec Ideal S512x256 .bf16)
    (Q : Fin 1024 → Fin 128 → ℝ) (K : Fin 2048 → Fin 128 → ℝ) (K' : Fin 512 → Fin 128 → ℝ)
    (hq : ∀ r e, q (ix2 r e) = ((Q r e : ℝ) : EReal)) (hk : ∀ n e, k (ix2 n e) = ((K n e : ℝ) : EReal))
    (hk' : ∀ n e, kc (ix2 n e) = ((K' n e : ℝ) : EReal)) (r : Fin 1024) :
    ∃ T : ℝ, ∀ j : Fin 256, k0_pay8 q k v kc vc (ix2 r j)
      = (∑ n : Fin 2048, Ideal.exp2 (((∑ e, Q r e * K n e : ℝ) : EReal) - (T : EReal)) * v (ix2 n j))
        + ∑ n : Fin 512, Ideal.exp2 (((∑ e, Q r e * K' n e : ℝ) : EReal) - (T : EReal)) * vc (ix2 n j) := by
  have hs : ∀ r n, scores q k (ix2 r n) = ((∑ e, Q r e * K n e : ℝ) : EReal) := fun r n => by
    rw [scores_at, ← Softmax.dot_real]; simp only [hq, hk]
  have hs' : ∀ r n, scores' q kc (ix2 r n) = ((∑ e, Q r e * K' n e : ℝ) : EReal) := fun r n => by
    rw [scores'_at, ← Softmax.dot_real]; simp only [hq, hk']
  obtain ⟨T, hT⟩ := tops_real (scores q k) (scores' q kc) r
    (fun i => by idx_vars i; exact ⟨_, hs _ _⟩) (fun i => by idx_vars i; exact ⟨_, hs' _ _⟩)
  refine ⟨T, fun j => ?_⟩
  rw [pay8_eq, weigh_at, hT]
  simp only [hs, hs']

/-! ## The loads -/

/-- Row `256 g + r` of the stacked queries is row `r` of head `g`, for the first key head. -/
theorem q_rows0 (x : FVec Ideal S256x1024 .bf16) (g : Fin 4) (r : Fin 256) (e : Fin 128) :
    k0_pay1 (F := Ideal) (View.ld x r0_0) (View.ld x r0_1) (View.ld x r0_2) (View.ld x r0_3) (ix2 ⟨g * 256 + r, by omega⟩ e)
      = x (ix2 r ⟨g * 128 + e, by omega⟩) := by
  fin_cases g <;> pointwise [k0_pay1] <;> split_ifs <;> first | (exfalso; omega) | blk_ext

/-- The same for the second key head. -/
theorem q_rows1 (x : FVec Ideal S256x1024 .bf16) (g : Fin 4) (r : Fin 256) (e : Fin 128) :
    k0_pay6 (F := Ideal) (View.ld x r0_8) (View.ld x r0_9) (View.ld x r0_10) (View.ld x r0_11) (ix2 ⟨g * 256 + r, by omega⟩ e)
      = x (ix2 r ⟨512 + g * 128 + e, by omega⟩) := by
  fin_cases g <;> pointwise [k0_pay6] <;> split_ifs <;> first | (exfalso; omega) | blk_ext

theorem keys0 (x : FVec Ideal S2048x256 .bf16) (n : Fin 2048) (e : Fin 128) :
    k0_pay2 (F := Ideal) (View.ld x r0_4) (ix2 n e) = x (ix2 n ⟨e, by omega⟩) := by
  pointwise [k0_pay2]

theorem keys1 (x : FVec Ideal S2048x256 .bf16) (n : Fin 2048) (e : Fin 128) :
    k0_pay7 (F := Ideal) (View.ld x r0_12) (ix2 n e) = x (ix2 n ⟨128 + e, by omega⟩) := by
  pointwise [k0_pay7]

theorem vals0 (x : FVec Ideal S2048x512 .bf16) (n : Fin 2048) (j : Fin 256) :
    k0_pay3 (F := Ideal) (View.ld x r0_5) (ix2 n j) = x (ix2 n ⟨j, by omega⟩) := by
  pointwise [k0_pay3]

theorem vals1 (x : FVec Ideal S2048x512 .bf16) (n : Fin 2048) (j : Fin 256) :
    k0_pay3 (F := Ideal) (View.ld x r0_13) (ix2 n j) = x (ix2 n ⟨256 + j, by omega⟩) := by
  pointwise [k0_pay3]

theorem keys0' (x : FVec Ideal S1x512x256 .bf16) (n : Fin 512) (e : Fin 128) :
    k0_pay4 (F := Ideal) (View.ld x r0_6) (ix2 n e) = x (ix3 0 n ⟨e, by omega⟩) := by
  pointwise [k0_pay4]

theorem keys1' (x : FVec Ideal S1x512x256 .bf16) (n : Fin 512) (e : Fin 128) :
    k0_pay4 (F := Ideal) (View.ld x r0_14) (ix2 n e) = x (ix3 0 n ⟨128 + e, by omega⟩) := by
  pointwise [k0_pay4]

theorem vals0' (x : FVec Ideal S1x512x512 .bf16) (n : Fin 512) (j : Fin 256) :
    k0_pay5 (F := Ideal) (View.ld x r0_7) (ix2 n j) = x (ix3 0 n ⟨j, by omega⟩) := by
  pointwise [k0_pay5]

theorem vals1' (x : FVec Ideal S1x512x512 .bf16) (n : Fin 512) (j : Fin 256) :
    k0_pay5 (F := Ideal) (View.ld x r0_15) (ix2 n j) = x (ix3 0 n ⟨256 + j, by omega⟩) := by
  pointwise [k0_pay5]

/-! ## The output block -/

/-- The weighted sums for key head `kv`. -/
def total (x0 : FVec Ideal S256x1024 .bf16) (x1 : FVec Ideal S2048x256 .bf16) (x2 : FVec Ideal S2048x512 .bf16)
    (x3 : FVec Ideal S1x512x256 .bf16) (x4 : FVec Ideal S1x512x512 .bf16) (kv : Fin 2) : FVec Ideal S1024x256 .f32 :=
  match kv with
  | 0 => k0_pay20 (F := Ideal) x0 x1 x2 x3 x4
  | 1 => k0_pay21 (F := Ideal) x0 x1 x2 x3 x4

/-- The weighted sums of one key head over finite queries and keys. -/
theorem total_at (x0 : FVec Ideal S256x1024 .bf16) (x1 : FVec Ideal S2048x256 .bf16) (x2 : FVec Ideal S2048x512 .bf16)
    (x3 : FVec Ideal S1x512x256 .bf16) (x4 : FVec Ideal S1x512x512 .bf16)
    (Q : S256x1024.Idx → ℝ) (K : S2048x256.Idx → ℝ) (K' : S1x512x256.Idx → ℝ)
    (hq : ∀ i, x0 i = (Q i : EReal)) (hk : ∀ i, x1 i = (K i : EReal)) (hk' : ∀ i, x3 i = (K' i : EReal))
    (kv : Fin 2) (g : Fin 4) (r : Fin 256) :
    ∃ T : ℝ, ∀ j : Fin 256, total x0 x1 x2 x3 x4 kv (ix2 ⟨g * 256 + r, by omega⟩ j)
      = (∑ n : Fin 2048, Ideal.exp2 (((∑ e : Fin 128, Q (ix2 r ⟨kv * 512 + g * 128 + e, by omega⟩) * K (ix2 n ⟨kv * 128 + e, by omega⟩) : ℝ) : EReal)
            - (T : EReal)) * x2 (ix2 n ⟨kv * 256 + j, by omega⟩))
        + ∑ n : Fin 512, Ideal.exp2 (((∑ e : Fin 128, Q (ix2 r ⟨kv * 512 + g * 128 + e, by omega⟩) * K' (ix3 0 n ⟨kv * 128 + e, by omega⟩) : ℝ) : EReal)
            - (T : EReal)) * x4 (ix3 0 n ⟨kv * 256 + j, by omega⟩) := by
  have row : ∀ (R : Fin 1024), ∃ (g : Fin 4) (r : Fin 256), R = ⟨g * 256 + r, by omega⟩ := fun R =>
    ⟨⟨R / 256, by omega⟩, ⟨R % 256, by omega⟩, Fin.ext (by show (R : ℕ) = R / 256 * 256 + R % 256; omega)⟩
  fin_cases kv
  · obtain ⟨T, hT⟩ := pay8_at (k0_pay1 (F := Ideal) (View.ld x0 r0_0) (View.ld x0 r0_1) (View.ld x0 r0_2) (View.ld x0 r0_3))
      (k0_pay2 (F := Ideal) (View.ld x1 r0_4)) (k0_pay3 (F := Ideal) (View.ld x2 r0_5)) (k0_pay4 (F := Ideal) (View.ld x3 r0_6))
      (k0_pay5 (F := Ideal) (View.ld x4 r0_7))
      (fun R e => Q (ix2 ⟨R % 256, by omega⟩ ⟨R / 256 * 128 + e, by omega⟩)) (fun n e => K (ix2 n ⟨e, by omega⟩))
      (fun n e => K' (ix3 0 n ⟨e, by omega⟩))
      (fun R e => by
        obtain ⟨g, r, rfl⟩ := row R
        rw [q_rows0, hq]
        congr 2
        blk_ext)
      (fun n e => by rw [keys0, hk]) (fun n e => by rw [keys0', hk']) ⟨g * 256 + r, by omega⟩
    refine ⟨T, fun j => ?_⟩
    show k0_pay8 _ _ _ _ _ _ = _
    rw [hT j]
    simp only [vals0, vals0']
    reads_congr
    all_goals blk_ext
  · obtain ⟨T, hT⟩ := pay8_at (k0_pay6 (F := Ideal) (View.ld x0 r0_8) (View.ld x0 r0_9) (View.ld x0 r0_10) (View.ld x0 r0_11))
      (k0_pay7 (F := Ideal) (View.ld x1 r0_12)) (k0_pay3 (F := Ideal) (View.ld x2 r0_13)) (k0_pay4 (F := Ideal) (View.ld x3 r0_14))
      (k0_pay5 (F := Ideal) (View.ld x4 r0_15))
      (fun R e => Q (ix2 ⟨R % 256, by omega⟩ ⟨512 + R / 256 * 128 + e, by omega⟩)) (fun n e => K (ix2 n ⟨128 + e, by omega⟩))
      (fun n e => K' (ix3 0 n ⟨128 + e, by omega⟩))
      (fun R e => by
        obtain ⟨g, r, rfl⟩ := row R
        rw [q_rows1, hq]
        congr 2
        blk_ext)
      (fun n e => by rw [keys1, hk]) (fun n e => by rw [keys1', hk']) ⟨g * 256 + r, by omega⟩
    refine ⟨T, fun j => ?_⟩
    show k0_pay9 _ _ _ _ _ _ = _
    rw [pay9_eq]
    refine Eq.trans (hT j) ?_
    simp only [vals1, vals1']
    reads_congr
    all_goals blk_ext

/-- One head's row of the output: its weighted sums over the sum of its weights. -/
def headOut (T : Fin 2 → FVec Ideal S1024x256 .f32) (kv : Fin 2) (g : Fin 4) (r : Fin 256) (d : Fin 128) : EReal :=
  T kv (ix2 ⟨g * 256 + r, by omega⟩ ⟨d, by omega⟩) * Ideal.div 1 (T kv (ix2 ⟨g * 256 + r, by omega⟩ ⟨128 + d, by omega⟩))

/-- A stored piece that reads head `(kv', g')` at its own index reads the head the output column names. -/
theorem at_head (T : Fin 2 → FVec Ideal S1024x256 .f32) (kv' : Fin 2) (g' : Fin 4) {kv : Fin 2} {g : Fin 4} {r : Fin 256} {d : Fin 128} {v : EReal}
    (x : S256x128.Idx) (hkv : (kv : ℕ) = kv') (hg : (g : ℕ) = g') (hr : (r : ℕ) = x 0) (hd : (d : ℕ) = x 1)
    (hv : v = headOut T kv' g' ⟨x 0, (x 0).isLt⟩ ⟨x 1, (x 1).isLt⟩) : v = headOut T kv g r d := by
  obtain rfl := Fin.ext hkv
  obtain rfl := Fin.ext hg
  rw [hv]
  congr 1
  · exact Fin.ext hr.symm
  · exact Fin.ext hd.symm

/-- The output block: each head's weighted sums over the sum of the weights. -/
theorem out_at (x0 : FVec Ideal S256x1024 .bf16) (x1 : FVec Ideal S2048x256 .bf16) (x2 : FVec Ideal S2048x512 .bf16)
    (x3 : FVec Ideal S1x512x256 .bf16) (x4 : FVec Ideal S1x512x512 .bf16) (y : S256x1024.Idx)
    (kv : Fin 2) (g : Fin 4) (r : Fin 256) (d : Fin 128) (e0 : (y 0 : ℕ) = r) (e1 : (y 1 : ℕ) = kv * 512 + g * 128 + d) :
    out0_5 (F := Ideal) x0 x1 x2 x3 x4 y
      = headOut (total x0 x1 x2 x3 x4) kv g r d := by
  unfold out0_5
  canon_tiles x h
  · exact at_head _ 1 3 x (by omega) (by omega) (by omega) (by omega) (by pointwise [k0_pay19, k0_pay11, headOut, total])
  · exact at_head _ 1 2 x (by omega) (by omega) (by omega) (by omega) (by pointwise [k0_pay18, k0_pay11, headOut, total])
  · exact at_head _ 1 1 x (by omega) (by omega) (by omega) (by omega) (by pointwise [k0_pay17, k0_pay11, headOut, total])
  · exact at_head _ 1 0 x (by omega) (by omega) (by omega) (by omega) (by pointwise [k0_pay16, k0_pay11, headOut, total])
  · exact at_head _ 0 3 x (by omega) (by omega) (by omega) (by omega) (by pointwise [k0_pay15, k0_pay10, headOut, total])
  · exact at_head _ 0 2 x (by omega) (by omega) (by omega) (by omega) (by pointwise [k0_pay14, k0_pay10, headOut, total])
  · exact at_head _ 0 1 x (by omega) (by omega) (by omega) (by omega) (by pointwise [k0_pay13, k0_pay10, headOut, total])
  · exact at_head _ 0 0 x (by omega) (by omega) (by omega) (by omega) (by pointwise [k0_pay12, k0_pay10, headOut, total])

end Cert.GqaLatIdeal.Attention

end
-- ==== Proof.GqaLatRef.lean ====
module

public import proofs.«01_k».proof.Proof.Gen.GqaLatRefIdeal.Read
public import proofs.«01_k».proof.Proof.Softmax
public import Idealize.ShloMosaic.Lib.Pipeline.ValueKit
public import Idealize.ShloMosaic.Lib.Pointwise

/-! # The sample-side grouped attention, as the reference computes it

    One entry of the reference's result over finite queries and keys: the softmax-weighted sum over the sample's own
    2048 keys and the 512 cached ones, with some finite number subtracted from the scores. -/

@[expose] public section

set_option maxRecDepth 200000

noncomputable section

namespace Cert.GqaLatRefIdeal.Attention

open Idealize.ShloMosaic Idealize.ShloMosaic.TcCoe Idealize.SL.Sem
open Cert.GqaLatRefIdeal Cert.GqaLatRefIdeal.Gen

/-- The scale `128 ^ (-1/2)`, as the number its word names. -/
def scale : ℝ := (Ideal.ofBits .f32 0x3DB504F3#32).toReal

theorem scale_eq : Ideal.ofBits .f32 0x3DB504F3#32 = (scale : EReal) := by
  refine (EReal.coe_toReal ?_ ?_).symm <;> simp [Ideal.ofBits, Ideal.ieee, ← EReal.coe_mul, EReal.mul_eq_top, EReal.mul_eq_bot] <;> norm_num

/-- A sum over all keys is the sum over the sample's own keys and the sum over the cached ones. -/
theorem sum_keys (f : Fin 2560 → EReal) :
    ∑ n, f n = (∑ n : Fin 2048, f ⟨n, by omega⟩) + ∑ n : Fin 512, f ⟨2048 + n, by omega⟩ :=
  Fin.sum_univ_add (a := 2048) (b := 512) f

variable (x1 : FVec Ideal S2x2048x8x128 .f32) (x3 x5 : FVec Ideal S2x2048x2x128 .f32) (x6 x7 : FVec Ideal S2x1x512x2x128 .f32)

theorem own_key (b : Fin 2) (n : Fin 2048) (kv : Fin 2) (d : Fin 128) :
    Read.val_main_v1 (F := Ideal) x3 x6 (ix4 b ⟨n, by omega⟩ kv d) = x3 (ix4 b n kv d) := by
  pointwise [Read.val_main_v1, Read.val_main_v0]

theorem cached_key (b : Fin 2) (n : Fin 512) (kv : Fin 2) (d : Fin 128) :
    Read.val_main_v1 (F := Ideal) x3 x6 (ix4 b ⟨2048 + n, by omega⟩ kv d) = x6 (ix5 b 0 n kv d) := by
  pointwise [Read.val_main_v1, Read.val_main_v0]

theorem own_value (b : Fin 2) (n : Fin 2048) (kv : Fin 2) (d : Fin 128) :
    Read.val_main_v3 (F := Ideal) x5 x7 (ix4 b ⟨n, by omega⟩ kv d) = x5 (ix4 b n kv d) := by
  pointwise [Read.val_main_v3, Read.val_main_v2]

theorem cached_value (b : Fin 2) (n : Fin 512) (kv : Fin 2) (d : Fin 128) :
    Read.val_main_v3 (F := Ideal) x5 x7 (ix4 b ⟨2048 + n, by omega⟩ kv d) = x7 (ix5 b 0 n kv d) := by
  pointwise [Read.val_main_v3, Read.val_main_v2]

theorem score_at (b kv : Fin 2) (g : Fin 4) (t : Fin 2048) (n : Fin 2560) :
    Read.val_main_v8 (F := Ideal) x1 x3 x6 (ix5 b kv g t n)
      = (∑ e : Fin 128, Read.val_main_v1 (F := Ideal) x3 x6 (ix4 b n kv e) * x1 (ix4 b t ⟨kv * 4 + g, by omega⟩ e))
        * Ideal.ofBits .f32 0x3DB504F3#32 := by
  pointwise [Read.val_main_v8, Read.val_main_v7, Read.val_main_v6, Read.val_main_v5, Read.val_main_v4, Read.val_main_cst]

theorem out_at (b kv : Fin 2) (g : Fin 4) (t : Fin 2048) (d : Fin 128) :
    Read.val_main_v24 (F := Ideal) x1 x3 x5 x6 x7 (ix2 ⟨b * 2048 + t, by omega⟩ ⟨kv * 512 + g * 128 + d, by omega⟩)
      = ∑ n, Read.val_main_v3 (F := Ideal) x5 x7 (ix4 b n kv d)
          * Ideal.div (Ideal.exp (Read.val_main_v8 (F := Ideal) x1 x3 x6 (ix5 b kv g t n) - Read.val_main_v11 (F := Ideal) x1 x3 x6 (ix4 b kv g t)))
            (∑ n, Ideal.exp (Read.val_main_v8 (F := Ideal) x1 x3 x6 (ix5 b kv g t n) - Read.val_main_v11 (F := Ideal) x1 x3 x6 (ix4 b kv g t))) := by
  pointwise [Read.val_main_v24, Read.val_main_v23, Read.val_main_v22, Read.val_main_v21, Read.val_main_v20, Read.val_main_v19,
    Read.val_main_v18, Read.val_main_v17, Read.val_main_v16, Read.val_main_v15, Read.val_main_v14, Read.val_main_v13, Read.val_main_v12,
    Read.val_main_cst_2]

/-- Finite queries and keys have finite greatest scores. -/
theorem top_real (hx : ∀ i, ∃ r : ℝ, Read.val_main_v8 (F := Ideal) x1 x3 x6 i = (r : EReal)) (i : S2x2x4x2048.Idx) :
    ∃ M : ℝ, Read.val_main_v11 (F := Ideal) x1 x3 x6 i = (M : EReal) := by
  obtain ⟨M, hM⟩ : ∃ M : ℝ, Read.val_main_v9 (F := Ideal) x1 x3 x6 i = (M : EReal) :=
    Softmax.host_max_real (by decide) _ _ _ _ i (fun _ => Softmax.negInf) hx
  refine ⟨M, ?_⟩
  rw [Read.val_main_v11_apply, hM, Read.val_main_v10_apply, Read.val_main_cst_1_apply]
  show max (Ideal.ofBits .f32 0xFF800000#32) (M : EReal) = M
  rw [Softmax.negInf]
  exact max_eq_right bot_le

/-- The score of one query head against one key. -/
def score (Q : S2x2048x8x128.Idx → ℝ) (b kv : Fin 2) (g : Fin 4) (t : Fin 2048) (k : Fin 128 → ℝ) : ℝ :=
  (∑ e : Fin 128, k e * Q (ix4 b t ⟨kv * 4 + g, by omega⟩ e)) * scale

/-- One entry of the reference over finite queries and keys. -/
theorem value (Q : S2x2048x8x128.Idx → ℝ) (K : S2x2048x2x128.Idx → ℝ) (K' : S2x1x512x2x128.Idx → ℝ)
    (hq : ∀ i, x1 i = (Q i : EReal)) (hk : ∀ i, x3 i = (K i : EReal)) (hk' : ∀ i, x6 i = (K' i : EReal))
    (b kv : Fin 2) (g : Fin 4) (t : Fin 2048) :
    ∃ M : ℝ, ∀ d : Fin 128,
      Read.val_main_v24 (F := Ideal) x1 x3 x5 x6 x7 (ix2 ⟨b * 2048 + t, by omega⟩ ⟨kv * 512 + g * 128 + d, by omega⟩)
        = (∑ n : Fin 2048, x5 (ix4 b n kv d)
            * Ideal.div (Ideal.exp ((score Q b kv g t (fun e => K (ix4 b n kv e)) : EReal) - (M : EReal)))
              ((∑ n : Fin 2048, Ideal.exp ((score Q b kv g t (fun e => K (ix4 b n kv e)) : EReal) - (M : EReal)))
                + ∑ n : Fin 512, Ideal.exp ((score Q b kv g t (fun e => K' (ix5 b 0 n kv e)) : EReal) - (M : EReal))))
          + ∑ n : Fin 512, x7 (ix5 b 0 n kv d)
            * Ideal.div (Ideal.exp ((score Q b kv g t (fun e => K' (ix5 b 0 n kv e)) : EReal) - (M : EReal)))
              ((∑ n : Fin 2048, Ideal.exp ((score Q b kv g t (fun e => K (ix4 b n kv e)) : EReal) - (M : EReal)))
                + ∑ n : Fin 512, Ideal.exp ((score Q b kv g t (fun e => K' (ix5 b 0 n kv e)) : EReal) - (M : EReal))) := by
  have own : ∀ b kv g t (n : Fin 2048), Read.val_main_v8 (F := Ideal) x1 x3 x6 (ix5 b kv g t ⟨n, by omega⟩)
      = (score Q b kv g t (fun e => K (ix4 b n kv e)) : EReal) := fun b kv g t n => by
    rw [score_at, scale_eq]
    simp only [own_key, hk, hq, Softmax.dot_real, score, EReal.coe_mul]
  have cached : ∀ b kv g t (n : Fin 512), Read.val_main_v8 (F := Ideal) x1 x3 x6 (ix5 b kv g t ⟨2048 + n, by omega⟩)
      = (score Q b kv g t (fun e => K' (ix5 b 0 n kv e)) : EReal) := fun b kv g t n => by
    rw [score_at, scale_eq]
    simp only [cached_key, hk', hq, Softmax.dot_real, score, EReal.coe_mul]
  have all : ∀ i, ∃ r : ℝ, Read.val_main_v8 (F := Ideal) x1 x3 x6 i = (r : EReal) := fun i => by
    obtain ⟨b, kv, g, t, n, rfl⟩ : ∃ (b kv : Fin 2) (g : Fin 4) (t : Fin 2048) (n : Fin 2560), i = ix5 b kv g t n :=
      ⟨_, _, _, _, _, eq_ix5 i⟩
    by_cases h : (n : ℕ) < 2048
    · exact ⟨_, own _ _ _ _ ⟨n, h⟩⟩
    · have e : (⟨2048 + (⟨n - 2048, by omega⟩ : Fin 512), by omega⟩ : Fin 2560) = n :=
        Fin.ext (by show 2048 + ((n : ℕ) - 2048) = n; omega)
      have := cached b kv g t ⟨n - 2048, by omega⟩
      rw [e] at this
      exact ⟨_, this⟩
  obtain ⟨M, hM⟩ := top_real x1 x3 x6 all (ix4 b kv g t)
  refine ⟨M, fun d => ?_⟩
  rw [out_at, hM]
  simp only [sum_keys, own, cached, own_value, cached_value]

end Cert.GqaLatRefIdeal.Attention

end
-- ==== Proof.GqaLat.lean ====
module

public import proofs.«01_k».proof.Proof.GqaLatBlock
public import proofs.«01_k».proof.Proof.GqaLatRef
public import Idealize.ShloMosaic.Lib.Claim

/-! # The sample-side grouped attention: the kernel's result is the reference's

    The arrays the kernel reads, index by index in terms of the arguments; the blocks each grid point reads; and the
    result array, which is the reference's wherever the sample's queries and keys are finite. -/

@[expose] public section

set_option maxRecDepth 200000

noncomputable section

namespace Cert.GqaLatIdeal.Attention

open Idealize.ShloMosaic Idealize.ShloMosaic.TcCoe Idealize.SL.Sem
open Cert.GqaLatIdeal Cert.GqaLatIdeal.Gen

variable (m : (ℓ : Loc nD τ sig) → Buf (Elt Ideal) ℓ)

/-! ## The prepared arrays -/

theorem entry_q (c : Dev nD) (b : Fin 2) (t : Fin 2048) (h : Fin 8) (d : Fin 128) (R : Fin 12288) (C : Fin 1024)
    (hR : (R : ℕ) = 8192 + b * 2048 + t) (hC : (C : ℕ) = h * 128 + d) :
    V m c main_v22 (ix2 R C) = Ideal.div ((show EReal from m ((c : Thread nD τ).loc main_arg1) (ix4 b t h d)) * Ideal.ofBits .f32 0x3DB504F3#32)
      (Ideal.log (Ideal.ofBits .f32 0x40000000#32)) := by
  entry_read
  pointwise
  rw [dif_neg (by omega)]
  reads_congr
  all_goals blk_ext

theorem entry_k (c : Dev nD) (b : Fin 2) (t : Fin 2048) (h : Fin 2) (d : Fin 128) (R : Fin 12288) (C : Fin 256)
    (hR : (R : ℕ) = 8192 + b * 2048 + t) (hC : (C : ℕ) = h * 128 + d) :
    V m c main_v23 (ix2 R C) = m ((c : Thread nD τ).loc main_arg3) (ix4 b t h d) := by
  entry_read
  pointwise
  rw [dif_neg (by omega)]
  blk_ext

theorem entry_kc (c : Dev nD) (b : Fin 2) (t : Fin 512) (h : Fin 2) (d : Fin 128) (C : Fin 256) (hC : (C : ℕ) = h * 128 + d) :
    V m c main_v2 (ix3 b t C) = m ((c : Thread nD τ).loc main_arg6) (ix5 b 0 t h d) := by
  entry_read
  pointwise
  blk_ext

theorem entry_v (c : Dev nD) (b : Fin 2) (t : Fin 2048) (h : Fin 2) (d : Fin 128) (R : Fin 12288) (C : Fin 512)
    (hR : (R : ℕ) = 8192 + b * 2048 + t) (hC : (C : ℕ) = h * 256 + d) :
    V m c main_v27 (ix2 R C) = m ((c : Thread nD τ).loc main_arg5) (ix4 b t h d) := by
  entry_read
  pointwise
  rw [dif_pos (by omega), dif_neg (by omega)]
  blk_ext

theorem entry_ones (c : Dev nD) (h : Fin 2) (d : Fin 128) (R : Fin 12288) (C : Fin 512) (hC : (C : ℕ) = h * 256 + (128 + d)) :
    V m c main_v27 (ix2 R C) = (1 : EReal) := by
  entry_read
  pointwise
  rw [dif_neg (by omega)]

theorem entry_vc (c : Dev nD) (b : Fin 2) (t : Fin 512) (h : Fin 2) (d : Fin 128) (C : Fin 512) (hC : (C : ℕ) = h * 256 + d) :
    V m c main_v7 (ix3 b t C) = m ((c : Thread nD τ).loc main_arg7) (ix5 b 0 t h d) := by
  entry_read
  pointwise
  rw [dif_pos (by omega)]
  blk_ext

theorem entry_onesc (c : Dev nD) (b : Fin 2) (t : Fin 512) (h : Fin 2) (d : Fin 128) (C : Fin 512) (hC : (C : ℕ) = h * 256 + (128 + d)) :
    V m c main_v7 (ix3 b t C) = (1 : EReal) := by
  entry_read
  pointwise
  rw [dif_neg (by omega)]

/-! ## The blocks -/

/-- Point `t` reads query block `32 + t` (the prompt's 32 blocks come first), the keys and values of sample `t / 8`,
    and writes result block `t`. -/
theorem idx : ∀ t : Fin cfg0.N, win0_0.index t = ![32 + t.val, 0] ∧ win0_1.index t = ![4 + t.val / 8, 0]
    ∧ win0_2.index t = ![4 + t.val / 8, 0] ∧ win0_3.index t = ![t.val / 8, 0, 0] ∧ win0_4.index t = ![t.val / 8, 0, 0]
    ∧ win0_5.index t = ![t.val, 0] ∧ t.val < 16 :=
  (by decide +kernel : ∀ t : Fin grid0.N, _)

theorem block0 (c : Dev nD) (t : Fin cfg0.N) (r : Fin 256) (C : Fin 1024) (R : Fin 12288) (hR : (R : ℕ) = 8192 + t * 256 + r) :
    iblk m c 0 t (ix2 r C : S256x1024.Idx) = V m c main_v22 (ix2 R C) := by
  blk_ext [iblk, idx t]

theorem block1 (c : Dev nD) (t : Fin cfg0.N) (r : Fin 2048) (C : Fin 256) (R : Fin 12288) (hR : (R : ℕ) = 8192 + t / 8 * 2048 + r) :
    iblk m c 1 t (ix2 r C : S2048x256.Idx) = V m c main_v23 (ix2 R C) := by
  blk_ext [iblk, idx t]

theorem block2 (c : Dev nD) (t : Fin cfg0.N) (r : Fin 2048) (C : Fin 512) (R : Fin 12288) (hR : (R : ℕ) = 8192 + t / 8 * 2048 + r) :
    iblk m c 2 t (ix2 r C : S2048x512.Idx) = V m c main_v27 (ix2 R C) := by
  blk_ext [iblk, idx t]

theorem block3 (c : Dev nD) (t : Fin cfg0.N) (r : Fin 512) (C : Fin 256) (b : Fin 2) (hb : (b : ℕ) = t / 8) :
    iblk m c 3 t (ix3 0 r C : S1x512x256.Idx) = V m c main_v2 (ix3 b r C) := by
  blk_ext [iblk, idx t]

theorem block4 (c : Dev nD) (t : Fin cfg0.N) (r : Fin 512) (C : Fin 512) (b : Fin 2) (hb : (b : ℕ) = t / 8) :
    iblk m c 4 t (ix3 0 r C : S1x512x512.Idx) = V m c main_v7 (ix3 b r C) := by
  blk_ext [iblk, idx t]

/-! ## The result -/

/-- The prepared query of a finite query. -/
theorem query_real (q s : ℝ) : Ideal.div ((q : EReal) * (s : EReal)) (Ideal.log (Ideal.ofBits .f32 0x40000000#32))
    = ((q * s / Real.log 2 : ℝ) : EReal) := by
  have h2 : Ideal.ofBits .f32 0x40000000#32 = ((2 : ℝ) : EReal) := by
    simp [Ideal.ofBits, Ideal.ieee, ← EReal.coe_mul]
    norm_num [← EReal.coe_mul]
  rw [h2, Ideal.log_coe, if_neg (by norm_num), ← EReal.coe_mul, Softmax.div_real _ (Real.log_pos (by norm_num)).ne']

variable (Q : S2x2048x8x128.Idx → ℝ) (K : S2x2048x2x128.Idx → ℝ) (K' : S2x1x512x2x128.Idx → ℝ)

/-- The scaled product of a query and a key, the scale taken out of the sum. -/
theorem dot_scaled (q k : Fin 128 → ℝ) (s l : ℝ) : ∑ e, q e * s / l * k e = (∑ e, k e * q e) * s / l := by
  rw [Finset.sum_mul, Finset.sum_div]
  exact Finset.sum_congr rfl fun e _ => by ring

section Point

variable (c : Dev nD) (hq : ∀ i, m ((c : Thread nD τ).loc main_arg1) i = (Q i : EReal))
  (hk : ∀ i, m ((c : Thread nD τ).loc main_arg3) i = (K i : EReal)) (hk' : ∀ i, m ((c : Thread nD τ).loc main_arg6) i = (K' i : EReal))

include hq in
theorem query_at (t : Fin cfg0.N) (b : Fin 2) (hb : (b : ℕ) = t / 8) (r : Fin 256) (p : Fin 2048) (hp : (p : ℕ) = t % 8 * 256 + r)
    (h : Fin 8) (d : Fin 128) (C : Fin 1024) (hC : (C : ℕ) = h * 128 + d) :
    iblk m c 0 t (ix2 r C : S256x1024.Idx) = ((Q (ix4 b p h d) * GqaLatRefIdeal.Attention.scale / Real.log 2 : ℝ) : EReal) := by
  have ht : t.val < 16 := (idx t).2.2.2.2.2.2
  rw [block0 m c t r C ⟨8192 + t * 256 + r, by omega⟩ rfl, entry_q m c b p h d _ C (by show 8192 + t * 256 + (r : ℕ) = _; omega) hC,
    hq, GqaLatRefIdeal.Attention.scale_eq]
  exact query_real _ _

include hk in
theorem key_at (t : Fin cfg0.N) (b : Fin 2) (hb : (b : ℕ) = t / 8) (n : Fin 2048) (h : Fin 2) (d : Fin 128) (C : Fin 256)
    (hC : (C : ℕ) = h * 128 + d) : iblk m c 1 t (ix2 n C : S2048x256.Idx) = (K (ix4 b n h d) : EReal) := by
  have ht : t.val < 16 := (idx t).2.2.2.2.2.2
  rw [block1 m c t n C ⟨8192 + t / 8 * 2048 + n, by omega⟩ rfl, entry_k m c b n h d _ C (by show 8192 + t / 8 * 2048 + (n : ℕ) = _; omega) hC, hk]

include hk' in
theorem cached_key_at (t : Fin cfg0.N) (b : Fin 2) (hb : (b : ℕ) = t / 8) (n : Fin 512) (h : Fin 2) (d : Fin 128) (C : Fin 256)
    (hC : (C : ℕ) = h * 128 + d) : iblk m c 3 t (ix3 0 n C : S1x512x256.Idx) = (K' (ix5 b 0 n h d) : EReal) := by
  rw [block3 m c t n C b hb, entry_kc m c b n h d C hC, hk']

theorem value_at (t : Fin cfg0.N) (b : Fin 2) (hb : (b : ℕ) = t / 8) (n : Fin 2048) (h : Fin 2) (d : Fin 128) (C : Fin 512)
    (hC : (C : ℕ) = h * 256 + d) : iblk m c 2 t (ix2 n C : S2048x512.Idx) = m ((c : Thread nD τ).loc main_arg5) (ix4 b n h d) := by
  have ht : t.val < 16 := (idx t).2.2.2.2.2.2
  rw [block2 m c t n C ⟨8192 + t / 8 * 2048 + n, by omega⟩ rfl, entry_v m c b n h d _ C (by show 8192 + t / 8 * 2048 + (n : ℕ) = _; omega) hC]

theorem one_at (t : Fin cfg0.N) (n : Fin 2048) (h : Fin 2) (d : Fin 128) (C : Fin 512) (hC : (C : ℕ) = h * 256 + (128 + d)) :
    iblk m c 2 t (ix2 n C : S2048x512.Idx) = (1 : EReal) := by
  have ht : t.val < 16 := (idx t).2.2.2.2.2.2
  rw [block2 m c t n C ⟨8192 + t / 8 * 2048 + n, by omega⟩ rfl, entry_ones m c h d _ C hC]

theorem cached_value_at (t : Fin cfg0.N) (b : Fin 2) (hb : (b : ℕ) = t / 8) (n : Fin 512) (h : Fin 2) (d : Fin 128) (C : Fin 512)
    (hC : (C : ℕ) = h * 256 + d) : iblk m c 4 t (ix3 0 n C : S1x512x512.Idx) = m ((c : Thread nD τ).loc main_arg7) (ix5 b 0 n h d) := by
  rw [block4 m c t n C b hb, entry_vc m c b n h d C hC]

theorem cached_one_at (t : Fin cfg0.N) (n : Fin 512) (h : Fin 2) (d : Fin 128) (C : Fin 512) (hC : (C : ℕ) = h * 256 + (128 + d)) :
    iblk m c 4 t (ix3 0 n C : S1x512x512.Idx) = (1 : EReal) := by
  have ht : t.val < 16 := (idx t).2.2.2.2.2.2
  rw [block4 m c t n C ⟨t / 8, by omega⟩ rfl, entry_onesc m c _ n h d C hC]

include hq hk hk' in
set_option maxHeartbeats 1000000 in
/-- One entry of the block point `t` writes back is the reference's entry at its place in the result. -/
theorem point (t : Fin cfg0.N) (y : S256x1024.Idx) :
    out0_5 (F := Ideal) (iblk m c 0 t) (iblk m c 1 t) (iblk m c 2 t) (iblk m c 3 t) (iblk m c 4 t) y
      = GqaLatRefIdeal.Read.val_main_v24 (F := Ideal) (m ((c : Thread nD τ).loc main_arg1)) (m ((c : Thread nD τ).loc main_arg3))
          (m ((c : Thread nD τ).loc main_arg5)) (m ((c : Thread nD τ).loc main_arg6)) (m ((c : Thread nD τ).loc main_arg7))
          (((cfg0.win 5).blk t).view.emb y) := by
  have ht : t.val < 16 := (idx t).2.2.2.2.2.2
  obtain ⟨r, C, rfl⟩ : ∃ (r : Fin 256) (C : Fin 1024), y = ix2 r C := ⟨_, _, eq_ix2 y⟩
  obtain ⟨kv, g, d, hC⟩ : ∃ (kv : Fin 2) (g : Fin 4) (d : Fin 128), (C : ℕ) = kv * 512 + g * 128 + d :=
    ⟨⟨C / 512, by omega⟩, ⟨C % 512 / 128, by omega⟩, ⟨C % 128, by omega⟩,
      by show (C : ℕ) = C / 512 * 512 + C % 512 / 128 * 128 + C % 128; omega⟩
  rw [show C = (⟨kv * 512 + g * 128 + d, by omega⟩ : Fin 1024) from Fin.ext hC]
  obtain ⟨b, hb⟩ : ∃ b : Fin 2, (b : ℕ) = t / 8 := ⟨⟨t / 8, by omega⟩, rfl⟩
  obtain ⟨p, hp⟩ : ∃ p : Fin 2048, (p : ℕ) = t % 8 * 256 + r := ⟨⟨t % 8 * 256 + r, by omega⟩, rfl⟩
  have hemb : ((cfg0.win 5).blk t).view.emb (ix2 r ⟨kv * 512 + g * 128 + d, by omega⟩ : S256x1024.Idx)
      = (ix2 ⟨b * 2048 + p, by omega⟩ ⟨kv * 512 + g * 128 + d, by omega⟩ : S4096x1024.Idx) := by
    blk_ext [idx t]
  rw [hemb]
  obtain ⟨M, hM⟩ := GqaLatRefIdeal.Attention.value (m ((c : Thread nD τ).loc main_arg1)) (m ((c : Thread nD τ).loc main_arg3))
    (m ((c : Thread nD τ).loc main_arg5)) (m ((c : Thread nD τ).loc main_arg6)) (m ((c : Thread nD τ).loc main_arg7)) Q K K' hq hk hk' b kv g p
  rw [hM d]
  have real0 : ∀ i : S256x1024.Idx, iblk m c 0 t i = ((show EReal from iblk m c 0 t i).toReal : EReal) := fun i => by
    obtain ⟨r, C, rfl⟩ : ∃ (r : Fin 256) (C : Fin 1024), i = ix2 r C := ⟨_, _, eq_ix2 i⟩
    rw [query_at m Q c hq t b hb r ⟨t % 8 * 256 + r, by omega⟩ rfl ⟨C / 128, by omega⟩ ⟨C % 128, by omega⟩ C
      (by show (C : ℕ) = C / 128 * 128 + C % 128; omega)]
    rfl
  have real1 : ∀ i : S2048x256.Idx, iblk m c 1 t i = ((show EReal from iblk m c 1 t i).toReal : EReal) := fun i => by
    obtain ⟨r, C, rfl⟩ : ∃ (r : Fin 2048) (C : Fin 256), i = ix2 r C := ⟨_, _, eq_ix2 i⟩
    rw [key_at m K c hk t b hb r ⟨C / 128, by omega⟩ ⟨C % 128, by omega⟩ C (by show (C : ℕ) = C / 128 * 128 + C % 128; omega)]
    rfl
  have real3 : ∀ i : S1x512x256.Idx, iblk m c 3 t i = ((show EReal from iblk m c 3 t i).toReal : EReal) := fun i => by
    obtain ⟨z, r, C, rfl⟩ : ∃ (z : Fin 1) (r : Fin 512) (C : Fin 256), i = ix3 z r C := ⟨_, _, _, eq_ix3 i⟩
    obtain rfl : z = 0 := Subsingleton.elim _ _
    rw [cached_key_at m K' c hk' t b hb r ⟨C / 128, by omega⟩ ⟨C % 128, by omega⟩ C (by show (C : ℕ) = C / 128 * 128 + C % 128; omega)]
    rfl
  obtain ⟨T, hT⟩ := total_at (iblk m c 0 t) (iblk m c 1 t) (iblk m c 2 t) (iblk m c 3 t) (iblk m c 4 t) _ _ _ real0 real1 real3 kv g r
  have own : ∀ n : Fin 2048, (∑ e : Fin 128, (show EReal from iblk m c 0 t (ix2 r ⟨kv * 512 + g * 128 + e, by omega⟩ : S256x1024.Idx)).toReal
      * (show EReal from iblk m c 1 t (ix2 n ⟨kv * 128 + e, by omega⟩ : S2048x256.Idx)).toReal)
      = GqaLatRefIdeal.Attention.score Q b kv g p (fun e => K (ix4 b n kv e)) / Real.log 2 := fun n => by
    rw [GqaLatRefIdeal.Attention.score, ← dot_scaled]
    refine Finset.sum_congr rfl fun e _ => ?_
    rw [query_at m Q c hq t b hb r p hp ⟨kv * 4 + g, by omega⟩ e _ (by show (kv : ℕ) * 512 + g * 128 + e = (kv * 4 + g) * 128 + e; omega),
      key_at m K c hk t b hb n kv e _ rfl]
    rfl
  have cached : ∀ n : Fin 512, (∑ e : Fin 128, (show EReal from iblk m c 0 t (ix2 r ⟨kv * 512 + g * 128 + e, by omega⟩ : S256x1024.Idx)).toReal
      * (show EReal from iblk m c 3 t (ix3 0 n ⟨kv * 128 + e, by omega⟩ : S1x512x256.Idx)).toReal)
      = GqaLatRefIdeal.Attention.score Q b kv g p (fun e => K' (ix5 b 0 n kv e)) / Real.log 2 := fun n => by
    rw [GqaLatRefIdeal.Attention.score, ← dot_scaled]
    refine Finset.sum_congr rfl fun e _ => ?_
    rw [query_at m Q c hq t b hb r p hp ⟨kv * 4 + g, by omega⟩ e _ (by show (kv : ℕ) * 512 + g * 128 + e = (kv * 4 + g) * 128 + e; omega),
      cached_key_at m K' c hk' t b hb n kv e _ rfl]
    rfl
  rw [out_at _ _ _ _ _ _ kv g r d rfl rfl, headOut, hT ⟨d, by omega⟩, hT ⟨128 + d, by omega⟩]
  have vs : ∀ n : Fin 2048, iblk m c 2 t (ix2 n ⟨kv * 256 + d, by omega⟩ : S2048x512.Idx) = m ((c : Thread nD τ).loc main_arg5) (ix4 b n kv d) :=
    fun n => value_at m c t b hb n kv d _ rfl
  have vs' : ∀ n : Fin 512, iblk m c 4 t (ix3 0 n ⟨kv * 256 + d, by omega⟩ : S1x512x512.Idx) = m ((c : Thread nD τ).loc main_arg7) (ix5 b 0 n kv d) :=
    fun n => cached_value_at m c t b hb n kv d _ rfl
  have os : ∀ n : Fin 2048, iblk m c 2 t (ix2 n ⟨kv * 256 + (128 + d), by omega⟩ : S2048x512.Idx) = (1 : EReal) :=
    fun n => one_at m c t n kv d _ rfl
  have os' : ∀ n : Fin 512, iblk m c 4 t (ix3 0 n ⟨kv * 256 + (128 + d), by omega⟩ : S1x512x512.Idx) = (1 : EReal) :=
    fun n => cached_one_at m c t n kv d _ rfl
  simp only [own, cached, vs, vs', os, os']
  exact Softmax.attend (by decide) _ _ _ _ T M

include hq hk hk' in
/-- The result array is the reference's. -/
theorem final : (dats m 0 c).arrAt 5 cfg0.N = GqaLatRefIdeal.Read.val_main_v24 (F := Ideal) (m ((c : Thread nD τ).loc main_arg1))
    (m ((c : Thread nD τ).loc main_arg3)) (m ((c : Thread nD τ).loc main_arg5)) (m ((c : Thread nD τ).loc main_arg6))
    (m ((c : Thread nD τ).loc main_arg7)) :=
  (dats m 0 c).arrAt_eq_of_covers 5 _ (by decide +kernel) fun t _ y => by
    blk_simp
    rw [after0_5]
    exact point m Q K K' c hq hk hk' t y

end Point

end Cert.GqaLatIdeal.Attention

end
-- ==== Proof.Finite.lean ====
module

public import Idealize.ShloMosaic.Lib.StableHlo
public import Idealize.ShloMosaic.Lib.ReduceAll
public import Idealize.ShloMosaic.PureOps
public import Idealize.ShloMosaic.PureOps.Ideal
public import Idealize.ShloMosaic.PureOps.Ideal.Laws

/-! # What a finiteness test says

    A precondition tests `|x| < inf` of every element of an array and folds the answers by `and`. Where the fold is 1,
    every element is a real number. -/

@[expose] public section

noncomputable section

namespace Cert.Finite

open Idealize.ShloMosaic

theorem inf_eq : Ideal.ofBits .f32 0x7F800000#32 = (⊤ : EReal) := by
  simp [Ideal.ofBits, Ideal.ieee]

/-- A number whose absolute value is less than `⊤` is real. -/
theorem real_of_abs_lt (x : EReal) (h : max x (-x) < ⊤) : x = (x.toReal : EReal) := by
  refine (EReal.coe_toReal ?_ ?_).symm
  · rintro rfl; simp at h
  · rintro rfl; simp at h

/-- Every element of an array that passes the test is real. -/
theorem real_of_all {s t u : Shape} [Subsingleton t.Idx] {axes : List (Fin s.rank)} (x y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) :
    x i = ((show EReal from x i).toReal : EReal) := by
  have h1 := Host.reduce_andi_all _ init h hu j e i
  have h2 : Ideal.cmp .olt (max (x i) (-(x i))) (y i) = 1#1 := h1
  rw [hy, inf_eq] at h2
  refine real_of_abs_lt _ ?_
  by_contra hn
  simp [Ideal.cmp, hn] at h2

end Cert.Finite

end
-- ==== Proof.GqaLatClaim.lean ====
module

public import proofs.«01_k».proof.Defs
public import proofs.«01_k».proof.Proof.GqaLat
public import proofs.«01_k».proof.Proof.Finite
public import proofs.«01_k».proof.Proof.Gen.GqaLatRefIdeal.Run
public import Idealize.ShloMosaic.Lib.Claim
public import Idealize.ShloMosaic.Adequacy
public import Idealize.ShloMosaic.Init

/-! # The sample-side grouped attention: its value claim -/

@[expose] public section

set_option maxRecDepth 200000

noncomputable section

namespace Cert.Proof.GqaLat

open Idealize.ShloMosaic Idealize.SL.Sem

instance facts : Cert.Pre_gqa_lat_finite.Facts where
  bcast_S_S2x2048x8x128 := by decide
  reducesTo_S2x2048x8x128_S_d0_1_2_3 := by decide
  h_S_ := by decide
  bcast_S_S2x2048x2x128 := by decide
  reducesTo_S2x2048x2x128_S_d0_1_2_3 := by decide
  bcast_S_S2x1x512x2x128 := by decide
  reducesTo_S2x1x512x2x128_S_d0_1_2_3_4 := by decide

/-- The precondition: the sample's queries and keys and the cached keys are real. -/
theorem finite (x0 x1 x2 x3 x4 x5 x6 x7) (h : Cert.Pre_gqa_lat_finite.fn (F := Ideal) x0 x1 x2 x3 x4 x5 x6 x7 = fun _ => 1#1) :
    (∀ i, x1 i = ((show EReal from x1 i).toReal : EReal)) ∧ (∀ i, x3 i = ((show EReal from x3 i).toReal : EReal))
      ∧ ∀ i, x6 i = ((show EReal from x6 i).toReal : EReal) := by
  have : Subsingleton Cert.Pre_gqa_lat_finite.S_.Idx := ⟨fun a b => funext fun k => k.elim0⟩
  have h0 := congrFun h fun k => k.elim0
  simp only [Cert.Pre_gqa_lat_finite.fn] at h0
  obtain ⟨h1, h6⟩ := IntOp.andi_eq_one.1 h0
  obtain ⟨h1, h3⟩ := IntOp.andi_eq_one.1 h1
  exact ⟨Finite.real_of_all _ _ (fun _ => rfl) _ _ _ _ h1, Finite.real_of_all _ _ (fun _ => rfl) _ _ _ _ h3,
    Finite.real_of_all _ _ (fun _ => rfl) _ _ _ _ h6⟩

/-- The reference's run leaves its arguments alone. -/
theorem frame_ref : Cert.quiescent_GqaLatRefIdeal (hGqaLatRefIdeal := Cert.GqaLatRefIdeal.Gen.facts) := fun m g _ =>
  (θ_run Cert.GqaLatRefIdeal.defs _ _).mono (fun r h => ⟨fun c => (h c).2, sem_eq_zero_of_no_sems (by decide) r.2⟩)
    (Cert.GqaLatRefIdeal.Value.run m g)

theorem algebraic : Cert.algebraic_GqaLatIdeal_GqaLatRefIdeal_pre_gqa_lat_finite
    (hGqaLatIdeal := Cert.GqaLatIdeal.Gen.facts) (hGqaLatRefIdeal := Cert.GqaLatRefIdeal.Gen.facts) (hPre_gqa_lat_finite := facts) := by
  intro m g m' g' hpre hagree
  refine ⟨fun c => (Cert.GqaLatIdeal.Gen.dats m 0 c).arrAt 5 Cert.GqaLatIdeal.cfg0.N, Cert.GqaLatIdeal.Value.run_blocks m g,
    (θ_run Cert.GqaLatRefIdeal.defs _ _).mono (fun r h c => ⟨?_, (h c).2⟩) (Cert.GqaLatRefIdeal.Value.run m' g')⟩
  rw [(h c).1, Cert.GqaLatRefIdeal.Read.val_main_v24_eq]
  obtain ⟨hq, hk, hk'⟩ := finite _ _ _ _ _ _ _ _ (hpre c)
  obtain ⟨-, a1, -, a3, -, a5, a6, a7⟩ := hagree c
  rw [a1, a3, a5, a6, a7]
  exact (Cert.GqaLatIdeal.Attention.final m _ _ _ c hq hk hk').symm

end Cert.Proof.GqaLat

end
-- ==== Proof.DownBody.lean ====
/- What one grid point of the experts' down projection does to its memory: the weights of a new expert are
   rounded piece by piece into the scratch memory when the point's first-flag is set, and the output block is the
   product of the activations with the scratch memory, or zero, as the point's valid-flag says. -/
module

public import proofs.«01_k».proof.Proof.Gen.DownIdeal.Launch
public import proofs.«01_k».proof.Proof.Gen.DownIdeal.Skeleton
public import proofs.«01_k».proof.Proof.Gen.DownIdeal.Loops
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Claim
public import Idealize.ShloMosaic.Lib.Ring
public import Idealize.ShloMosaic.Lib.Tactic

@[expose] public section

set_option maxRecDepth 16384

noncomputable section

namespace Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An expert's weight block, every number rounded to bfloat16: what the scratch memory holds while the expert's
tiles are processed. -/
def rounded (x : Vec F S1x3584x1024 .f32) : Vec F S3584x1024 .bf16 :=
  truncf .bf16 (fun y : S3584x1024.Idx => x (ix3 0 (y 0) (y 1)) : FVec F S3584x1024 .f32) Gen.bitsLt_bf16_f32

/-- The word a scalar table holds at an offset. -/
abbrev wordAt (c : Dev nD) (M : Memref sig .tc .smem S56 .i32) (f : Buf (Elt F) (M.view.loc (c : Thread nD τ))) (off : Fin 1 → ℕ)
    (h : ∀ a, off a + S1.size a ≤ S56.size a) : BitVec 32 :=
  (M.access (Rect.unit (s := S56) off S1.size h)).read (Elt F) f (Shape.Idx.first (Gen.numel1_S1.symm ▸ Nat.one_pos))

theorem cond2_of_one {w : BitVec 32} (h : w = 1#32) : k0_cond2 w = 1#1 := by subst h; decide

theorem cond2_of_ne {w : BitVec 32} (h : w ≠ 1#32) : ¬ k0_cond2 w = 1#1 := by
  have h' : IntOp.cmpi .eq w 1#32 = 0#1 := by
    show BitVec.ofBool (w == 1#32) = 0#1
    rw [beq_false_of_ne h]; rfl
  show ¬ IntOp.cmpi .ne (BitVec.setWidth 32 (IntOp.cmpi .eq w 1#32)) 0#32 = 1#1
  rw [h']; decide

theorem cond3_of_one {w : BitVec 32} (h : w = 1#32) : ¬ k0_cond3 w = 1#1 := by subst h; decide

theorem cond3_of_zero {w : BitVec 32} (h : w = 0#32) : k0_cond3 w = 1#1 := by subst h; decide

theorem off2_eq : ∀ k : Fin k0_t1_loop.trips, k0_off2 k = ![0, 256 * k.val, 0] := by decide +kernel
theorem off3_eq : ∀ k : Fin k0_t1_loop.trips, k0_off3 k = ![256 * k.val, 0] := by decide +kernel

section Loop

variable (𝒱 : Variants) (c : Dev nD) (bd : Option 𝒱.V) (i : grid0.Coords) (arg1 : Memref sig .tc .smem S56 .i32) (harg1 : arg1.IsWhole) (arg2 : Memref sig .tc .smem S56 .i32) (harg2 : arg2.IsWhole) (arg3 : Memref sig .tc .smem S56 .i32) (harg3 : arg3.IsWhole) (arg4 : Memref sig .tc .smem S56 .i32) (harg4 : arg4.IsWhole) (arg5 : Memref sig .tc .vmem S512x3584 .bf16) (harg5 : arg5.IsWhole) (arg6 : Memref sig .tc .vmem S1x3584x1024 .f32) (harg6 : arg6.IsWhole) (arg7 : Memref sig .tc .vmem S512x1024 .f32) (harg7 : arg7.IsWhole) (arg8 : Memref sig .tc .vmem S3584x1024 .bf16) (harg8 : arg8.IsWhole)
  (X : BufTy.Contents (Elt F) arg6.view.ty) (G : BufTy.Contents (Elt F) arg8.view.ty)

/-- One trip stores one piece: 256 rows of the block, rounded. -/
theorem trip_pieces (k : Fin k0_t1_loop.trips) :
    tripL_k0_t1 (F := F) 𝒱 c bd i arg1 harg1 arg2 harg2 arg3 harg3 arg4 harg4 arg5 harg5 arg6 harg6 arg7 harg7 arg8 harg8 X k
      = [⟨Rect.unit (s := S3584x1024) (k0_off3 k) S256x1024.size (Gen.k0_off3_inb k),
          k0_pay1 (View.readAt (Elt F) arg6.view (Rect.unit (s := S1x3584x1024) (k0_off2 k) S1x256x1024.size (Gen.k0_off2_inb k)).toLoadRect X)⟩] := by
  unfold tripL_k0_t1 trip_k0_t1
  rfl

/-- The piece's element at row `a` and column `b` is the block's element at the trip's row `a`, rounded. -/
theorem piece_eq (k : Fin k0_t1_loop.trips) (x : S256x1024.Idx) (y : S3584x1024.Idx)
    (h0 : (y 0).val = 256 * k.val + (x 0).val) (h1 : (y 1).val = (x 1).val) :
    k0_pay1 (View.readAt (Elt F) arg6.view (Rect.unit (s := S1x3584x1024) (k0_off2 k) S1x256x1024.size (Gen.k0_off2_inb k)).toLoadRect X) x
      = rounded (arg6.view.read (Elt F) X) y := by
  unfold k0_pay1 rounded
  pointwise
  rw [View.readAt_apply]
  refine congrArg _ (congrArg _ (funext fun a => Fin.ext ?_))
  refine Eq.trans (congrArg₂ (· + ·) (congrFun (off2_eq k) a) rfl) ?_
  match a with
  | ⟨0, _⟩ => rfl
  | ⟨1, _⟩ => exact (by show 256 * k.val + 1 * (x 0).val = (y 0).val; omega)
  | ⟨2, _⟩ => exact (by show 0 + 1 * (x 1).val = (y 1).val; omega)

/-- After the first `k` trips the rows of the trips so far hold the block's rounded. -/
theorem pieces_read (k : ℕ) (hk : k ≤ k0_t1_loop.trips) (y : S3584x1024.Idx) (hy : (y 0).val < 256 * k) :
    arg8.view.read (Elt F) (arg8.view.writes (Elt F) G
      (pb_k0_t1 (F := F) 𝒱 c bd i arg1 harg1 arg2 harg2 arg3 harg3 arg4 harg4 arg5 harg5 arg6 harg6 arg7 harg7 arg8 harg8 X k)) y
      = rounded (arg6.view.read (Elt F) X) y := by
  induction k with
  | zero => omega
  | succ k ih =>
    rw [show k + 1 = (⟨k, hk⟩ : Fin k0_t1_loop.trips).val + 1 from rfl, pb_k0_t1_succ, trip_pieces, List.singleton_append,
      View.read_writes_cons_rows (d := ![3584, 1024]) (size := S256x1024.size) _ _ _ _ _ y (off3_eq _) rfl rfl]
    split_ifs with h
    · exact piece_eq _ _ _ _ _ (by
        show (y 0).val = 256 * k + ((y 0).val - 256 * k)
        have := h.1
        change 256 * k ≤ _ at this
        omega) (by show (y 1).val = (y 1).val - 0; omega)
    · refine ih (by omega) ?_
      change ¬ (256 * k ≤ (y 0).val ∧ (y 0).val < 256 * k + 256) at h
      omega

theorem trips_eq : Scf.trips k0_t1_loop.lb k0_t1_loop.ub k0_t1_loop.st = 14 := by decide +kernel

/-- After the loop the scratch memory is the block rounded. -/
theorem scratch_read :
    arg8.view.read (Elt F) (arg8.view.writes (Elt F) G
      (pb_k0_t1 (F := F) 𝒱 c bd i arg1 harg1 arg2 harg2 arg3 harg3 arg4 harg4 arg5 harg5 arg6 harg6 arg7 harg7 arg8 harg8 X
        (Scf.trips k0_t1_loop.lb k0_t1_loop.ub k0_t1_loop.st)))
      = rounded (arg6.view.read (Elt F) X) :=
  funext fun y => pieces_read 𝒱 c bd i arg1 harg1 arg2 harg2 arg3 harg3 arg4 harg4 arg5 harg5 arg6 harg6 arg7 harg7 arg8 harg8 X G _
    le_rfl y (by
      have h : k0_t1_loop.trips = 14 := trips_eq
      rw [h]; exact (y 0).isLt)

end Loop

theorem sound_kernel (c : Dev nD) (E : Set ℕ) (i : grid0.Coords) (arg1 : Memref sig .tc .smem S56 .i32) (harg1 : arg1.IsWhole) (arg2 : Memref sig .tc .smem S56 .i32) (harg2 : arg2.IsWhole) (arg3 : Memref sig .tc .smem S56 .i32) (harg3 : arg3.IsWhole) (arg4 : Memref sig .tc .smem S56 .i32) (harg4 : arg4.IsWhole) (arg5 : Memref sig .tc .vmem S512x3584 .bf16) (harg5 : arg5.IsWhole) (arg6 : Memref sig .tc .vmem S1x3584x1024 .f32) (harg6 : arg6.IsWhole) (arg7 : Memref sig .tc .vmem S512x1024 .f32) (harg7 : arg7.IsWhole) (arg8 : Memref sig .tc .vmem S3584x1024 .bf16) (harg8 : arg8.IsWhole)
    (x0 : Vec F S512x3584 .bf16) (x1 : Vec F S1x3584x1024 .f32) (s s' : Vec F S3584x1024 .bf16) (o : Vec F S512x1024 .f32)
    (f3 : Buf (Elt F) (arg3.view.loc (c : Thread nD τ))) (f4 : Buf (Elt F) (arg4.view.loc (c : Thread nD τ)))
    (hs : (wordAt c arg3 f3 (k0_off1 i) (Gen.k0_off1_inb i) = 1#32 ∧ s' = rounded x1) ∨ (wordAt c arg3 f3 (k0_off1 i) (Gen.k0_off1_inb i) ≠ 1#32 ∧ s' = s))
    (ho : (wordAt c arg4 f4 (k0_off4 i) (Gen.k0_off4_inb i) = 1#32 ∧ o = k0_pay2 x0 s') ∨ (wordAt c arg4 f4 (k0_off4 i) (Gen.k0_off4_inb i) = 0#32 ∧ o = k0_pay3))
    (K : PUnit → sProp 𝕄) :
    iprop((arg3.view.loc (c : Thread nD τ) ↦{fullShare.right} f3) ∗ (arg4.view.loc (c : Thread nD τ) ↦{fullShare.right} f4)
        ∗ owns (c : Thread nD τ) arg5 fullShare x0 ∗ owns (c : Thread nD τ) arg6 fullShare x1 ∗ (∃ d, owns (c : Thread nD τ) arg7 fullShare d) ∗ owns (c : Thread nD τ) arg8 fullShare s
        ∗ (iprop((arg3.view.loc (c : Thread nD τ) ↦{fullShare.right} f3) ∗ (arg4.view.loc (c : Thread nD τ) ↦{fullShare.right} f4)
          ∗ owns (c : Thread nD τ) arg5 fullShare x0 ∗ owns (c : Thread nD τ) arg6 fullShare x1 ∗ owns (c : Thread nD τ) arg7 fullShare o ∗ owns (c : Thread nD τ) arg8 fullShare s') -∗ K ⟨⟩))
      ⊢ wp frame (wpE (defs₀ (F := F)) Variants.none c none) E (cc0_experts_down i arg1 harg1 arg2 harg2 arg3 harg3 arg4 harg4 arg5 harg5 arg6 harg6 arg7 harg7 arg8 harg8) K := by
  simp only [cc0_experts_down_eq_skeleton]; unfold cc0_experts_down_skel
  unfold owns
  iintro ⟨H3, H4, ⟨%g0, %hg0, H5⟩, ⟨%g1, %hg1, H6⟩, ⟨%d2, %g2, -, H7⟩, ⟨%g3, %hg3, H8⟩, Hk⟩
  subst hg0 hg1 hg3
  rcases hs with ⟨h3, rfl⟩ | ⟨h3, rfl⟩
  · have hc := cond2_of_one h3
    rcases ho with ⟨h4, rfl⟩ | ⟨h4, rfl⟩
    · have hv := cond2_of_one h4
      have hw := cond3_of_one h4
      sl_exec (disch := first | sl_exact hc | sl_exact hv | sl_exact hw)
      sl_step
      iapply Hk
      isplitl [H3]; · iexact H3
      isplitl [H4]; · iexact H4
      isplitl [H5]
      · iexists g0; isplitr; · ipureintro; rfl
        iexact H5
      isplitl [H6]
      · iexists g1; isplitr; · ipureintro; rfl
        iexact H6
      isplitl [H7]
      · iexists _; isplitr
        swap; · iexact H7
        ipureintro
        exact (View.read_writes_full _ _ _ _ _).trans (by rw [View.readAt_full, View.readAt_full, scratch_read])
      · iexists _; isplitr
        swap; · iexact H8
        ipureintro
        exact (scratch_read ..)
    · have hv := cond2_of_ne (w := wordAt c arg4 f4 (k0_off4 i) (Gen.k0_off4_inb i)) (by rw [h4]; decide)
      have hw := cond3_of_zero h4
      sl_exec (disch := first | sl_exact hc | sl_exact hv | sl_exact hw)
      sl_step
      iapply Hk
      isplitl [H3]; · iexact H3
      isplitl [H4]; · iexact H4
      isplitl [H5]
      · iexists g0; isplitr; · ipureintro; rfl
        iexact H5
      isplitl [H6]
      · iexists g1; isplitr; · ipureintro; rfl
        iexact H6
      isplitl [H7]
      · iexists _; isplitr
        swap; · iexact H7
        ipureintro
        exact (View.read_writes_full _ _ _ _ _).trans rfl
      · iexists _; isplitr
        swap; · iexact H8
        ipureintro
        exact (scratch_read ..)
  · have hc := cond2_of_ne h3
    rcases ho with ⟨h4, rfl⟩ | ⟨h4, rfl⟩
    · have hv := cond2_of_one h4
      have hw := cond3_of_one h4
      sl_exec (disch := first | sl_exact hc | sl_exact hv | sl_exact hw)
      sl_step
      iapply Hk
      isplitl [H3]; · iexact H3
      isplitl [H4]; · iexact H4
      isplitl [H5]
      · iexists g0; isplitr; · ipureintro; rfl
        iexact H5
      isplitl [H6]
      · iexists g1; isplitr; · ipureintro; rfl
        iexact H6
      isplitl [H7]
      · iexists _; isplitr
        swap; · iexact H7
        ipureintro
        exact (View.read_writes_full _ _ _ _ _).trans (by rw [View.readAt_full, View.readAt_full])
      · iexists _; isplitr
        swap; · iexact H8
        ipureintro
        exact rfl
    · have hv := cond2_of_ne (w := wordAt c arg4 f4 (k0_off4 i) (Gen.k0_off4_inb i)) (by rw [h4]; decide)
      have hw := cond3_of_zero h4
      sl_exec (disch := first | sl_exact hc | sl_exact hv | sl_exact hw)
      sl_step
      iapply Hk
      isplitl [H3]; · iexact H3
      isplitl [H4]; · iexact H4
      isplitl [H5]
      · iexists g0; isplitr; · ipureintro; rfl
        iexact H5
      isplitl [H6]
      · iexists g1; isplitr; · ipureintro; rfl
        iexact H6
      isplitl [H7]
      · iexists _; isplitr
        swap; · iexact H7
        ipureintro
        exact (View.read_writes_full _ _ _ _ _).trans rfl
      · iexists _; isplitr
        swap; · iexact H8
        ipureintro
        exact rfl

end Down

end
-- ==== Proof.DownFrame.lean ====
/- The experts' down projection up to its grid: the host operations that compute the four routing tables, the
   tables' contents as the grid finds them, the property of them the grid needs (`Good`), and each window's block
   at a grid point. -/
module

public import proofs.«01_k».proof.Proof.DownBody

@[expose] public section

set_option maxRecDepth 16384

noncomputable section

namespace Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host operations before the grid -/

/-- The host operations, stretch by stretch. -/
abbrev hostOps : List (List (HloOp τ sig (Elt F))) :=
  [hostOps0, hostOps0_1, hostOps0_2, hostOps0_3, hostOps0_4, hostOps0_5]

/-- Core `c`'s buffers when the grid is entered. -/
abbrev V (c : Dev nD) (b : Ref sig .tc) : Buf (Elt F) ((c : Thread nD τ).loc b) :=
  StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- The program up to the grid: the host operations, stretch by stretch. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps
    ⟨hostOps0_sub, hostOps0_1_sub, hostOps0_2_sub, hostOps0_3_sub, hostOps0_4_sub, hostOps0_5_sub⟩ hostOps_fresh main_chain

/-- No host operation writes the tile counts. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes the activations. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes the weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The four tables' contents when the grid is entered. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-! ## What the grid needs of the tables -/

variable (pf : pre0.Contents (Elt F))

/-- The tile of activations read at grid point `t`. -/
def tileAt (t : Fin 56) : BitVec 32 := pf 0 (ix1 t)
/-- The expert whose weights are read at grid point `t`. -/
def expertAt (t : Fin 56) : BitVec 32 := pf 1 (ix1 t)
/-- The flag of an expert's first tile. -/
def firstAt (t : Fin 56) : BitVec 32 := pf 2 (ix1 t)
/-- The flag of a tile in use. -/
def validAt (t : Fin 56) : BitVec 32 := pf 3 (ix1 t)

/-- What the grid needs of the tables: tiles and experts are inside the arrays; the valid flag is 0 or 1; a tile in
use is its own, and unless it is its expert's first the previous tile is in use and of the same expert. -/
structure Good : Prop where
  tile_lt : ∀ t, (tileAt pf t).toNat < 56
  expert_lt : ∀ t, (expertAt pf t).toNat < 8
  flag : ∀ t, validAt pf t = 1#32 ∨ validAt pf t = 0#32
  own : ∀ t, validAt pf t = 1#32 → (tileAt pf t).toNat = t.val
  carry : ∀ t : Fin 56, validAt pf t = 1#32 → firstAt pf t ≠ 1#32 →
    ∃ t' : Fin 56, t'.val + 1 = t.val ∧ validAt pf t' = 1#32 ∧ expertAt pf t' = expertAt pf t

/-- The grid point `t`'s only coordinate, as an index of a table. -/
theorem coords_val (t : Fin grid0.N) : (grid0.coords t 0).val = t.val :=
  (by decide +kernel : ∀ t : Fin grid0.N, (grid0.coords t 0).val = t.val) t

/-- A table's word at a grid point's coordinate. -/
abbrev pointOf (i : grid0.Coords) : Fin 56 := i 0

theorem emb_off1 (i : grid0.Coords) (x : (Rect.unit (s := S56) (k0_off1 i) S1.size (Gen.k0_off1_inb i)).shape.Idx) :
    (Rect.unit (s := S56) (k0_off1 i) S1.size (Gen.k0_off1_inb i)).emb x = ix1 (pointOf i) := by
  funext a
  apply Fin.ext
  match a with
  | ⟨0, _⟩ =>
    have e : k0_off1 i 0 = (i 0).val := congrFun (k0_off1_eq i) 0
    have hx : (x 0).val = 0 := by have := (x 0).isLt; change (x 0).val < 1 at this; omega
    show k0_off1 i 0 + 1 * (x 0).val = (i 0).val
    omega

theorem transform_0_eq (i : grid0.Coords) :
    cc0_transform_0 Gen.k0_off1_inb Gen.numel1_S1 (pf) i = ![(tileAt pf (pointOf i)).toNat, 0] := by
  unfold cc0_transform_0 tileAt
  rw [← emb_off1 i (Shape.Idx.first (Gen.numel1_S1.symm ▸ Nat.one_pos))]
  rfl

theorem transform_1_eq (i : grid0.Coords) :
    cc0_transform_1 Gen.k0_off1_inb Gen.numel1_S1 (pf) i = ![(expertAt pf (pointOf i)).toNat, 0, 0] := by
  unfold cc0_transform_1 expertAt
  rw [← emb_off1 i (Shape.Idx.first (Gen.numel1_S1.symm ▸ Nat.one_pos))]
  rfl

theorem Good.ok {pf : pre0.Contents (Elt F)} (h : Good pf) : ok0 (F := F) (pf) := by
  unfold ok0
  refine ⟨fun i => ⟨fun a => ?_, .inr (Affine.block_words_dvd (of_decide_eq_true rfl) (by decide))⟩,
    fun i => ⟨fun a => ?_, .inl rfl⟩⟩
  · have e := congrFun (transform_0_eq pf i) a
    have hl := h.tile_lt (pointOf i)
    refine (congrArg (fun n => (n + 1) * S512x3584.size a) e).trans_le ?_
    match a with
    | ⟨0, _⟩ => show ((tileAt pf (pointOf i)).toNat + 1) * 512 ≤ 28672; omega
    | ⟨1, _⟩ => show (0 + 1) * 3584 ≤ 3584; omega
  · have e := congrFun (transform_1_eq pf i) a
    have hl := h.expert_lt (pointOf i)
    refine (congrArg (fun n => (n + 1) * S1x3584x1024.size a) e).trans_le ?_
    match a with
    | ⟨0, _⟩ => show ((expertAt pf (pointOf i)).toNat + 1) * 1 ≤ 8; omega
    | ⟨1, _⟩ => show (0 + 1) * 3584 ≤ 3584; omega
    | ⟨2, _⟩ => show (0 + 1) * 1024 ≤ 1024; omega

/-- The tables as the grid's admissible contents. -/
abbrev adm (hG : Good pf) : (p : Fin 1) → (pcfgs (F := F) p).Adm := fun _ => ⟨pf, hG.ok⟩
/-- The pipeline at these tables. -/
abbrev cfgM (hG : Good pf) : Cfg sig Λ₀ := cfg0 (adm pf hG 0)

/-! ## The windows' blocks -/

variable (hG : Good pf) (B : (c : Dev nD) → (b : Ref sig .tc) → Buf (Elt F) ((c : Thread nD τ).loc b))

/-- Window `w`'s block at point `t`, read off its array as the grid finds it. -/
def iblk (c : Dev nD) (w : Fin (cfgM pf hG).W) (t : Fin (cfgM pf hG).N) :
    (((cfgM pf hG).win w).xblock ((cfgM pf hG).grid.coords t)).Idx → Elt F ((cfgM pf hG).win w).elt :=
  (((cfgM pf hG).win w).blk t).view.read (Elt F) (B c (Pipeline.arrRef spec0 w))

/-- A grid point as a number below 56. -/
abbrev pt (t : Fin (cfgM pf hG).N) : Fin 56 := ⟨t.val, t.isLt⟩

theorem pointOf_coords (t : Fin (cfgM pf hG).N) : pointOf ((cfgM pf hG).grid.coords t) = pt pf hG t :=
  Fin.ext (coords_val t)

theorem idx_0 (t : Fin (cfgM pf hG).N) : (win0 (adm pf hG 0) 0).index t = ![(tileAt pf (pt pf hG t)).toNat, 0] := by
  rw [← pointOf_coords]; exact transform_0_eq pf _
theorem idx_1 (t : Fin (cfgM pf hG).N) : (win0 (adm pf hG 0) 1).index t = ![(expertAt pf (pt pf hG t)).toNat, 0, 0] := by
  rw [← pointOf_coords]; exact transform_1_eq pf _

/-- The weight block of a grid point is its expert's weights. -/
theorem weights_block (c : Dev nD) (t : Fin (cfgM pf hG).N) :
    (iblk pf hG B c 1 t : Vec F S1x3584x1024 .f32)
      = fun y : S1x3584x1024.Idx => B c main_arg2 (ix3 (⟨(expertAt pf (pt pf hG t)).toNat, hG.expert_lt _⟩ : Fin 8) (y 1) (y 2)) := by
  funext (y : S1x3584x1024.Idx)
  show B c main_arg2 ((((cfgM pf hG).win 1).rect t).emb y) = _
  refine congrArg (B c main_arg2) (funext fun a => Fin.ext ?_)
  have e := congrFun (idx_1 pf hG t) a
  show (win0 (adm pf hG 0) 1).index t a * S1x3584x1024.size a + 1 * (y a).val = _
  rw [e]
  match a with
  | ⟨0, _⟩ => have := (y 0).isLt; change (y 0).val < 1 at this; show (expertAt pf (pt pf hG t)).toNat * 1 + 1 * (y 0).val = (expertAt pf (pt pf hG t)).toNat; omega
  | ⟨1, _⟩ => show 0 * 3584 + 1 * (y 1).val = (y 1).val; omega
  | ⟨2, _⟩ => show 0 * 1024 + 1 * (y 2).val = (y 2).val; omega

/-- The activation block of a grid point is the rows of its tile. -/
theorem act_block (c : Dev nD) (t : Fin (cfgM pf hG).N) :
    (iblk pf hG B c 0 t : Vec F S512x3584 .bf16)
      = fun y : S512x3584.Idx => B c main_arg1 (ix2 (⟨(tileAt pf (pt pf hG t)).toNat * 512 + (y 0).val, by
          have := hG.tile_lt (pt pf hG t); have := (y 0).isLt; change (y 0).val < 512 at this; omega⟩ : Fin 28672) (y 1)) := by
  funext (y : S512x3584.Idx)
  show B c main_arg1 ((((cfgM pf hG).win 0).rect t).emb y) = _
  refine congrArg (B c main_arg1) (funext fun a => Fin.ext ?_)
  have e := congrFun (idx_0 pf hG t) a
  show (win0 (adm pf hG 0) 0).index t a * S512x3584.size a + 1 * (y a).val = _
  rw [e]
  match a with
  | ⟨0, _⟩ => show (tileAt pf (pt pf hG t)).toNat * 512 + 1 * (y 0).val = (tileAt pf (pt pf hG t)).toNat * 512 + (y 0).val; omega
  | ⟨1, _⟩ => show 0 * 3584 + 1 * (y 1).val = (y 1).val; omega

theorem weights_block_congr (c : Dev nD) (t t' : Fin (cfgM pf hG).N) (h : expertAt pf (pt pf hG t') = expertAt pf (pt pf hG t)) :
    (iblk pf hG B c 1 t' : Vec F S1x3584x1024 .f32) = iblk pf hG B c 1 t := by
  rw [weights_block, weights_block]
  funext y
  exact congrArg (B c main_arg2) (congrArg (fun e => ix3 e (y 1) (y 2)) (Fin.ext (congrArg BitVec.toNat h)))

end Down

end
-- ==== Proof.DownRun.lean ====
/- The run of the experts' down projection, for any tables the grid can use: the scratch memory carries the rounded
   weights of the last tile's expert from one grid point to the next, and every output block is the product of its
   activations with its expert's rounded weights, or zero where the tile is not in use. -/
module

public import proofs.«01_k».proof.Proof.DownFrame

@[expose] public section

set_option maxRecDepth 16384

noncomputable section

namespace Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F)) (hG : Good pf)
  (B : (c : Dev nD) → (b : Ref sig .tc) → Buf (Elt F) ((c : Thread nD τ).loc b))

/-- The output block of a grid point. -/
def outBlock (c : Dev nD) (t : Fin (cfgM pf hG).N) : Vec F S512x1024 .f32 :=
  if validAt pf (pt pf hG t) = 1#32 then k0_pay2 (iblk pf hG B c 0 t) (rounded (iblk pf hG B c 1 t)) else k0_pay3

/-- What is known of the scratch memory before point `s`: if the point before is of a tile in use, it holds that
point's weights, rounded. -/
def Carried (c : Dev nD) (s : ℕ) (X : Vec F S3584x1024 .bf16) : Prop :=
  ∀ t : Fin (cfgM pf hG).N, t.val + 1 = s → validAt pf (pt pf hG t) = 1#32 → X = rounded (iblk pf hG B c 1 t)

/-- The table `j`'s word memory, half of it held by the body. -/
abbrev tablesHeld (c : Dev nD) : sProp 𝕄 :=
  iprop(((Memref.whole main_v32).view.loc (c : Thread nD τ) ↦{fullShare.right} pf 0)
    ∗ ((Memref.whole main_v12).view.loc (c : Thread nD τ) ↦{fullShare.right} pf 1)
    ∗ ((Memref.whole main_v37).view.loc (c : Thread nD τ) ↦{fullShare.right} pf 2)
    ∗ ((Memref.whole main_v17).view.loc (c : Thread nD τ) ↦{fullShare.right} pf 3))

theorem tablesHeld_eq (c : Dev nD) : (Pipeline.ΦT pre0 pf c : sProp 𝕄) = tablesHeld pf c := by
  unfold Pipeline.ΦT Pipeline.prefHeld
  rw [show (Finset.univ : Finset (Fin 4)) = insert 0 (insert 1 (insert 2 {3})) from by decide,
    bigSep_insert (by decide), bigSep_insert (by decide), bigSep_insert (by decide), bigSep_singleton]
  rfl

/-- The invariant before point `s`. -/
abbrev inv (c : Dev nD) (s : ℕ) : sProp 𝕄 :=
  iprop((∃ X, ⌜Carried pf hG B c s X⌝ ∗ owns (c : Thread nD τ) (Memref.whole cc0_scratch0) fullShare X)
    ∗ (∃ r : PrngReg, prngReg c r) ∗ tablesHeld pf c)

/-- The proof data: the arrays as the grid finds them; the inputs' buffers keep their blocks; the output's buffer
holds the output block. -/
def dats (_ : Fin 1) (c : Dev nD) : Dat τ (Elt F) Unit ℕ (UR sig nD τ) ℕ (cfgM pf hG) c where
  A w := B c (Pipeline.arrRef spec0 w)
  after w t := match w with
    | ⟨0, _⟩ => iblk pf hG B c 0 t
    | ⟨1, _⟩ => iblk pf hG B c 1 t
    | ⟨2, _⟩ => outBlock pf hG B c t
  Φ t := inv pf hG B c t.val
  q _ := fullShare
  owed _ := 0

theorem A_eq (c : Dev nD) (w : Fin 3) : (dats pf hG B 0 c).A w = B c (Pipeline.arrRef spec0 w) := by dsimp only [dats]

theorem after_0 (c : Dev nD) (t : Fin (cfgM pf hG).N) : (dats pf hG B 0 c).after 0 t = iblk pf hG B c 0 t := by dsimp only [dats]; rfl
theorem after_1 (c : Dev nD) (t : Fin (cfgM pf hG).N) : (dats pf hG B 0 c).after 1 t = iblk pf hG B c 1 t := by dsimp only [dats]; rfl
theorem after_2 (c : Dev nD) (t : Fin (cfgM pf hG).N) : (dats pf hG B 0 c).after 2 t = outBlock pf hG B c t := by dsimp only [dats]; rfl

theorem before_0 (c : Dev nD) (t : Fin (cfgM pf hG).N) (d) : (dats pf hG B 0 c).before 0 t d = iblk pf hG B c 0 t :=
  ((dats pf hG B 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM pf hG).N) (d) : (dats pf hG B 0 c).before 1 t d = iblk pf hG B c 1 t :=
  ((dats pf hG B 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body at a grid point -/

abbrev stage_0 (t : Fin (cfgM pf hG).N) := ((cfgM pf hG).win 0).stage ((cfgM pf hG).slots t 0)
abbrev stage_1 (t : Fin (cfgM pf hG).N) := ((cfgM pf hG).win 1).stage ((cfgM pf hG).slots t 1)
abbrev stage_2 (t : Fin (cfgM pf hG).N) := ((cfgM pf hG).win 2).stage ((cfgM pf hG).slots t 2)

/-- The body's call at a grid point. -/
def bodyAt (t : Fin (cfgM pf hG).N) :=
  cc0_experts_down (F := F) (grid0.coords t) (Memref.whole main_v32) (Memref.isWhole_whole _) (Memref.whole main_v12) (Memref.isWhole_whole _)
    (Memref.whole main_v37) (Memref.isWhole_whole _) (Memref.whole main_v17) (Memref.isWhole_whole _)
    (stage_0 pf hG t) (hstage0_0 (((cfgM pf hG).slots t 0).cast nbuf0_0))
    (stage_1 pf hG t) (hstage0_1 (((cfgM pf hG).slots t 1).cast nbuf0_1))
    (stage_2 pf hG t) (hstage0_2 (((cfgM pf hG).slots t 2).cast nbuf0_2))
    (Memref.whole cc0_scratch0) (Memref.isWhole_whole _)

/-- The word the body reads from the first-flag table. -/
theorem word_first (c : Dev nD) (t : Fin (cfgM pf hG).N) :
    wordAt (F := F) c (Memref.whole main_v37) (pf 2) (k0_off1 (grid0.coords t)) (Gen.k0_off1_inb (grid0.coords t))
      = firstAt pf (pt pf hG t) := by
  unfold firstAt
  rw [← pointOf_coords, ← emb_off1 (grid0.coords t) (Shape.Idx.first (Gen.numel1_S1.symm ▸ Nat.one_pos))]
  rfl

/-- The word the body reads from the valid-flag table. -/
theorem word_valid (c : Dev nD) (t : Fin (cfgM pf hG).N) :
    wordAt (F := F) c (Memref.whole main_v17) (pf 3) (k0_off4 (grid0.coords t)) (Gen.k0_off4_inb (grid0.coords t))
      = validAt pf (pt pf hG t) := by
  unfold validAt
  rw [← pointOf_coords, ← emb_off1 (grid0.coords t) (Shape.Idx.first (Gen.numel1_S1.symm ▸ Nat.one_pos))]
  rfl

/-- The scratch memory after a grid point. -/
def scratchAfter (c : Dev nD) (t : Fin (cfgM pf hG).N) (X : Vec F S3584x1024 .bf16) : Vec F S3584x1024 .bf16 :=
  if firstAt pf (pt pf hG t) = 1#32 then rounded (iblk pf hG B c 1 t) else X

theorem scratchAfter_valid (c : Dev nD) (t : Fin (cfgM pf hG).N) (X : Vec F S3584x1024 .bf16) (hX : Carried pf hG B c t.val X)
    (hv : validAt pf (pt pf hG t) = 1#32) : scratchAfter pf hG B c t X = rounded (iblk pf hG B c 1 t) := by
  unfold scratchAfter
  by_cases hf : firstAt pf (pt pf hG t) = 1#32
  · rw [if_pos hf]
  · rw [if_neg hf]
    obtain ⟨t', ht', hv', he⟩ := hG.carry _ hv hf
    have := hX ⟨t'.val, t'.isLt⟩ ht' hv'
    rw [this, weights_block_congr pf hG B c t ⟨t'.val, t'.isLt⟩ he]

theorem scratchAfter_carried (c : Dev nD) (t : Fin (cfgM pf hG).N) (X : Vec F S3584x1024 .bf16) (hX : Carried pf hG B c t.val X) :
    Carried pf hG B c (t.val + 1) (scratchAfter pf hG B c t X) := by
  intro t' ht' hv
  obtain rfl : t' = t := Fin.ext (by omega)
  exact scratchAfter_valid pf hG B c t' X hX hv

/-- What the body is called with at point `t`, -/
def bodyPre (c : Dev nD) (t : Fin (cfgM pf hG).N) : sProp 𝕄 :=
  iprop((dats pf hG B 0 c).Φ t.castSucc ∗ (dats pf hG B 0 c).owesAt () t.castSucc
    ∗ (∃ d, owns (c : Thread nD τ) (stage_0 pf hG t) fullShare ((dats pf hG B 0 c).before 0 t d))
    ∗ (∃ d, owns (c : Thread nD τ) (stage_1 pf hG t) fullShare ((dats pf hG B 0 c).before 1 t d))
    ∗ (∃ d, owns (c : Thread nD τ) (stage_2 pf hG t) fullShare ((dats pf hG B 0 c).before 2 t d)))

/-- and what it returns. -/
def bodyPost (c : Dev nD) (t : Fin (cfgM pf hG).N) : sProp 𝕄 :=
  iprop((dats pf hG B 0 c).Φ t.succ ∗ (dats pf hG B 0 c).owesAt () t.succ
    ∗ owns (c : Thread nD τ) (stage_0 pf hG t) fullShare ((dats pf hG B 0 c).after 0 t)
    ∗ owns (c : Thread nD τ) (stage_1 pf hG t) fullShare ((dats pf hG B 0 c).after 1 t)
    ∗ owns (c : Thread nD τ) (stage_2 pf hG t) fullShare ((dats pf hG B 0 c).after 2 t))

theorem Phi_eq (c : Dev nD) (s : Fin ((cfgM pf hG).N + 1)) : (dats pf hG B 0 c).Φ s = inv pf hG B c s.val := by dsimp only [dats]

theorem sound_body (c : Dev nD) (t : Fin (cfgM pf hG).N) :
    bodyPre pf hG B c t ⊢ wp frame (wpE (defs₀ (F := F)) Variants.none c none) Set.univ (bodyAt pf hG t) (fun _ => bodyPost pf hG B c t) := by
  unfold bodyPre bodyPost bodyAt
  simp only [before_0, before_1]
  rw [Phi_eq, Phi_eq, show (dats pf hG B 0 c).owesAt () t.succ = (dats pf hG B 0 c).owesAt () t.castSucc from rfl,
    after_0, after_1, after_2]
  iintro ⟨⟨⟨%X, %hX, HX⟩, Hr, ⟨T0, T1, T2, T3⟩⟩, Ho, ⟨%d0, H0⟩, ⟨%d1, H1⟩, ⟨%d2, H2⟩⟩
  have hX' : Carried pf hG B c t.val X := hX
  iapply (sound_kernel c Set.univ (grid0.coords t) _ _ _ _ _ _ _ _ _ _ _ _ _ _ _ _ (iblk pf hG B c 0 t) (iblk pf hG B c 1 t) X
    (scratchAfter pf hG B c t X) (outBlock pf hG B c t) (pf 2) (pf 3)
    (by
      rw [word_first]
      unfold scratchAfter
      by_cases hf : firstAt pf (pt pf hG t) = 1#32
      · exact .inl ⟨hf, if_pos hf⟩
      · exact .inr ⟨hf, if_neg hf⟩)
    (by
      rw [word_valid]
      unfold outBlock
      rcases hG.flag (pt pf hG t) with hv | hv
      · exact .inl ⟨hv, by rw [if_pos hv, scratchAfter_valid pf hG B c t X hX' hv]⟩
      · exact .inr ⟨hv, if_neg (by rw [hv]; decide)⟩) _)
  isplitl [T2]; · iexact T2
  isplitl [T3]; · iexact T3
  isplitl [H0]; · iexact H0
  isplitl [H1]; · iexact H1
  isplitl [H2]; · iexists _; iexact H2
  isplitl [HX]; · iexact HX
  iintro ⟨T2, T3, H0, H1, H2, HX⟩
  isplitl [HX Hr T0 T1 T2 T3]
  · isplitl [HX]
    · iexists _; isplitr
      swap; · iexact HX
      ipureintro
      exact scratchAfter_carried pf hG B c t X hX'
    isplitl [Hr]; · iexact Hr
    isplitl [T0]; · iexact T0
    isplitl [T1]; · iexact T1
    isplitl [T2]; · iexact T2
    iexact T3
  isplitl [Ho]; · iexact Ho
  isplitl [H0]; · iexact H0
  isplitl [H1]; · iexact H1
  iexact H2

theorem defs₀_row (t : Fin (cfgM pf hG).N) :
    defs₀ (F := F) .tc (cfgM pf hG).body ((cfgM pf hG).bodyArgs t ((cfgM pf hG).slots t)) = bodyAt pf hG t := by
  unfold defs₀; rw [Defs.onTc_tc]; rfl

/-- The output window is written at every point: its valid flag is 0 or 1. -/
theorem not_idle (t : Fin (cfgM pf hG).N) : (cfgM pf hG).idle 2 ((cfgM pf hG).grid.coords t) = false := by
  show (!(k0_cond2 (pf.atD 3 (k0_off4 (grid0.coords t))) == 1#1) && !(k0_cond3 (pf.atD 3 (k0_off5 (grid0.coords t))) == 1#1)) = false
  have e4 : (pf.atD 3 (k0_off4 (grid0.coords t)) : BitVec 32) = validAt pf (pt pf hG t) := by
    unfold Pipeline.Prefetch.Contents.atD
    have h : ∀ a : Fin (pre0.ref 3).ty.shape.rank, k0_off4 (grid0.coords t) a + 1 ≤ (pre0.ref 3).ty.shape.size a :=
      fun (a : Fin 1) => by
        obtain rfl : a = 0 := Subsingleton.elim _ _
        exact Gen.k0_off4_inb (grid0.coords t) 0
    refine (dif_pos h).trans ?_
    unfold validAt
    refine congrArg (pf 3) (funext fun a => Fin.ext ?_)
    match a with
    | ⟨0, _⟩ => exact (congrFun (k0_off1_eq (grid0.coords t)) 0).trans (coords_val t)
  have e5 : (pf.atD 3 (k0_off5 (grid0.coords t)) : BitVec 32) = validAt pf (pt pf hG t) := e4
  rw [e4, e5]
  rcases hG.flag (pt pf hG t) with hv | hv
  · rw [cond2_of_one hv]; rfl
  · rw [cond3_of_zero hv]; simp

theorem body_obligation (c : Dev nD) : BodyObligation (dats pf hG B 0 c) (defs₀ (F := F)) Variants.none () Set.univ := fun t => by
  rw [bigSep_W0, bigSep_W0, defs₀_row]
  refine triple_restated (sound_body pf hG B c t) rfl .rfl fun _ => ?_
  have h : idle0 pf 2 ((pcfg0.gridAt pf).coords t) = false := not_idle pf hG t
  simp only [h]
  exact (.rfl : bodyPost pf hG B c t ⊢ bodyPost pf hG B c t)

/-! ## The run -/

variable (m : (ℓ : Loc nD τ sig) → Buf (Elt F) ℓ) (ρ : Dev nD → PrngReg) (hT : Good (tbl m))

set_option backward.isDefEq.respectTransparency.types false in
set_option maxHeartbeats 800000 in
/-- From any memory whose tables the grid can use, the program terminates; every array of the pipeline is what the
output blocks make of it, every other buffer is as the grid found it, and every semaphore is at zero. -/
theorem run_main : θ_run defs (onTc (τ := τ) (main (F := F))) (s₀ m ρ)
    (fun r => (Pipeline.FramePost (Pipeline.pin pcfgs (adm (tbl m) hT)) (dats (tbl m) hT (V m)) 0 (V m)) r ∧ r.2.sem = fun _ => 0) :=
  Pipeline.θ_run_frameP_track (Q' := _) pcfgs (adm (tbl m) hT) (dats (tbl m) hT (V m)) (0 : Fin 1) launch0 defs₀ Variants.none m ρ main
    (hbody := fun c => (body_obligation (tbl m) hT (V m) c).loose) (hshare := fun c => (dats (tbl m) hT (V m) 0 c).share_full fun _ => rfl)
    (howed := fun _ _ => rfl) (V := V m) (hmain := hmain m Variants.none) (hA := A_eq (tbl m) hT (V m)) (hpf := V_pre m)
    (hin := fun c => by
      show iprop(Pipeline.ΦA spec0 c ∗ Pipeline.ΦT pre0 (tbl m) c) ⊢ (dats (tbl m) hT (V m) 0 c).Φ 0
      rw [Phi_eq, tablesHeld_eq]
      unfold Pipeline.ΦA
      rw [scopedRest0_eq]
      iintro ⟨⟨⟨%f, Hf⟩, Hr⟩, Ht⟩
      isplitl [Hf]
      · iexists f
        isplitr
        · ipureintro
          intro t ht; exact absurd ht (Nat.succ_ne_zero _)
        · iapply (show ((c : Thread nD τ).loc cc0_scratch0 ↦{fullShare} f : sProp 𝕄) ⊢ owns (c : Thread nD τ) (Memref.whole cc0_scratch0) fullShare f from by
            rw [owns_whole_eq]
            iintro H
            iexists f
            isplitr
            · ipureintro; rfl
            · iexact H)
          iexact Hf
      isplitl [Hr]; · iexact Hr
      iexact Ht)
    (hout := fun c => by
      show (dats (tbl m) hT (V m) 0 c).Φ (Fin.last _) ⊢ Pipeline.ΦA spec0 c
      rw [Phi_eq]
      unfold Pipeline.ΦA
      rw [scopedRest0_eq]
      iintro ⟨⟨%X, -, HX⟩, Hr, -⟩
      isplitl [HX]
      · iapply (show owns (c : Thread nD τ) (Memref.whole cc0_scratch0) fullShare X
            ⊢ iprop(∃ f : Buf (Elt F) ((c : Thread nD τ).loc cc0_scratch0), ((c : Thread nD τ).loc cc0_scratch0 ↦{fullShare} f)) from by
          rw [owns_whole_eq]
          iintro ⟨%f, -, H⟩
          iexists f
          iexact H)
        iexact HX
      · iexact Hr)

/-- The arguments end unchanged, the result is what the output blocks make of it, and every semaphore is at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v38) = (dats (tbl m) hT (V m) 0 c).arrAt 2 (cfgM (tbl m) hT).N)
      ∧ r.2.sem = fun _ => 0) :=
  (θ_run defs _ _).mono (fun r h => ⟨fun c => ⟨⟨
      ((h.1 c).2 main_arg0 (Pipeline.mem_restRefs_of main_arg0 (by decide)
        (by decide : ∀ w : Fin 3, (spec0 w).arr.view.ref ≠ main_arg0))).trans (V_main_arg0 m c),
      ((h.1 c).1 0).trans ((Dat.arrAt_in _ 0 rfl _).trans ((A_eq (tbl m) hT (V m) c 0).trans (V_main_arg1 m c))),
      ((h.1 c).1 1).trans ((Dat.arrAt_in _ 1 rfl _).trans ((A_eq (tbl m) hT (V m) c 1).trans (V_main_arg2 m c)))⟩,
      (h.1 c).1 2⟩, h.2⟩) (run_main m ρ hT)

end Down

end
-- ==== Proof.Owner.lean ====
/- Tiles handed out to eight owners in turn: owner `k` takes the `n k` tiles after those of the owners before it. -/
module

public import Idealize.ShloMosaic.Lib.Routing.Ops
public import Idealize.ShloMosaic.Lib.Routing.Words
public import Idealize.ShloMosaic.Lib.ReduceAll

@[expose] public section

noncomputable section

namespace Owner

open Idealize.ShloMosaic Idealize.ShloMosaic.Routing Idealize.ShloMosaic.ValueIdx Idealize.ShloMosaic.WordCmp
open Idealize.ShloMosaic.StableHlo.Predicate (sge_iff_toNat slt_iff_toNat sle_iff_toNat cmpi_eq_iff)

/-! ## The owner of a tile -/

/-- The first tile of owner `k`. -/
def first (n : Nat → Nat) (k : Nat) : Nat := ((List.range k).map n).sum

theorem first_succ (n : Nat → Nat) (k : Nat) : first n (k + 1) = first n k + n k := by
  simp [first, List.range_succ]

theorem first_mono (n : Nat → Nat) : Monotone (first n) :=
  monotone_nat_of_le_succ fun k => by rw [first_succ]; omega

/-- The owner of tile `t`: the number of owners whose tiles are all before `t`. -/
def owner (n : Nat → Nat) (t : Nat) : Nat := Nat.count (fun k => first n (k + 1) ≤ t) 8

theorem count_spec (n : Nat → Nat) (t N : Nat) :
    (Nat.count (fun k => first n (k + 1) ≤ t) N = N ∧ ∀ k < N, first n (k + 1) ≤ t) ∨
      ∃ c, c < N ∧ Nat.count (fun k => first n (k + 1) ≤ t) N = c ∧ t < first n (c + 1) ∧ ∀ k < c, first n (k + 1) ≤ t := by
  induction N with
  | zero => exact .inl ⟨rfl, fun k h => absurd h (by omega)⟩
  | succ N ih =>
    rw [Nat.count_succ]
    rcases ih with ⟨e, h⟩ | ⟨c, hc, e, hlt, h⟩
    · by_cases hP : first n (N + 1) ≤ t
      · refine .inl ⟨by rw [e, if_pos hP], fun k hk => ?_⟩
        rcases Nat.lt_succ_iff_lt_or_eq.1 hk with hk | rfl
        · exact h k hk
        · exact hP
      · exact .inr ⟨N, by omega, by rw [e, if_neg hP, Nat.add_zero], by omega, h⟩
    · have := first_mono n (show c + 1 ≤ N + 1 by omega)
      exact .inr ⟨c, by omega, by rw [e, if_neg (by omega), Nat.add_zero], hlt, h⟩

/-- A tile in use has an owner, and is one of its tiles. -/
theorem owner_spec {n : Nat → Nat} {t : Nat} (ht : t < first n 8) :
    owner n t < 8 ∧ first n (owner n t) ≤ t ∧ t < first n (owner n t + 1) := by
  rcases count_spec n t 8 with ⟨-, h⟩ | ⟨c, hc, e, hlt, h⟩
  · have := h 7 (by omega)
    change first n 8 ≤ t at this
    omega
  · have e' : owner n t = c := e
    rw [e']
    refine ⟨hc, ?_, hlt⟩
    rcases c with _ | c
    · exact Nat.zero_le _
    · exact h c (by omega)

/-- The owner is the only one who has the tile. -/
theorem owner_unique {n : Nat → Nat} {t c : Nat} (hc : c < 8) (h1 : first n c ≤ t) (h2 : t < first n (c + 1)) : owner n t = c := by
  have ht : t < first n 8 := lt_of_lt_of_le h2 (first_mono n (by omega))
  obtain ⟨-, g1, g2⟩ := owner_spec ht
  rcases lt_trichotomy (owner n t) c with h | h | h
  · have := first_mono n (show owner n t + 1 ≤ c by omega); omega
  · exact h
  · have := first_mono n (show c + 1 ≤ owner n t by omega); omega

/-- A tile that is not its owner's first has the owner of the tile before. -/
theorem owner_pred {n : Nat → Nat} {t : Nat} (ht : t < first n 8) (hne : t ≠ first n (owner n t)) :
    0 < t ∧ owner n (t - 1) = owner n t := by
  obtain ⟨h8, g1, g2⟩ := owner_spec ht
  exact ⟨by omega, owner_unique h8 (by omega) (by omega)⟩

/-- A row lies between an owner's first row and the next owner's, of `q` rows a tile, exactly where the owner has its tile. -/
theorem rows_iff {n : Nat → Nat} {q r k : Nat} (hq : 0 < q) (hk : k < 8) :
    (first n k * q ≤ r ∧ r < first n (k + 1) * q) ↔ r / q < first n 8 ∧ owner n (r / q) = k := by
  rw [← Nat.le_div_iff_mul_le hq, ← Nat.div_lt_iff_lt_mul hq]
  constructor
  · rintro ⟨h1, h2⟩
    exact ⟨lt_of_lt_of_le h2 (first_mono n (by omega)), owner_unique hk h1 h2⟩
  · rintro ⟨h, rfl⟩
    exact (owner_spec h).2

/-! ## Words that hold the numbers -/

/-- The numbers that a vector of eight words holds. -/
def counts (a : IVec (shape1 8) 32) (k : Nat) : Nat := if h : k < 8 then (a (ix1 (⟨k, h⟩ : Fin 8))).toNat else 0

theorem word_counts (a : IVec (shape1 8) 32) (k : Fin 8) : a (ix1 k) = BitVec.ofNat 32 (counts a k.val) := by
  rw [counts, dif_pos k.isLt]
  exact BitVec.eq_of_toNat_eq (by rw [BitVec.toNat_ofNat]; have := (a (ix1 (⟨k.val, k.isLt⟩ : Fin 8))).isLt; exact (Nat.mod_eq_of_lt this).symm)

/-- A comparison's bit is the bit of what it compares. -/
theorem bit_eq {b : BitVec 1} {p : Prop} [Decidable p] (h : b = 1#1 ↔ p) : b = BitVec.ofBool (decide p) := by
  by_cases hp : p
  · rw [h.2 hp]; simp [hp]
  · rcases BitVec.eq_zero_or_eq_one b with rfl | rfl
    · simp [hp]
    · exact absurd (h.1 rfl) hp

theorem toNat_word {x : Nat} (hx : x < 2 ^ 31) : (BitVec.ofNat 32 x).toNat = x := by
  rw [BitVec.toNat_ofNat]; omega

theorem word_inj {x y : Nat} (hx : x < 2 ^ 31) (hy : y < 2 ^ 31) : BitVec.ofNat 32 x = BitVec.ofNat 32 y ↔ x = y :=
  ⟨fun h => by have := congrArg BitVec.toNat h; rwa [toNat_word hx, toNat_word hy] at this, fun h => congrArg _ h⟩

theorem eq_bit {x y : Nat} (hx : x < 2 ^ 31) (hy : y < 2 ^ 31) :
    IntOp.cmpi .eq (BitVec.ofNat 32 x) (BitVec.ofNat 32 y) = BitVec.ofBool (decide (x = y)) :=
  bit_eq (by rw [cmpi_eq_iff, word_inj hx hy])

theorem minsi_word {x y : Nat} (hx : x < 2 ^ 31) (hy : y < 2 ^ 31) :
    IntOp.minsi (BitVec.ofNat 32 x) (BitVec.ofNat 32 y) = BitVec.ofNat 32 (min x y) := by
  unfold IntOp.minsi
  simp only [slt_ofNat32 hx hy, sle_ofNat32 hx hy, slt_ofNat32 hy hx, sle_ofNat32 hy hx]
  split <;> rename_i h <;> simp only [decide_eq_true_eq] at h <;> congr 1 <;> omega

/-- The sum over the columns of a row that holds `v` in column `e` and zero elsewhere. -/
theorem reduce_one {n : Nat} (x : IVec (shape2 n 8) 32) (h : (shape2 n 8).ReducesTo [1] (shape1 n)) (h' : (shape2 n 8).Reduces [1] (shape1 n))
    (hu : 0 < shape0.numel) (i : Fin n) (e : Nat) (he : e < 8) (v : Nat) (hv : v < 2 ^ 31)
    (hx : ∀ q : Fin 8, x (ix2 i q) = if q.val = e then BitVec.ofNat 32 v else 0#32) :
    Host.reduce IntOp.addi x (constantI shape0 32 0#32) h hu (ix1 i) = BitVec.ofNat 32 v := by
  rw [Host.reduce_eq_fold_single IntOp.addi x _ h h' hu (ix1 i)]
  have hl : ∀ q : Fin 8, h'.lift (ix1 i) q = (ix2 i q : (shape2 n 8).Idx) := fun q => by
    funext b
    match b with
    | ⟨0, _⟩ => exact Fin.ext rfl
    | ⟨1, _⟩ => exact Fin.ext rfl
  have hs : ∑ q : Fin 8, ((x ∘ h'.lift (ix1 i)) q).toNat = v := by
    rw [Finset.sum_eq_single (⟨e, he⟩ : Fin 8)]
    · show (x (h'.lift (ix1 i) (⟨e, he⟩ : Fin 8))).toNat = v
      rw [hl, hx, if_pos rfl, toNat_word hv]
    · intro q _ hq
      show (x (h'.lift (ix1 i) q)).toNat = 0
      rw [hl, hx, if_neg fun h => hq (Fin.ext h)]
      rfl
    · intro hq; exact absurd (Finset.mem_univ _) hq
  apply BitVec.eq_of_toNat_eq
  refine (StableHlo.Predicate.toNat_fold_addi (Finset.univ : Finset (Fin 8)) (x ∘ h'.lift (ix1 i)) ?_).trans ?_
  · exact lt_of_eq_of_lt hs (by omega)
  · exact hs.trans (toNat_word hv).symm

end Owner

end
-- ==== Proof.DownTables.lean ====
/- The experts' down projection: what its four routing tables hold, as functions of the experts' tile counts. -/
module

public import proofs.«01_k».proof.Proof.DownFrame
public import proofs.«01_k».proof.Proof.Owner

@[expose] public section

set_option maxRecDepth 16384

noncomputable section

namespace Down

open Cert.DownIdeal Cert.DownIdeal.Gen
open Idealize.ShloMosaic Idealize.ShloMosaic.TcCoe Idealize.ShloMosaic.Tactic
open Idealize.ShloMosaic.Routing Idealize.ShloMosaic.ValueIdx Idealize.ShloMosaic.WordCmp
open Idealize.ShloMosaic.StableHlo.Predicate (sge_iff_toNat slt_iff_toNat sle_iff_toNat cmpi_eq_iff)
open Owner

/-! ## The tables, as the host computes them -/

section
variable (a : IVec S8 32)

/-- The running totals of the counts: each expert's end. -/
def ends : IVec S8 32 :=
  Host.reduceWindow IntOp.addi ![8] ![1] ![7] ![0] a (broadcastInDim S_ ![] bcast_S_S_ (constantI S_ 32 0#32)) reduceWindows_S8_S8_w8s1p7_0 h_S_

/-- The number of all tiles. -/
def total : IVec S_ 32 := shapeCast S_ (extractStridedSlice S1 ![7] (ends a) slices_S8_S1_7) shapeCasts_S1_S_

/-- A tile's expert. -/
def expertTable : IVec S56 32 :=
  minsi (Host.reduce IntOp.addi
      (extui 32 (cmpi .sge (broadcastInDim S56x8 ![0, 1] bcast_S56x1_S56x8_0_1 (broadcastInDim S56x1 ![0] bcast_S56_S56x1_0 (iotaInDim S56 32 0)))
        (broadcastInDim S56x8 ![0, 1] bcast_S1x8_S56x8_0_1 (broadcastInDim S1x8 ![1] bcast_S8_S1x8_1 (ends a)))) natLt_1_32)
      (constantI S_ 32 0#32) reducesTo_S56x8_S56_d1 h_S_)
    (broadcastInDim S56 ![] bcast_S_S56 (constantI S_ 32 7#32))

/-- Whether a tile is in use. -/
def validTable : IVec S56 32 :=
  extui 32 (cmpi .slt (iotaInDim S56 32 0) (broadcastInDim S56 ![] bcast_S_S56 (total a))) natLt_1_32

/-- The tile read: the tile itself where it is in use, else the last in use. -/
def tileTable : IVec S56 32 :=
  select (cmpi .eq (validTable a) (broadcastInDim S56 ![] bcast_S_S56 (constantI S_ 32 1#32))) (iotaInDim S56 32 0)
    (broadcastInDim S56 ![] bcast_S_S56 (maxsi (subi (total a) (constantI S_ 32 1#32)) (constantI S_ 32 0#32)))

/-- The first tile of a tile's expert, in its expert's column. -/
def startColumns : IVec S56x8 32 :=
  select (cmpi .eq (broadcastInDim S56x8 ![0, 1] bcast_S56x1_S56x8_0_1 (broadcastInDim S56x1 ![0] bcast_S56_S56x1_0 (expertTable a)))
      (broadcastInDim S56x8 ![0, 1] bcast_S1x8_S56x8_0_1 (broadcastInDim S1x8 ![1] bcast_S8_S1x8_1 (iotaInDim S8 32 0))))
    (broadcastInDim S56x8 ![0, 1] bcast_S1x8_S56x8_0_1 (broadcastInDim S1x8 ![1] bcast_S8_S1x8_1 (subi (ends a) a)))
    (broadcastInDim S56x8 ![] bcast_S_S56x8 (constantI S_ 32 0#32))

/-- Whether a tile is its expert's first. -/
def firstTable : IVec S56 32 :=
  extui 32 (andi (cmpi .eq (validTable a) (broadcastInDim S56 ![] bcast_S_S56 (constantI S_ 32 1#32)))
    (cmpi .eq (iotaInDim S56 32 0) (Host.reduce IntOp.addi (startColumns a) (constantI S_ 32 0#32) reducesTo_S56x8_S56_d1 h_S_))) natLt_1_32

/-! ## Their words -/

variable {a} {n : Nat → Nat} (ha : ∀ k : Fin 8, a (ValueIdx.ix1 k) = BitVec.ofNat 32 (n k.val)) (hn : first n 8 ≤ 56)

include ha in
theorem ends_word (k : Fin 8) : ends a (ValueIdx.ix1 k) = BitVec.ofNat 32 (first n (k.val + 1)) :=
  cumsum1 (N := 8) (Nm1 := 7) rfl a n ha _ (bc0 bcast_S_S_ _ _) _ _ k

include ha in
theorem total_word : total a ValueIdx.ix0 = BitVec.ofNat 32 (first n 8) := by
  have hs : ∀ j : S1.Idx, extractStridedSlice S1 ![7] (ends a) slices_S8_S1_7 j = BitVec.ofNat 32 (first n 8) := fun j => by
    rw [ValueIdx.eq_ix1 j]
    have hj : (j 0).val = 0 := by have := (j 0).isLt; change (j 0).val < 1 at this; omega
    refine (slice1 (m := 8) (n := 1) 7 (ends a) slices_S8_S1_7 (j 0) (by omega)).trans ((ends_word ha _).trans ?_)
    exact congrArg (fun k => BitVec.ofNat 32 (first n (7 + k + 1))) hj
  unfold total shapeCast
  exact hs _

include hn in
theorem first_le (k : Nat) (hk : k ≤ 8) : first n k ≤ 56 := le_trans (first_mono n hk) hn

include ha hn in
theorem expert_word (t : Fin 56) : expertTable a (ValueIdx.ix1 t) = BitVec.ofNat 32 (min (owner n t.val) 7) := by
  have e := reduce_count (n := 56) (m := 8) (by norm_num)
    (cmpi .sge (broadcastInDim S56x8 ![0, 1] bcast_S56x1_S56x8_0_1 (broadcastInDim S56x1 ![0] bcast_S56_S56x1_0 (iotaInDim S56 32 0)))
        (broadcastInDim S56x8 ![0, 1] bcast_S1x8_S56x8_0_1 (broadcastInDim S1x8 ![1] bcast_S8_S1x8_1 (ends a))))
    natLt_1_32 reducesTo_S56x8_S56_d1 h_S_ t (fun k => first n (k + 1) ≤ t.val) fun q => by
      rw [cmpi_at, bcRows, bcCols, iota1_ap, ends_word ha]
      have := first_le hn (q.val + 1) (by omega)
      have := t.isLt
      rw [sge_iff_toNat (by rw [toNat_word (by omega)]; omega) (by rw [toNat_word (by omega)]; omega), toNat_word (by omega), toNat_word (by omega)]
  have hc : owner n t.val ≤ 8 := Nat.count_le _
  show IntOp.minsi _ _ = _
  rw [e, bc0]
  exact minsi_word (x := owner n t.val) (y := 7) (by omega) (by norm_num)

include ha hn in
theorem valid_word (t : Fin 56) : validTable a (ValueIdx.ix1 t) = BitVec.ofNat 32 (if t.val < first n 8 then 1 else 0) := by
  have := t.isLt
  have hb : IntOp.cmpi .slt (BitVec.ofNat 32 t.val) (BitVec.ofNat 32 (first n 8)) = 1#1 ↔ t.val < first n 8 := by
    rw [slt_iff_toNat (by rw [toNat_word (by omega)]; omega) (by rw [toNat_word (by omega)]; omega), toNat_word (by omega), toNat_word (by omega)]
  show (IntOp.cmpi .slt (iotaInDim S56 32 0 (ValueIdx.ix1 t)) (broadcastInDim S56 ![] bcast_S_S56 (total a) (ValueIdx.ix1 t))).setWidth 32 = _
  rw [iota1_ap, bc0, total_word ha,
    bit_eq hb, setWidth_ofBool]

include ha hn in
theorem valid_bit (t : Fin 56) :
    IntOp.cmpi .eq (validTable a (ValueIdx.ix1 t)) (broadcastInDim S56 ![] bcast_S_S56 (constantI S_ 32 1#32) (ValueIdx.ix1 t)) = 1#1 ↔ t.val < first n 8 := by
  rw [cmpi_eq_iff, bc0, valid_word ha hn]
  show BitVec.ofNat 32 _ = 1#32 ↔ _
  split <;> simp_all

include ha hn in
theorem tile_word (t : Fin 56) : tileTable a (ValueIdx.ix1 t) = BitVec.ofNat 32 (if t.val < first n 8 then t.val else first n 8 - 1) := by
  show Scalar.select (IntOp.cmpi .eq (validTable a (ValueIdx.ix1 t)) (broadcastInDim S56 ![] bcast_S_S56 (constantI S_ 32 1#32) (ValueIdx.ix1 t)))
    (iotaInDim S56 32 0 (ValueIdx.ix1 t))
    (broadcastInDim S56 ![] bcast_S_S56 (maxsi (subi (total a) (constantI S_ 32 1#32)) (constantI S_ 32 0#32)) (ValueIdx.ix1 t)) = _
  have e : maxsi (subi (total a) (constantI S_ 32 1#32)) (constantI S_ 32 0#32) ValueIdx.ix0 = BitVec.ofNat 32 (first n 8 - 1) := by
    refine Eq.trans ?_ (maxsi_pred (c := first n 8) (by omega))
    show IntOp.maxsi (total a ValueIdx.ix0 - 1#32) 0#32 = _
    rw [total_word ha]
  rw [bit_eq (valid_bit ha hn t), bc0, e, iota1_ap]
  by_cases h : t.val < first n 8 <;> simp [h, Scalar.select]

include ha in
theorem starts_word (k : Fin 8) : subi (ends a) a (ValueIdx.ix1 k) = BitVec.ofNat 32 (first n k.val) := by
  show ends a (ValueIdx.ix1 k) - a (ValueIdx.ix1 k) = _
  rw [ends_word ha, ha, ofNat32_sub (by rw [first_succ]; omega), first_succ, Nat.add_sub_cancel]

include ha hn in
/-- A tile in use is flagged first exactly where it is. -/
theorem first_word (t : Fin 56) (ht : t.val < first n 8) :
    firstTable a (ValueIdx.ix1 t) = BitVec.ofNat 32 (if t.val = first n (owner n t.val) then 1 else 0) := by
  obtain ⟨h8, -, -⟩ := owner_spec ht
  have hl := first_le hn (owner n t.val) (by omega)
  have e : Host.reduce IntOp.addi (startColumns a) (constantI S_ 32 0#32) reducesTo_S56x8_S56_d1 h_S_ (ValueIdx.ix1 t)
      = BitVec.ofNat 32 (first n (owner n t.val)) := by
    refine reduce_one (n := 56) (startColumns a) _ (by decide) _ t (owner n t.val) h8 _ (by omega) fun q => ?_
    show Scalar.select (IntOp.cmpi .eq (broadcastInDim S56x8 ![0, 1] _ (broadcastInDim S56x1 ![0] _ (expertTable a)) (ValueIdx.ix2 t q))
        (broadcastInDim S56x8 ![0, 1] _ (broadcastInDim S1x8 ![1] _ (iotaInDim S8 32 0)) (ValueIdx.ix2 t q)))
      (broadcastInDim S56x8 ![0, 1] _ (broadcastInDim S1x8 ![1] _ (subi (ends a) a)) (ValueIdx.ix2 t q))
      (broadcastInDim S56x8 ![] _ (constantI S_ 32 0#32) (ValueIdx.ix2 t q)) = _
    rw [bcRows, bcCols, bcCols, bc0, expert_word ha hn, iota1_ap, starts_word ha, Nat.min_eq_left (by omega),
      eq_bit (by omega) (by have := q.isLt; omega)]
    by_cases h : q.val = owner n t.val
    · simp [h, Scalar.select]
    · have h' : ¬ owner n t.val = q.val := fun e => h e.symm
      simp [h, h', Scalar.select, constantI]
  have := t.isLt
  show (IntOp.andi (IntOp.cmpi .eq (validTable a (ValueIdx.ix1 t)) (broadcastInDim S56 ![] bcast_S_S56 (constantI S_ 32 1#32) (ValueIdx.ix1 t)))
    (IntOp.cmpi .eq (iotaInDim S56 32 0 (ValueIdx.ix1 t)) (Host.reduce IntOp.addi (startColumns a) (constantI S_ 32 0#32) reducesTo_S56x8_S56_d1 h_S_ (ValueIdx.ix1 t)))).setWidth 32 = _
  have hb : IntOp.andi (IntOp.cmpi .eq (validTable a (ValueIdx.ix1 t)) (broadcastInDim S56 ![] bcast_S_S56 (constantI S_ 32 1#32) (ValueIdx.ix1 t)))
      (IntOp.cmpi .eq (BitVec.ofNat 32 t.val) (BitVec.ofNat 32 (first n (owner n t.val)))) = 1#1 ↔ t.val = first n (owner n t.val) := by
    rw [IntOp.andi_eq_one, valid_bit ha hn, cmpi_eq_iff, word_inj (by omega) (by omega)]
    exact ⟨fun h => h.2, fun h => ⟨ht, h⟩⟩
  rw [e, iota1_ap, bit_eq hb, setWidth_ofBool]

end

/-! ## The tables the grid finds -/

variable {F : FTy → Type} [FloatOps F]

section
variable (m : (ℓ : Loc nD τ sig) → Buf (Elt F) ℓ)

/-! A buffer's contents at its own type are themselves. -/

theorem to_v0 (h₁ : main_v0.ty = ⟨S8, .i32⟩) (h₂ h₃) (v : (⟨S8, .i32⟩ : BufTy).Contents (Elt F)) :
    (StableHlo.TRef.of main_v0 h₁ h₂ h₃).toBuf v = v := rfl
theorem of_arg0 (h₁ : main_arg0.ty = ⟨S8, .i32⟩) (h₂ h₃) (v : (⟨S8, .i32⟩ : BufTy).Contents (Elt F)) :
    (StableHlo.TRef.of main_arg0 h₁ h₂ h₃).ofBuf v = v := rfl
theorem to_v28 (h₁ : main_v28.ty = ⟨S56x8, .i32⟩) (h₂ h₃) (v : (⟨S56x8, .i32⟩ : BufTy).Contents (Elt F)) :
    (StableHlo.TRef.of main_v28 h₁ h₂ h₃).toBuf v = v := rfl
theorem of_v22 (h₁ : main_v22.ty = ⟨S56x8, .i1⟩) (h₂ h₃) (v : (⟨S56x8, .i1⟩ : BufTy).Contents (Elt F)) :
    (StableHlo.TRef.of main_v22 h₁ h₂ h₃).ofBuf v = v := rfl
theorem of_v27 (h₁ : main_v27.ty = ⟨S1x8, .i32⟩) (h₂ h₃) (v : (⟨S1x8, .i32⟩ : BufTy).Contents (Elt F)) :
    (StableHlo.TRef.of main_v27 h₁ h₂ h₃).ofBuf v = v := rfl
theorem of_c_3 (h₁ : main_c_3.ty = ⟨S_, .i32⟩) (h₂ h₃) (v : (⟨S_, .i32⟩ : BufTy).Contents (Elt F)) :
    (StableHlo.TRef.of main_c_3 h₁ h₂ h₃).ofBuf v = v := rfl
theorem to_v32 (h₁ : main_v32.ty = ⟨S56, .i32⟩) (h₂ h₃) (v : (⟨S56, .i32⟩ : BufTy).Contents (Elt F)) :
    (StableHlo.TRef.of main_v32 h₁ h₂ h₃).toBuf v = v := rfl
theorem of_v31 (h₁ : main_v31.ty = ⟨S56, .i1⟩) (h₂ h₃) (v : (⟨S56, .i1⟩ : BufTy).Contents (Elt F)) :
    (StableHlo.TRef.of main_v31 h₁ h₂ h₃).ofBuf v = v := rfl
theorem of_v3 (h₁ : main_v3.ty = ⟨S56, .i32⟩) (h₂ h₃) (v : (⟨S56, .i32⟩ : BufTy).Contents (Elt F)) :
    (StableHlo.TRef.of main_v3 h₁ h₂ h₃).ofBuf v = v := rfl
theorem of_v26 (h₁ : main_v26.ty = ⟨S_, .i32⟩) (h₂ h₃) (v : (⟨S_, .i32⟩ : BufTy).Contents (Elt F)) :
    (StableHlo.TRef.of main_v26 h₁ h₂ h₃).ofBuf v = v := rfl

/-- The experts' tile counts. -/
abbrev tiles : IVec S8 32 := m ((0 : Dev nD).tc.loc main_arg0)

set_option maxHeartbeats 400000 in
theorem V_expert : (V m 0 main_v12 : IVec S56 32) = expertTable (tiles m) := by
  simp only [V, hostOps, hostOps0, hostOps0_1, hostOps0_2, hostOps0_3, hostOps0_4, hostOps0_5, List.flatten_cons, List.flatten_nil, List.append_nil, List.cons_append, List.nil_append]
  entry_read
  simp only [StableHlo.TRef.ofBuf_toBuf, to_v0, of_arg0, to_v28, of_v22, of_v27, of_c_3, to_v32, of_v31, of_v3, of_v26]
  rfl

set_option maxHeartbeats 400000 in
theorem V_valid : (V m 0 main_v17 : IVec S56 32) = validTable (tiles m) := by
  simp only [V, hostOps, hostOps0, hostOps0_1, hostOps0_2, hostOps0_3, hostOps0_4, hostOps0_5, List.flatten_cons, List.flatten_nil, List.append_nil, List.cons_append, List.nil_append]
  entry_read
  simp only [StableHlo.TRef.ofBuf_toBuf, to_v0, of_arg0, to_v28, of_v22, of_v27, of_c_3, to_v32, of_v31, of_v3, of_v26]
  rfl

set_option maxHeartbeats 400000 in
theorem V_tile : (V m 0 main_v32 : IVec S56 32) = tileTable (tiles m) := by
  simp only [V, hostOps, hostOps0, hostOps0_1, hostOps0_2, hostOps0_3, hostOps0_4, hostOps0_5, List.flatten_cons, List.flatten_nil, List.append_nil, List.cons_append, List.nil_append]
  entry_read
  simp only [StableHlo.TRef.ofBuf_toBuf, to_v0, of_arg0, to_v28, of_v22, of_v27, of_c_3, to_v32, of_v31, of_v3, of_v26]
  rfl

set_option maxHeartbeats 400000 in
theorem V_first : (V m 0 main_v37 : IVec S56 32) = firstTable (tiles m) := by
  simp only [V, hostOps, hostOps0, hostOps0_1, hostOps0_2, hostOps0_3, hostOps0_4, hostOps0_5, List.flatten_cons, List.flatten_nil, List.append_nil, List.cons_append, List.nil_append]
  entry_read
  simp only [StableHlo.TRef.ofBuf_toBuf, to_v0, of_arg0, to_v28, of_v22, of_v27, of_c_3, to_v32, of_v31, of_v3, of_v26]
  rfl

theorem tbl_0 : (tbl m 0 : IVec S56 32) = tileTable (tiles m) := (rfl : (tbl m 0 : IVec S56 32) = V m 0 main_v32).trans (V_tile m)
theorem tbl_1 : (tbl m 1 : IVec S56 32) = expertTable (tiles m) := (rfl : (tbl m 1 : IVec S56 32) = V m 0 main_v12).trans (V_expert m)
theorem tbl_2 : (tbl m 2 : IVec S56 32) = firstTable (tiles m) := (rfl : (tbl m 2 : IVec S56 32) = V m 0 main_v37).trans (V_first m)
theorem tbl_3 : (tbl m 3 : IVec S56 32) = validTable (tiles m) := (rfl : (tbl m 3 : IVec S56 32) = V m 0 main_v17).trans (V_valid m)

theorem tileAt_eq (t : Fin 56) : tileAt (tbl m) t = tileTable (tiles m) (ValueIdx.ix1 t) := congrFun (tbl_0 m) (ValueIdx.ix1 t)
theorem expertAt_eq (t : Fin 56) : expertAt (tbl m) t = expertTable (tiles m) (ValueIdx.ix1 t) := congrFun (tbl_1 m) (ValueIdx.ix1 t)
theorem firstAt_eq (t : Fin 56) : firstAt (tbl m) t = firstTable (tiles m) (ValueIdx.ix1 t) := congrFun (tbl_2 m) (ValueIdx.ix1 t)
theorem validAt_eq (t : Fin 56) : validAt (tbl m) t = validTable (tiles m) (ValueIdx.ix1 t) := congrFun (tbl_3 m) (ValueIdx.ix1 t)

variable {n : Nat → Nat} (ha : ∀ k : Fin 8, tiles m (ValueIdx.ix1 k) = BitVec.ofNat 32 (n k.val)) (hn : first n 8 ≤ 56)

include ha hn in
theorem validAt_iff (t : Fin 56) : validAt (tbl m) t = 1#32 ↔ t.val < first n 8 := by
  rw [validAt_eq, valid_word ha hn]
  split <;> simp_all

include ha hn in
theorem expertAt_toNat (t : Fin 56) : (expertAt (tbl m) t).toNat = min (owner n t.val) 7 := by
  rw [expertAt_eq, expert_word ha hn, toNat_word (by omega)]

include ha hn in
/-- Where the counts fit, the tables are what the grid needs. -/
theorem good : Good (tbl m) where
  tile_lt t := by
    have := t.isLt
    rw [tileAt_eq, tile_word ha hn, toNat_word (by split <;> omega)]
    split <;> omega
  expert_lt t := by rw [expertAt_toNat m ha hn]; omega
  flag t := by
    rw [validAt_eq, valid_word ha hn]
    split
    · exact .inl rfl
    · exact .inr rfl
  own t h := by
    have := t.isLt
    rw [tileAt_eq, tile_word ha hn, if_pos ((validAt_iff m ha hn t).1 h), toNat_word (by omega)]
  carry t h hf := by
    have ht := (validAt_iff m ha hn t).1 h
    have hl := t.isLt
    have hne : t.val ≠ first n (owner n t.val) := fun e => hf (by rw [firstAt_eq, first_word ha hn t ht, if_pos e])
    obtain ⟨h0, ho⟩ := owner_pred ht hne
    refine ⟨⟨t.val - 1, by omega⟩, by show t.val - 1 + 1 = t.val; omega, (validAt_iff m ha hn _).2 (by show t.val - 1 < _; omega), ?_⟩
    rw [expertAt_eq, expertAt_eq, expert_word ha hn, expert_word ha hn]
    exact congrArg (fun x => BitVec.ofNat 32 (min x 7)) ho

end

end Down

end
-- ==== Proof.DownRef.lean ====
/- The experts' down projection's reference at an index: a row of a tile in use is the product of its activations with
   the weights of the tile's owner; every other row is zero. -/
module

public import proofs.«01_k».proof.Proof.Owner
public import proofs.«01_k».proof.Proof.Gen.DownRefIdeal.Read
public import Idealize.ShloMosaic.PureOps.Ideal
public import Idealize.ShloMosaic.PureOps.Ideal.Laws

@[expose] public section

set_option maxRecDepth 16384

noncomputable section

namespace DownRef

open Cert.DownRefIdeal Cert.DownRefIdeal.Gen Cert.DownRefIdeal.Read
open Idealize.ShloMosaic Idealize.ShloMosaic.Routing Idealize.ShloMosaic.ValueIdx Idealize.ShloMosaic.WordCmp
open Idealize.ShloMosaic.StableHlo.Predicate (slt_iff_toNat sle_iff_toNat)
open Owner

variable {x0 : IVec S8 32} {n : Nat → Nat} (ha : ∀ k : Fin 8, x0 (ValueIdx.ix1 k) = BitVec.ofNat 32 (n k.val)) (hn : first n 8 ≤ 56)

include ha in
theorem ends_word (i : S8.Idx) : val_main_v0 (F := Ideal) x0 i = BitVec.ofNat 32 (first n ((i 0).val + 1)) := by
  rw [ValueIdx.eq_ix1 i]
  exact cumsum1 (N := 8) (Nm1 := 7) rfl x0 n ha _ (bc0 bcast_S_S_ _ _) _ _ (i 0)

theorem row_word (i : S28672x1.Idx) : val_main_v2 (F := Ideal) i = BitVec.ofNat 32 (i 0).val := by
  rw [val_main_v2_apply, val_main_v1_apply]

include ha in
theorem start_word (i : S8.Idx) : val_main_v5 (F := Ideal) x0 i = BitVec.ofNat 32 (first n (i 0).val * 512) := by
  rw [val_main_v5_apply, val_main_v3_apply, val_main_v4_apply, ends_word ha]
  have h0 : x0 i = BitVec.ofNat 32 (n (i 0).val) := by rw [ValueIdx.eq_ix1 i]; exact ha (i 0)
  show (BitVec.ofNat 32 (first n ((i 0).val + 1)) - x0 i) * 512#32 = _
  rw [h0, first_succ, ofNat32_sub (by omega), Nat.add_sub_cancel]
  exact (BitVec.ofNat_mul ..).symm

include ha in
theorem end_word (i : S8.Idx) : val_main_v11 (F := Ideal) x0 i = BitVec.ofNat 32 (first n ((i 0).val + 1) * 512) := by
  rw [val_main_v11_apply, val_main_v10_apply, ends_word ha]
  exact (BitVec.ofNat_mul ..).symm

include ha hn in
/-- The mask: a row belongs to an expert where its tile is in use and the expert owns it. -/
theorem mine (i : S28672x8.Idx) :
    val_main_v16 (F := Ideal) x0 i = 1#1 ↔ (i 0).val / 512 < first n 8 ∧ owner n ((i 0).val / 512) = (i 1).val := by
  have h0 : (i 0).val < 28672 := (i 0).isLt
  have h1 : (i 1).val < 8 := (i 1).isLt
  have g1 : first n (i 1).val ≤ 56 := le_trans (first_mono n (by omega)) hn
  have g2 : first n ((i 1).val + 1) ≤ 56 := le_trans (first_mono n (by omega)) hn
  rw [← rows_iff (by norm_num) h1, val_main_v16_apply, IntOp.andi_eq_one, val_main_v9_apply, val_main_v15_apply,
    val_main_v7_apply, val_main_v6_apply, val_main_v8_apply, val_main_v13_apply, val_main_v14_apply, val_main_v12_apply,
    row_word, start_word ha, end_word ha]
  refine and_congr ?_ ?_
  · show IntOp.cmpi .sle (BitVec.ofNat 32 (first n (i 1).val * 512)) (BitVec.ofNat 32 (i 0).val) = 1#1 ↔ _
    rw [sle_iff_toNat (by rw [toNat_word (by omega)]; omega) (by rw [toNat_word (by omega)]; omega), toNat_word (by omega), toNat_word (by omega)]
  · show IntOp.cmpi .slt (BitVec.ofNat 32 (i 0).val) (BitVec.ofNat 32 (first n ((i 1).val + 1) * 512)) = 1#1 ↔ _
    rw [slt_iff_toNat (by rw [toNat_word (by omega)]; omega) (by rw [toNat_word (by omega)]; omega), toNat_word (by omega), toNat_word (by omega)]

variable (x1 : FVec Ideal S28672x3584 .bf16) (x2 : FVec Ideal S8x3584x1024 .f32)

/-- The product of a row of activations with an expert's weights. -/
def product (r : Fin 28672) (e : Fin 8) (d : Fin 1024) : EReal :=
  ∑ j : Fin 3584, (show EReal from x1 (ValueIdx.ix2 r j)) * (show EReal from x2 (ValueIdx.ix3 e j d))

theorem product_eq (i : S28672x8x1024.Idx) : val_main_v18 (F := Ideal) x1 x2 i = product x1 x2 (i 0) (i 1) (i 2) := by
  rw [val_main_v18_apply]
  refine Finset.sum_congr rfl fun j _ => ?_
  rw [val_main_v17_apply]
  refine congrArg₂ (fun a b : EReal => a * b) ?_ ?_
  · show x1 _ = x1 _
    refine congrArg x1 (funext fun a => ?_)
    match a with
    | ⟨0, _⟩ => rfl
    | ⟨1, _⟩ => rfl
  · show x2 _ = x2 _
    refine congrArg x2 (funext fun a => ?_)
    match a with
    | ⟨0, _⟩ => rfl
    | ⟨1, _⟩ => rfl
    | ⟨2, _⟩ => rfl

theorem zero_eq : FloatOps.ofBits (F := Ideal) .f32 0x00000000#32 = (0 : EReal) := by simp

include ha hn in
theorem value (r : Fin 28672) (d : Fin 1024) :
    val_main_v21 (F := Ideal) x0 x1 x2 (ValueIdx.ix2 r d)
      = if r.val / 512 < first n 8 then product x1 x2 r ⟨min (owner n (r.val / 512)) 7, by omega⟩ d else (0 : EReal) := by
  rw [val_main_v21_apply, val_main_cst_1_apply, zero_eq]
  have hterm : ∀ k : Fin 8, val_main_v20 (F := Ideal) x0 x1 x2 (idx_main_v21 (ValueIdx.ix2 r d) k)
      = if r.val / 512 < first n 8 ∧ owner n (r.val / 512) = k.val then product x1 x2 r k d else (0 : EReal) := fun k => by
    rw [val_main_v20_apply, val_main_call1_v1_apply, val_main_v19_apply, bit_eq (mine ha hn _), product_eq, val_main_call1_v2_apply,
      val_main_call1_v0_apply, val_main_cst_apply, zero_eq]
    show Scalar.select (BitVec.ofBool (decide (r.val / 512 < first n 8 ∧ owner n (r.val / 512) = k.val))) (product x1 x2 r k d) (0 : EReal) = _
    by_cases h : r.val / 512 < first n 8 ∧ owner n (r.val / 512) = k.val <;> simp [h, Scalar.select]
  simp only [hterm]
  by_cases ht : r.val / 512 < first n 8
  · have h8 := (owner_spec ht).1
    rw [if_pos ht, Finset.sum_eq_single (⟨owner n (r.val / 512), h8⟩ : Fin 8)]
    · rw [if_pos ⟨ht, rfl⟩]
      refine (zero_add _).trans (congrArg (fun e => product x1 x2 r e d) (Fin.ext ?_))
      show owner n (r.val / 512) = min (owner n (r.val / 512)) 7
      omega
    · intro k _ hk
      exact if_neg fun h => hk (Fin.ext h.2.symm)
    · intro h; exact absurd (Finset.mem_univ _) h
  · rw [if_neg ht, Finset.sum_eq_zero fun k _ => if_neg fun h => ht h.1]
    exact zero_add _

end DownRef

end
-- ==== Proof.DownValue.lean ====
/- The experts' down projection's result: its output blocks, put together, are the reference's array. -/
module

public import proofs.«01_k».proof.Proof.DownRun
public import proofs.«01_k».proof.Proof.DownTables
public import proofs.«01_k».proof.Proof.DownRef
public import Idealize.ShloMosaic.Lib.Pipeline.ValueKit
public import Idealize.ShloMosaic.Lib.MatmulPlain

@[expose] public section

set_option maxRecDepth 16384

noncomputable section

namespace Down

open Cert.DownIdeal Cert.DownIdeal.Gen
open Idealize.ShloMosaic Idealize.ShloMosaic.TcCoe Idealize.ShloMosaic.Tactic
open Idealize.ShloMosaic.Pipeline (Dat Cfg Window)
open Owner

section
variable (pf : pre0.Contents (Elt Ideal)) (hG : Good pf)
  (B : (c : Dev nD) → (b : Ref sig .tc) → Buf (Elt Ideal) ((c : Thread nD τ).loc b))

theorem pay2_apply (x : Vec Ideal S512x3584 .bf16) (w : Vec Ideal S3584x1024 .bf16) (r : Fin 512) (d : Fin 1024) :
    (k0_pay2 x w (ValueIdx.ix2 r d) : EReal) = ∑ j : Fin 3584, (show EReal from x (ValueIdx.ix2 r j)) * (show EReal from w (ValueIdx.ix2 j d)) := by
  refine (Ideal.matmul_plain_apply (M := 512) (K := 3584) (N := 1024) none x w (constant S512x1024 .f32 0x00000000#32) r d).trans ?_
  show (FloatOps.ofBits (F := Ideal) .f32 0x00000000#32 : EReal) + _ = _
  rw [DownRef.zero_eq, zero_add]

/-- A row of an output block. -/
theorem outBlock_apply (c : Dev nD) (t : Fin (cfgM pf hG).N) (r : Fin 512) (d : Fin 1024) :
    (outBlock pf hG B c t (ValueIdx.ix2 r d) : EReal)
      = if validAt pf (pt pf hG t) = 1#32 then
          DownRef.product (B c main_arg1) (B c main_arg2)
            ⟨(tileAt pf (pt pf hG t)).toNat * 512 + r.val, by have := hG.tile_lt (pt pf hG t); have := r.isLt; omega⟩
            ⟨(expertAt pf (pt pf hG t)).toNat, hG.expert_lt _⟩ d
        else 0 := by
  unfold outBlock
  split
  · refine (pay2_apply _ _ r d).trans ?_
    unfold DownRef.product rounded
    rw [weights_block, act_block]
    refine Finset.sum_congr rfl fun j _ => ?_
    refine congrArg₂ (fun a b : EReal => a * b) ?_ ?_
    · refine congrArg (B c main_arg1) (funext fun a => ?_)
      match a with
      | ⟨0, _⟩ => rfl
      | ⟨1, _⟩ => rfl
    · show B c main_arg2 _ = B c main_arg2 _
      refine congrArg (B c main_arg2) (funext fun a => ?_)
      match a with
      | ⟨0, _⟩ => rfl
      | ⟨1, _⟩ => rfl
      | ⟨2, _⟩ => rfl
  · exact DownRef.zero_eq

theorem flush_2 (t : Fin (cfgM pf hG).N) : ((cfgM pf hG).win 2).flush t = true :=
  (by decide +kernel : ∀ t : Fin grid0.N, Window.flushOf grid0 true cc0_transform_2 t = true) t

theorem idx_2 (t : Fin (cfgM pf hG).N) : (win0 (adm pf hG 0) 2).index t = ![t.val, 0] :=
  (by decide +kernel : ∀ t : Fin grid0.N, cc0_transform_2 (grid0.coords t) = ![t.val, 0]) t

/-- Where an element of an output block lies in the array. -/
theorem emb_2 (t : Fin (cfgM pf hG).N) (y : S512x1024.Idx) :
    ((((cfgM pf hG).win 2).blk t).view.emb y : S28672x1024.Idx)
      = ValueIdx.ix2 (⟨t.val * 512 + (y 0).val, by have : t.val < 56 := t.isLt; have := (y 0).isLt; change (y 0).val < 512 at this; omega⟩ : Fin 28672) (y 1) := by
  show (((cfgM pf hG).win 2).rect t).emb y = _
  refine funext fun a => Fin.ext ?_
  have e := congrFun (idx_2 pf hG t) a
  show (win0 (adm pf hG 0) 2).index t a * S512x1024.size a + 1 * (y a).val = _
  rw [e]
  match a with
  | ⟨0, _⟩ => show t.val * 512 + 1 * (y 0).val = t.val * 512 + (y 0).val; omega
  | ⟨1, _⟩ => show 0 * 1024 + 1 * (y 1).val = (y 1).val; omega

/-- Every element of the array is in an output block. -/
theorem cover_2 (i : S28672x1024.Idx) : ∃ t : Fin (cfgM pf hG).N, ((cfgM pf hG).win 2).flush t = true ∧ i ∈ (((cfgM pf hG).win 2).blk t).view.set := by
  have h0 : (i 0).val < 28672 := (i 0).isLt
  let t : Fin (cfgM pf hG).N := (⟨(i 0).val / 512, by show _ < 56; omega⟩ : Fin 56)
  refine ⟨t, flush_2 pf hG t, ?_⟩
  have e := emb_2 pf hG t (ValueIdx.ix2 (⟨(i 0).val % 512, by omega⟩ : Fin 512) (i 1))
  have e' : ((((cfgM pf hG).win 2).blk t).view.emb (ValueIdx.ix2 (⟨(i 0).val % 512, by omega⟩ : Fin 512) (i 1) : S512x1024.Idx) : S28672x1024.Idx) = i := by
    rw [e]
    funext a
    match a with
    | ⟨0, _⟩ => exact Fin.ext (by show (i 0).val / 512 * 512 + (i 0).val % 512 = (i 0).val; omega)
    | ⟨1, _⟩ => rfl
  rw [← e']
  exact View.emb_mem_set _ _

/-- An array whose rows are the output blocks' is the result. -/
theorem array_eq (c : Dev nD) (G : FVec Ideal S28672x1024 .f32)
    (hv : ∀ (t : Fin (cfgM pf hG).N) (r : Fin 512) (d : Fin 1024), outBlock pf hG B c t (ValueIdx.ix2 r d)
      = G (ValueIdx.ix2 (⟨t.val * 512 + r.val, by have : t.val < 56 := t.isLt; have := r.isLt; omega⟩ : Fin 28672) d)) :
    (dats pf hG B 0 c).arrAt 2 (cfgM pf hG).N = G :=
  (dats pf hG B 0 c).arrAt_eq_of_emb 2 G (fun t _ (y : S512x1024.Idx) => by
    rw [show (((cfgM pf hG).win 2).blk t).view.emb y = _ from emb_2 pf hG t y]
    have e : (dats pf hG B 0 c).after 2 t = outBlock pf hG B c t := after_2 pf hG B c t
    show (dats pf hG B 0 c).after 2 t y = _
    rw [e]
    exact (congrArg (outBlock pf hG B c t) (ValueIdx.eq_ix2 y)).trans (hv t (y 0) (y 1))) (cover_2 pf hG)

end

variable (m : (ℓ : Loc nD τ sig) → Buf (Elt Ideal) ℓ) {n : Nat → Nat}
  (ha : ∀ k : Fin 8, tiles m (ValueIdx.ix1 k) = BitVec.ofNat 32 (n k.val)) (hn : first n 8 ≤ 56)

/-- The result array is the reference's. -/
theorem final (c : Dev nD) : (dats (tbl m) (good m ha hn) (V m) 0 c).arrAt 2 (cfgM (tbl m) (good m ha hn)).N
    = Cert.DownRefIdeal.Read.val_main_v21 (F := Ideal) (m ((c : Thread nD τ).loc main_arg0)) (m ((c : Thread nD τ).loc main_arg1))
        (m ((c : Thread nD τ).loc main_arg2)) := by
  obtain rfl : c = 0 := Subsingleton.elim _ _
  refine array_eq (tbl m) (good m ha hn) (V m) 0 _ fun t r d => ?_
  have ht : t.val < 56 := t.isLt
  have hr := r.isLt
  rw [outBlock_apply]
  refine Eq.trans ?_ (DownRef.value (x0 := tiles m) ha hn _ _ _ _).symm
  have hd : (t.val * 512 + r.val) / 512 = t.val := by omega
  have e1 := V_main_arg1 m (0 : Dev nD)
  have e2 := V_main_arg2 m (0 : Dev nD)
  rw [e1, e2]
  have hv : validAt (tbl m) (pt (tbl m) (good m ha hn) t) = 1#32 ↔ (t.val * 512 + r.val) / 512 < first n 8 := by
    rw [validAt_iff m ha hn, hd]
  by_cases h : validAt (tbl m) (pt (tbl m) (good m ha hn) t) = 1#32
  · rw [if_pos h]
    refine Eq.trans ?_ (if_pos (hv.1 h)).symm
    refine congrArg₂ (fun a b => DownRef.product _ _ a b d) (Fin.ext ?_) (Fin.ext ?_)
    · show (tileAt (tbl m) _).toNat * 512 + r.val = t.val * 512 + r.val
      rw [(good m ha hn).own _ h]
    · show (expertAt (tbl m) _).toNat = min (owner n ((t.val * 512 + r.val) / 512)) 7
      rw [expertAt_toNat m ha hn, hd]
  · rw [if_neg h]
    exact (if_neg fun h' => h (hv.2 h')).symm

end Down

end
-- ==== Proof.DownSame.lean ====
/- The kernel and its idealization are one text: their body tables and host code are equal, and so are their runs. -/
module

public import proofs.«01_k».proof.Defs
public import proofs.«01_k».proof.Proof.Gen.Down
public import proofs.«01_k».proof.Proof.Gen.DownIdeal
public import proofs.«01_k».proof.Proof.Gen.Down.Launch
public import proofs.«01_k».proof.Proof.Gen.DownIdeal.Launch

@[expose] public section

set_option maxRecDepth 200000
set_option maxHeartbeats 1000000

noncomputable section

namespace DownSame

open Idealize.ShloMosaic Idealize.SL.Sem

attribute [local instance] Cert.Down.Gen.facts Cert.DownIdeal.Gen.facts

theorem defs₀_eq : Cert.Down.defs₀ (F := Bits) = Cert.DownIdeal.defs₀ (F := Bits) := by
  refine congrArg Defs.onTc (funext fun l => funext fun a => ?_)
  match l, a with
  | 0, (t, s) => rfl
theorem defs_eq : Cert.Down.defs (F := Bits) = Cert.DownIdeal.defs (F := Bits) :=
  congrArg (Pipeline.defs Cert.DownIdeal.pcfgs) defs₀_eq

theorem ops0 : Cert.Down.Gen.hostOps0 (F := Bits) = Cert.DownIdeal.Gen.hostOps0 (F := Bits) := rfl
theorem ops1 : Cert.Down.Gen.hostOps0_1 (F := Bits) = Cert.DownIdeal.Gen.hostOps0_1 (F := Bits) := rfl
theorem ops2 : Cert.Down.Gen.hostOps0_2 (F := Bits) = Cert.DownIdeal.Gen.hostOps0_2 (F := Bits) := rfl
theorem ops3 : Cert.Down.Gen.hostOps0_3 (F := Bits) = Cert.DownIdeal.Gen.hostOps0_3 (F := Bits) := rfl
theorem ops4 : Cert.Down.Gen.hostOps0_4 (F := Bits) = Cert.DownIdeal.Gen.hostOps0_4 (F := Bits) := rfl
theorem ops5 : Cert.Down.Gen.hostOps0_5 (F := Bits) = Cert.DownIdeal.Gen.hostOps0_5 (F := Bits) := rfl

theorem main_eq (c) : Cert.Down.main (F := Bits) c = Cert.DownIdeal.main (F := Bits) c :=
  (Cert.Down.Gen.main_chain c).trans <| Eq.trans (congrArg Pipeline.chain <|
    congrArg₂ List.cons (congrArg StableHlo.seq ops0) <| congrArg₂ List.cons (congrArg StableHlo.seq ops1) <|
    congrArg₂ List.cons (congrArg StableHlo.seq ops2) <| congrArg₂ List.cons (congrArg StableHlo.seq ops3) <|
    congrArg₂ List.cons (congrArg StableHlo.seq ops4) <| congrArg₂ List.cons (congrArg StableHlo.seq ops5) rfl)
    (Cert.DownIdeal.Gen.main_chain c).symm

theorem run_eq (s) : θ_run (Cert.Down.defs (F := Bits)) (onTc (τ := Cert.Down.τ) (Cert.Down.main (F := Bits))) s
    = θ_run (Cert.DownIdeal.defs (F := Bits)) (onTc (τ := Cert.DownIdeal.τ) (Cert.DownIdeal.main (F := Bits))) s :=
  congrArg₂ (fun d p => θ_run d (onTc (τ := Cert.DownIdeal.τ) p) s) defs_eq (funext main_eq)

end DownSame

end
-- ==== Proof.TilesFit.lean ====
/- The precondition of the experts' claims: the word an expert's count of tiles holds is from 0 to 56, and the counts'
   sum is at most 56, the number of tiles. -/
module

public import proofs.«01_k».proof.Pre_tiles_fit
public import proofs.«01_k».proof.Proof.Owner
public import Idealize.ShloMosaic.Lib.ReduceAll
public import Idealize.ShloMosaic.Lib.Affine

@[expose] public section

set_option maxRecDepth 16384

noncomputable section

namespace TilesFit

open Cert.Pre_tiles_fit
open Idealize.ShloMosaic Idealize.ShloMosaic.Routing
open Owner

instance facts : Cert.Pre_tiles_fit.Facts where
  bcast_S_S8 := by decide
  reducesTo_S8_S_d0 := by decide
  h_S_ := by decide

theorem count_le {x : BitVec 32} (h0 : IntOp.cmpi .sge x 0#32 = 1#1) (h1 : IntOp.cmpi .sle x 56#32 = 1#1) : x.toNat ≤ 56 := by
  rw [IntOp.cmpi_sge] at h0
  rw [IntOp.cmpi_sle] at h1
  have e0 : (0#32 : BitVec 32).toInt = 0 := by decide
  have e1 : (56#32 : BitVec 32).toInt = 56 := by decide
  rw [e0] at h0
  rw [e1] at h1
  rw [BitVec.toInt_eq_toNat_cond] at h0 h1
  have := x.isLt
  split at h0 <;> omega

theorem fit {F : FTy → Type} [FloatOps F] (a : IVec S8 32) (x1 : FVec F S28672x3584 .bf16) (x2 : FVec F S8x3584x1024 .f32)
    (h : fn (F := F) a x1 x2 = fun _ => 1#1) : first (counts a) 8 ≤ 56 := by
  have : Subsingleton S_.Idx := ⟨fun a b => funext fun k => k.elim0⟩
  have h0 := congrFun h ValueIdx.ix0
  dsimp only [fn] at h0
  obtain ⟨h1, h2⟩ := IntOp.andi_eq_one.1 h0
  obtain ⟨hge, hle⟩ := IntOp.andi_eq_one.1 h1
  have hc : ∀ k : Fin 8, (a (ValueIdx.ix1 k)).toNat ≤ 56 := fun k =>
    count_le (Host.reduce_andi_all _ _ _ _ _ hge (ValueIdx.ix1 k)) (Host.reduce_andi_all _ _ _ _ _ hle (ValueIdx.ix1 k))
  have hk : ∀ k < 8, counts a k ≤ 56 := fun k hk => by
    have := hc ⟨k, hk⟩
    rwa [Owner.counts, dif_pos hk]
  have hs : Host.reduce IntOp.addi a (constantI S_ 32 0#32) Facts.reducesTo_S8_S_d0 Facts.h_S_ ValueIdx.ix0 = BitVec.ofNat 32 (first (counts a) 8) :=
    reduce_sum (N := 8) a (counts a) (word_counts a) _ _
  have hb : first (counts a) 8 < 2 ^ 31 := by
    have e : ∀ j ≤ 8, first (counts a) j ≤ 56 * j := by
      intro j
      induction j with
      | zero => intro _; simp [first]
      | succ j ih =>
        intro hj
        rw [first_succ]
        have := ih (by omega)
        have := hk j (by omega)
        omega
    have := e 8 le_rfl
    omega
  have h3 : IntOp.cmpi .sle (BitVec.ofNat 32 (first (counts a) 8)) 56#32 = 1#1 := by
    rw [← hs]; exact h2
  rw [IntOp.cmpi_sle] at h3
  have e1 : (56#32 : BitVec 32).toInt = 56 := by decide
  rw [e1, BitVec.toInt_eq_toNat_cond, toNat_word hb] at h3
  split at h3 <;> omega

end TilesFit

end
-- ==== Proof.DownClaim.lean ====
/- The experts' down projection: its frames and its value claim. -/
module

public import proofs.«01_k».proof.Defs
public import proofs.«01_k».proof.Proof.DownValue
public import proofs.«01_k».proof.Proof.DownSame
public import proofs.«01_k».proof.Proof.TilesFit
public import proofs.«01_k».proof.Proof.Gen.Down
public import proofs.«01_k».proof.Proof.Gen.DownRefIdeal.Run
public import Idealize.ShloMosaic.Lib.Claim
public import Idealize.ShloMosaic.Adequacy
public import Idealize.ShloMosaic.Init

@[expose] public section

set_option maxRecDepth 200000

noncomputable section

namespace Cert.Proof.Down

open Idealize.ShloMosaic Idealize.SL.Sem
open Owner

theorem good {F : FTy → Type} [FloatOps F] (m : (ℓ : Loc Cert.DownIdeal.nD Cert.DownIdeal.τ Cert.DownIdeal.sig) → Buf (Elt F) ℓ)
    (hn : first (counts (_root_.Down.tiles m)) 8 ≤ 56) : _root_.Down.Good (_root_.Down.tbl m) := _root_.Down.good m (word_counts (_root_.Down.tiles m)) hn

theorem frame_ideal : Cert.quiescent_DownIdeal (hDownIdeal := Cert.DownIdeal.Gen.facts) (hPre_tiles_fit := TilesFit.facts) := fun m g h =>
  (θ_run Cert.DownIdeal.defs _ _).mono (fun _ r => ⟨fun c => (r.1 c).1, r.2⟩)
    (_root_.Down.run_result m g (good m (TilesFit.fit _ _ _ (h 0))))

theorem frame_kernel : Cert.quiescent_Down (hDown := Cert.Down.Gen.facts) (hPre_tiles_fit := TilesFit.facts) := by
  intro m g h
  have k := (θ_run Cert.DownIdeal.defs _ _).mono (fun _ r => And.intro (fun c => (r.1 c).1) r.2)
    (_root_.Down.run_result (F := Bits) m g (good m (TilesFit.fit _ _ _ (h 0))))
  rw [DownSame.run_eq]
  exact k

theorem frame_ref : Cert.quiescent_DownRefIdeal (hDownRefIdeal := Cert.DownRefIdeal.Gen.facts) := fun m g _ =>
  (θ_run Cert.DownRefIdeal.defs _ _).mono (fun r h => ⟨fun c => (h c).2, sem_eq_zero_of_no_sems (by decide) r.2⟩)
    (Cert.DownRefIdeal.Value.run m g)

theorem algebraic : Cert.algebraic_DownIdeal_DownRefIdeal (hDownIdeal := Cert.DownIdeal.Gen.facts)
    (hDownRefIdeal := Cert.DownRefIdeal.Gen.facts) (hPre_tiles_fit := TilesFit.facts) := by
  intro m g m' g' hpre hagree
  have hn : first (counts (_root_.Down.tiles m)) 8 ≤ 56 := TilesFit.fit _ _ _ (hpre 0)
  refine ⟨fun c => (_root_.Down.dats (_root_.Down.tbl m) (good m hn) (_root_.Down.V m) 0 c).arrAt 2 (_root_.Down.cfgM (_root_.Down.tbl m) (good m hn)).N,
    (θ_run Cert.DownIdeal.defs _ _).mono (fun _ r c => ⟨(r.1 c).2, (r.1 c).1⟩) (_root_.Down.run_result m g (good m hn)),
    (θ_run Cert.DownRefIdeal.defs _ _).mono (fun r h c => ⟨?_, (h c).2⟩) (Cert.DownRefIdeal.Value.run m' g')⟩
  rw [(h c).1, Cert.DownRefIdeal.Read.val_main_v21_eq]
  obtain ⟨a0, a1, a2⟩ := hagree c
  rw [a0, a1, a2]
  exact (_root_.Down.final m (word_counts (_root_.Down.tiles m)) hn c).symm

end Cert.Proof.Down

end
-- ==== Proof.UpBody.lean ====
/- What one grid point of the experts' up projection does to its memory: the two weight blocks of a new expert or a new
   half of the columns are rounded piece by piece into the scratch memory when the point's first-flag is set, and the
   output block is the gated product of the activations with the scratch memory, or zero, as the point's valid-flag says. -/
module

public import proofs.«01_k».proof.Proof.Gen.UpIdeal.Launch
public import proofs.«01_k».proof.Proof.Gen.UpIdeal.Skeleton
public import proofs.«01_k».proof.Proof.Gen.UpIdeal.Loops
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Claim
public import Idealize.ShloMosaic.Lib.Ring
public import Idealize.ShloMosaic.Lib.Tactic

@[expose] public section

set_option maxRecDepth 16384

noncomputable section

namespace Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A weight block, every number rounded to bfloat16: what a scratch memory holds while the block's tiles are processed. -/
def rounded (x : Vec F S1x1024x1792 .f32) : Vec F S1024x1792 .bf16 :=
  truncf .bf16 (fun y : S1024x1792.Idx => x (ix3 0 (y 0) (y 1)) : FVec F S1024x1792 .f32) Gen.bitsLt_bf16_f32

/-- 256 columns of a scratch memory. -/
def columns (s : Vec F S1024x1792 .bf16) (o : ℕ) (h : o + 256 ≤ 1792) : Vec F S1024x256 .bf16 :=
  fun z => s (ix2 (z 0) (⟨o + (z 1).val, by have := (z 1).isLt; change (z 1).val < 256 at this; omega⟩ : Fin 1792))

/-- The output block of a tile in use: the gated product of its activations with the two scratch memories, 256 columns
at a time. -/
def gated (x : Vec F S512x1024 .f32) (s₁ s₂ : Vec F S1024x1792 .bf16) : Vec F S512x1792 .bf16 := fun y =>
  have h : (y 1).val / 256 * 256 + 256 ≤ 1792 := by have := (y 1).isLt; change (y 1).val < 1792 at this; omega
  k0_pay8 (k0_pay5 x) (columns s₁ ((y 1).val / 256 * 256) h) (columns s₂ ((y 1).val / 256 * 256) h)
    (ix2 (y 0) (⟨(y 1).val % 256, Nat.mod_lt _ (by norm_num)⟩ : Fin 256))

/-- The output block of a tile not in use. -/
def zeros : Vec F S512x1792 .bf16 := fun _ => Scalar.ofBits .bf16 0x0000#16

theorem gated_eq (x : Vec F S512x1024 .f32) (s₁ s₂ : Vec F S1024x1792 .bf16) (o : ℕ) (h : o + 256 ≤ 1792) (ho : o % 256 = 0)
    (z : S512x256.Idx) (y : S512x1792.Idx) (h0 : (y 0).val = (z 0).val) (h1 : (y 1).val = o + (z 1).val) :
    k0_pay8 (k0_pay5 x) (columns s₁ o h) (columns s₂ o h) z = gated x s₁ s₂ y := by
  have hz : (z 1).val < 256 := (z 1).isLt
  obtain rfl : o = (y 1).val / 256 * 256 := by omega
  unfold gated
  refine congrArg _ (funext fun a => Fin.ext ?_)
  match a with
  | ⟨0, _⟩ => exact h0.symm
  | ⟨1, _⟩ => show (z 1).val = (y 1).val % 256; omega

theorem columns_read {κ : Kind} {sp : Space} (v : View sig κ sp S1024x1792 .bf16) (X : v.ty.Contents (Elt F)) (o : ℕ) (h : o + 256 ≤ 1792)
    (inb : ∀ a, (![0, o] : Fin 2 → ℕ) a + S1024x256.size a ≤ S1024x1792.size a) :
    View.readAt (Elt F) v (Rect.unit (s := S1024x1792) ![0, o] S1024x256.size inb).toLoadRect X = columns (v.read (Elt F) X) o h := by
  funext z
  rw [View.readAt_apply]
  refine congrArg _ (funext fun a => Fin.ext ?_)
  match a with
  | ⟨0, _⟩ => exact (by show 0 + 1 * (z 0).val = (z 0).val; omega)
  | ⟨1, _⟩ => exact (by show o + 1 * (z 1).val = o + (z 1).val; omega)

/-! ## Reading back what was stored in pieces -/

/-- Pieces of whole rows, each the target's: after the first `k` the rows so far are the target's. -/
theorem rows_read {κ : Kind} {sp : Space} {e : EltTy} {d : Fin 2 → ℕ} (v : View sig κ sp ⟨2, d⟩ e) (f : v.ty.Contents (Elt F)) (W K : ℕ)
    (L : ℕ → List (View.Piece (Elt F) ⟨2, d⟩ e)) (T : (⟨2, d⟩ : Shape).Idx → Elt F e)
    (hs : ∀ k < K, ∃ (off size : Fin 2 → ℕ) (inb : ∀ a : Fin 2, off a + size a ≤ d a) (w : (Rect.unit (s := ⟨2, d⟩) off size inb).shape.Idx → Elt F e),
      L (k + 1) = ⟨Rect.unit (s := ⟨2, d⟩) off size inb, w⟩ :: L k ∧ off = ![W * k, 0] ∧ size 0 = W ∧ size 1 = d 1
        ∧ ∀ x y, (y 0).val = W * k + (x 0).val → (y 1).val = (x 1).val → w x = T y) :
    ∀ k ≤ K, ∀ y : (⟨2, d⟩ : Shape).Idx, (y 0).val < W * k → v.read (Elt F) (v.writes (Elt F) f (L k)) y = T y := by
  intro k
  induction k with
  | zero => intro _ y hy; omega
  | succ k ih =>
    intro hk y hy
    obtain ⟨off, size, inb, w, e, ho, hW, hD, hw⟩ := hs k (by omega)
    rw [e, View.read_writes_cons_rows (d := d) _ _ _ _ _ y ho hW hD]
    split_ifs with h
    · exact hw _ y (by show (y 0).val = W * k + ((y 0).val - W * k); omega) (by show (y 1).val = (y 1).val - 0; omega)
    · refine ih (by omega) y ?_
      rw [Nat.mul_succ] at hy
      omega

/-- A piece of 256 whole columns, before others. -/
theorem columns_cons {κ : Kind} {sp : Space} (v : View sig κ sp S512x1792 .bf16) (f : v.ty.Contents (Elt F)) (o : ℕ)
    (inb : ∀ a, (![0, o] : Fin 2 → ℕ) a + S512x256.size a ≤ S512x1792.size a) (w : S512x256.Idx → Elt F .bf16)
    (L : List (View.Piece (Elt F) S512x1792 .bf16)) (T : S512x1792.Idx → Elt F .bf16) (y : S512x1792.Idx)
    (hw : ∀ z : S512x256.Idx, (y 0).val = (z 0).val → (y 1).val = o + (z 1).val → w z = T y)
    (hL : ¬ (o ≤ (y 1).val ∧ (y 1).val < o + 256) → v.read (Elt F) (v.writes (Elt F) f L) y = T y) :
    v.read (Elt F) (v.writes (Elt F) f (⟨Rect.unit (s := S512x1792) ![0, o] S512x256.size inb, w⟩ :: L)) y = T y := by
  by_cases h : o ≤ (y 1).val ∧ (y 1).val < o + 256
  · have hz := hw (ix2 (y 0) (⟨(y 1).val - o, by omega⟩ : Fin 256)) rfl (by show (y 1).val = o + ((y 1).val - o); omega)
    rw [← hz]
    exact View.read_writes_cons_unit_of_mem v f inb w L y _ rfl (Fin.forall_fin_two.mpr
      ⟨by show (y 0).val = 0 + (y 0).val; omega, by show (y 1).val = o + ((y 1).val - o); omega⟩)
  · refine Eq.trans (View.read_writes_cons_unit_of_not_mem v f inb w L y rfl (1 : Fin 2) ?_) (hL h)
    show (y 1).val < o ∨ o + 256 ≤ (y 1).val
    omega

/-! ## The words of the flags -/

/-- The word a scalar table holds at an offset. -/
abbrev wordAt (c : Dev nD) (M : Memref sig .tc .smem S112 .i32) (f : Buf (Elt F) (M.view.loc (c : Thread nD τ))) (off : Fin 1 → ℕ)
    (h : ∀ a, off a + S1.size a ≤ S112.size a) : BitVec 32 :=
  (M.access (Rect.unit (s := S112) off S1.size h)).read (Elt F) f (Shape.Idx.first (Gen.numel1_S1.symm ▸ Nat.one_pos))

theorem cond2_of_one {w : BitVec 32} (h : w = 1#32) : k0_cond2 w = 1#1 := by subst h; decide

theorem cond2_of_ne {w : BitVec 32} (h : w ≠ 1#32) : ¬ k0_cond2 w = 1#1 := by
  have h' : IntOp.cmpi .eq w 1#32 = 0#1 := by
    show BitVec.ofBool (w == 1#32) = 0#1
    rw [beq_false_of_ne h]; rfl
  show ¬ IntOp.cmpi .ne (BitVec.setWidth 32 (IntOp.cmpi .eq w 1#32)) 0#32 = 1#1
  rw [h']; decide

theorem cond3_of_one {w : BitVec 32} (h : w = 1#32) : ¬ k0_cond3 w = 1#1 := by subst h; decide

theorem cond3_of_zero {w : BitVec 32} (h : w = 0#32) : k0_cond3 w = 1#1 := by subst h; decide

theorem off2_eq : ∀ k : Fin k0_t1_loop.trips, k0_off2 k = ![0, 128 * k.val, 0] := by decide +kernel
theorem off3_eq : ∀ k : Fin k0_t1_loop.trips, k0_off3 k = ![128 * k.val, 0] := by decide +kernel
theorem off4_eq : ∀ k : Fin k0_t2_loop.trips, k0_off4 k = ![0, 128 * k.val, 0] := by decide +kernel
theorem off5_eq : ∀ k : Fin k0_t2_loop.trips, k0_off5 k = ![128 * k.val, 0] := by decide +kernel
theorem off8_eq : ∀ k : Fin k0_t3_loop.trips, k0_off8 k = ![64 * k.val, 0] := by decide +kernel

/-- A piece of a weight block, rounded, is the piece of the block rounded. -/
theorem piece_eq {κ : Kind} {sp : Space} (v : View sig κ sp S1x1024x1792 .f32) (X : v.ty.Contents (Elt F)) (o : ℕ) (off : Fin 3 → ℕ) (ho : off = ![0, o, 0])
    (inb : ∀ a, off a + S1x128x1792.size a ≤ S1x1024x1792.size a) (x : S128x1792.Idx) (y : S1024x1792.Idx)
    (h0 : (y 0).val = o + (x 0).val) (h1 : (y 1).val = (x 1).val) :
    k0_pay1 (View.readAt (Elt F) v (Rect.unit (s := S1x1024x1792) off S1x128x1792.size inb).toLoadRect X) x
      = rounded (v.read (Elt F) X) y := by
  subst ho
  unfold k0_pay1 rounded
  pointwise
  rw [View.readAt_apply]
  refine congrArg _ (congrArg _ (funext fun a => Fin.ext ?_))
  match a with
  | ⟨0, _⟩ => rfl
  | ⟨1, _⟩ => exact (by show o + 1 * (x 0).val = (y 0).val; omega)
  | ⟨2, _⟩ => exact (by show 0 + 1 * (x 1).val = (y 1).val; omega)

section Loop

variable (𝒱 : Variants) (c : Dev nD) (bd : Option 𝒱.V) (i : grid0.Coords) (arg1 : Memref sig .tc .smem S112 .i32) (harg1 : arg1.IsWhole) (arg2 : Memref sig .tc .smem S112 .i32) (harg2 : arg2.IsWhole) (arg3 : Memref sig .tc .smem S112 .i32) (harg3 : arg3.IsWhole) (arg4 : Memref sig .tc .smem S112 .i32) (harg4 : arg4.IsWhole) (arg5 : Memref sig .tc .smem S112 .i32) (harg5 : arg5.IsWhole) (arg6 : Memref sig .tc .vmem S512x1024 .f32) (harg6 : arg6.IsWhole) (arg7 : Memref sig .tc .vmem S1x1024x1792 .f32) (harg7 : arg7.IsWhole) (arg8 : Memref sig .tc .vmem S1x1024x1792 .f32) (harg8 : arg8.IsWhole) (arg9 : Memref sig .tc .vmem S512x1792 .bf16) (harg9 : arg9.IsWhole) (arg10 : Memref sig .tc .vmem S1024x1792 .bf16) (harg10 : arg10.IsWhole) (arg11 : Memref sig .tc .vmem S1024x1792 .bf16) (harg11 : arg11.IsWhole)

theorem trips1 : k0_t1_loop.trips = 8 := by decide +kernel
theorem trips2 : k0_t2_loop.trips = 8 := by decide +kernel
theorem trips3 : k0_t3_loop.trips = 8 := by decide +kernel

/-- After the first loop the first scratch memory is the first block rounded. -/
theorem scratch_read1 (X : BufTy.Contents (Elt F) arg7.view.ty) (G : BufTy.Contents (Elt F) arg10.view.ty) :
    arg10.view.read (Elt F) (arg10.view.writes (Elt F) G
      (pb_k0_t1 (F := F) 𝒱 c bd i arg1 harg1 arg2 harg2 arg3 harg3 arg4 harg4 arg5 harg5 arg6 harg6 arg7 harg7 arg8 harg8 arg9 harg9 arg10 harg10 arg11 harg11 X
        (Scf.trips k0_t1_loop.lb k0_t1_loop.ub k0_t1_loop.st)))
      = rounded (arg7.view.read (Elt F) X) := by
  refine funext fun y => rows_read arg10.view G 128 8
    (pb_k0_t1 (F := F) 𝒱 c bd i arg1 harg1 arg2 harg2 arg3 harg3 arg4 harg4 arg5 harg5 arg6 harg6 arg7 harg7 arg8 harg8 arg9 harg9 arg10 harg10 arg11 harg11 X) _ (fun k hk => ?_) _
    (le_of_eq trips1) y (by
      refine lt_of_lt_of_eq (y 0).isLt ?_
      show S1024x1792.size 0 = 128 * k0_t1_loop.trips
      rw [trips1]; rfl)
  have hk' : k < k0_t1_loop.trips := by rw [trips1]; exact hk
  refine ⟨_, S128x1792.size, Gen.k0_off3_inb ⟨k, hk'⟩,
    k0_pay1 (View.readAt (Elt F) arg7.view (Rect.unit (s := S1x1024x1792) (k0_off2 ⟨k, hk'⟩) S1x128x1792.size (Gen.k0_off2_inb ⟨k, hk'⟩)).toLoadRect X),
    (pb_k0_t1_succ 𝒱 c bd i arg1 harg1 arg2 harg2 arg3 harg3 arg4 harg4 arg5 harg5 arg6 harg6 arg7 harg7 arg8 harg8 arg9 harg9 arg10 harg10 arg11 harg11 X ⟨k, hk'⟩).trans ?_, off3_eq ⟨k, hk'⟩, rfl, rfl, fun x y h0 h1 =>
    piece_eq arg7.view X (128 * k) _ (off2_eq ⟨k, hk'⟩) _ x y h0 h1⟩
  unfold tripL_k0_t1 trip_k0_t1
  rfl

/-- After the second loop the second scratch memory is the second block rounded. -/
theorem scratch_read2 (X : BufTy.Contents (Elt F) arg8.view.ty) (G : BufTy.Contents (Elt F) arg11.view.ty) :
    arg11.view.read (Elt F) (arg11.view.writes (Elt F) G
      (pb_k0_t2 (F := F) 𝒱 c bd i arg1 harg1 arg2 harg2 arg3 harg3 arg4 harg4 arg5 harg5 arg6 harg6 arg7 harg7 arg8 harg8 arg9 harg9 arg10 harg10 arg11 harg11 X
        (Scf.trips k0_t2_loop.lb k0_t2_loop.ub k0_t2_loop.st)))
      = rounded (arg8.view.read (Elt F) X) := by
  refine funext fun y => rows_read arg11.view G 128 8
    (pb_k0_t2 (F := F) 𝒱 c bd i arg1 harg1 arg2 harg2 arg3 harg3 arg4 harg4 arg5 harg5 arg6 harg6 arg7 harg7 arg8 harg8 arg9 harg9 arg10 harg10 arg11 harg11 X) _ (fun k hk => ?_) _
    (le_of_eq trips2) y (by
      refine lt_of_lt_of_eq (y 0).isLt ?_
      show S1024x1792.size 0 = 128 * k0_t2_loop.trips
      rw [trips2]; rfl)
  have hk' : k < k0_t2_loop.trips := by rw [trips2]; exact hk
  refine ⟨_, S128x1792.size, Gen.k0_off5_inb ⟨k, hk'⟩,
    k0_pay2 (View.readAt (Elt F) arg8.view (Rect.unit (s := S1x1024x1792) (k0_off4 ⟨k, hk'⟩) S1x128x1792.size (Gen.k0_off4_inb ⟨k, hk'⟩)).toLoadRect X),
    (pb_k0_t2_succ 𝒱 c bd i arg1 harg1 arg2 harg2 arg3 harg3 arg4 harg4 arg5 harg5 arg6 harg6 arg7 harg7 arg8 harg8 arg9 harg9 arg10 harg10 arg11 harg11 X ⟨k, hk'⟩).trans ?_, off5_eq ⟨k, hk'⟩, rfl, rfl, fun x y h0 h1 =>
    piece_eq arg8.view X (128 * k) _ (off4_eq ⟨k, hk'⟩) _ x y h0 h1⟩
  unfold tripL_k0_t2 trip_k0_t2
  rfl

/-- After the third loop the output block is zero. -/
theorem zeros_read (G : BufTy.Contents (Elt F) arg9.view.ty) :
    arg9.view.read (Elt F) (arg9.view.writes (Elt F) G
      (pb_k0_t3 (F := F) 𝒱 c bd i arg1 harg1 arg2 harg2 arg3 harg3 arg4 harg4 arg5 harg5 arg6 harg6 arg7 harg7 arg8 harg8 arg9 harg9 arg10 harg10 arg11 harg11
        (Scf.trips k0_t3_loop.lb k0_t3_loop.ub k0_t3_loop.st)))
      = zeros := by
  refine funext fun y => rows_read arg9.view G 64 8
    (pb_k0_t3 (F := F) 𝒱 c bd i arg1 harg1 arg2 harg2 arg3 harg3 arg4 harg4 arg5 harg5 arg6 harg6 arg7 harg7 arg8 harg8 arg9 harg9 arg10 harg10 arg11 harg11) _ (fun k hk => ?_) _
    (le_of_eq trips3) y (by
      refine lt_of_lt_of_eq (y 0).isLt ?_
      show S512x1792.size 0 = 64 * k0_t3_loop.trips
      rw [trips3]; rfl)
  have hk' : k < k0_t3_loop.trips := by rw [trips3]; exact hk
  refine ⟨_, S64x1792.size, Gen.k0_off8_inb ⟨k, hk'⟩, k0_pay4, (pb_k0_t3_succ 𝒱 c bd i arg1 harg1 arg2 harg2 arg3 harg3 arg4 harg4 arg5 harg5 arg6 harg6 arg7 harg7 arg8 harg8 arg9 harg9 arg10 harg10 arg11 harg11 ⟨k, hk'⟩).trans ?_, off8_eq ⟨k, hk'⟩, rfl, rfl, fun x y h0 h1 => rfl⟩
  unfold tripL_k0_t3 trip_k0_t3
  rfl

end Loop

/-! ## Reading back the output block -/

/-- Each piece of the output block is the gated product's columns. -/
theorem piece_gated {κ : Kind} {sp : Space} (v₆ : View sig κ sp S512x1024 .f32) (v₁₀ v₁₁ : View sig κ sp S1024x1792 .bf16)
    (X : v₆.ty.Contents (Elt F)) (G : v₁₀.ty.Contents (Elt F)) (U : v₁₁.ty.Contents (Elt F)) (o : ℕ) (h : o + 256 ≤ 1792) (ho : o % 256 = 0)
    (inb : ∀ a, (![0, o] : Fin 2 → ℕ) a + S1024x256.size a ≤ S1024x1792.size a)
    (z : S512x256.Idx) (y : S512x1792.Idx) (h0 : (y 0).val = (z 0).val) (h1 : (y 1).val = o + (z 1).val) :
    k0_pay8 (k0_pay5 (View.readAt (Elt F) v₆ (Rect.unit (s := S512x1024) ![0, 0] S512x1024.size Gen.inb_S512x1024_S512x1024_0_0).toLoadRect X))
        (View.readAt (Elt F) v₁₀ (Rect.unit (s := S1024x1792) ![0, o] S1024x256.size inb).toLoadRect G)
        (View.readAt (Elt F) v₁₁ (Rect.unit (s := S1024x1792) ![0, o] S1024x256.size inb).toLoadRect U) z
      = gated (v₆.read (Elt F) X) (v₁₀.read (Elt F) G) (v₁₁.read (Elt F) U) y := by
  rw [columns_read v₁₀ G o h, columns_read v₁₁ U o h, View.readAt_full]
  exact gated_eq _ _ _ o h ho z y h0 h1

section
variable {κ : Kind} {sp : Space} (v₆ : View sig κ sp S512x1024 .f32) (v₉ : View sig κ sp S512x1792 .bf16) (v₁₀ v₁₁ : View sig κ sp S1024x1792 .bf16)
    (X : v₆.ty.Contents (Elt F)) (f : v₉.ty.Contents (Elt F)) (G : v₁₀.ty.Contents (Elt F)) (U : v₁₁.ty.Contents (Elt F))

/-- The activations the body loads, -/
abbrev actsAt : Vec F S512x1024 .f32 :=
  View.readAt (Elt F) v₆ (Rect.unit (s := S512x1024) ![0, 0] S512x1024.size Gen.inb_S512x1024_S512x1024_0_0).toLoadRect X
/-- and 256 columns of a scratch memory. -/
abbrev colsAt (v : View sig κ sp S1024x1792 .bf16) (C : v.ty.Contents (Elt F)) (o : ℕ)
    (inb : ∀ a, (![0, o] : Fin 2 → ℕ) a + S1024x256.size a ≤ S1024x1792.size a) : Vec F S1024x256 .bf16 :=
  View.readAt (Elt F) v (Rect.unit (s := S1024x1792) ![0, o] S1024x256.size inb).toLoadRect C

/-- The seven pieces the body stores of an output block are the gated product. -/
theorem gated_read :
    v₉.read (Elt F) (v₉.writes (Elt F) f
      [⟨Rect.unit (s := S512x1792) ![0, 1536] S512x256.size Gen.inb_S512x1792_S512x256_0_1536,
          k0_pay3 (k0_pay5 (actsAt v₆ X)) (k0_pay15 (k0_pay5 (actsAt v₆ X)) (colsAt v₁₀ G 1536 Gen.inb_S1024x1792_S1024x256_0_1536))
            (k0_pay16 (k0_pay5 (actsAt v₆ X)) (colsAt v₁₀ G 1536 Gen.inb_S1024x1792_S1024x256_0_1536)) k0_pay17
            (colsAt v₁₁ U 1536 Gen.inb_S1024x1792_S1024x256_0_1536)⟩,
        ⟨Rect.unit (s := S512x1792) ![0, 1280] S512x256.size Gen.inb_S512x1792_S512x256_0_1280,
          k0_pay13 (k0_pay5 (actsAt v₆ X)) (colsAt v₁₀ G 1280 Gen.inb_S1024x1792_S1024x256_0_1280) (colsAt v₁₁ U 1280 Gen.inb_S1024x1792_S1024x256_0_1280)⟩,
        ⟨Rect.unit (s := S512x1792) ![0, 1024] S512x256.size Gen.inb_S512x1792_S512x256_0_1024,
          k0_pay12 (k0_pay5 (actsAt v₆ X)) (k0_pay10 (k0_pay5 (actsAt v₆ X)) (colsAt v₁₀ G 1024 Gen.inb_S1024x1792_S1024x256_0_1024))
            (k0_pay11 (k0_pay5 (actsAt v₆ X)) (colsAt v₁₀ G 1024 Gen.inb_S1024x1792_S1024x256_0_1024)) (colsAt v₁₁ U 1024 Gen.inb_S1024x1792_S1024x256_0_1024)⟩,
        ⟨Rect.unit (s := S512x1792) ![0, 768] S512x256.size Gen.inb_S512x1792_S512x256_0_768,
          k0_pay9 (k0_pay5 (actsAt v₆ X)) (colsAt v₁₀ G 768 Gen.inb_S1024x1792_S1024x256_0_768) (colsAt v₁₁ U 768 Gen.inb_S1024x1792_S1024x256_0_768)⟩,
        ⟨Rect.unit (s := S512x1792) ![0, 512] S512x256.size Gen.inb_S512x1792_S512x256_0_512,
          k0_pay8 (k0_pay5 (actsAt v₆ X)) (colsAt v₁₀ G 512 Gen.inb_S1024x1792_S1024x256_0_512) (colsAt v₁₁ U 512 Gen.inb_S1024x1792_S1024x256_0_512)⟩,
        ⟨Rect.unit (s := S512x1792) ![0, 256] S512x256.size Gen.inb_S512x1792_S512x256_0_256,
          k0_pay7 (actsAt v₆ X) (colsAt v₁₀ G 256 Gen.inb_S1024x1792_S1024x256_0_256) (colsAt v₁₁ U 256 Gen.inb_S1024x1792_S1024x256_0_256)⟩,
        ⟨Rect.unit (s := S512x1792) ![0, 0] S512x256.size Gen.inb_S512x1792_S512x256_0_0,
          k0_pay6 (actsAt v₆ X) (colsAt v₁₀ G 0 Gen.inb_S1024x1792_S1024x256_0_0) (colsAt v₁₁ U 0 Gen.inb_S1024x1792_S1024x256_0_0)⟩])
      = gated (v₆.read (Elt F) X) (v₁₀.read (Elt F) G) (v₁₁.read (Elt F) U) := by
  funext y
  have hy : (y 1).val < 1792 := (y 1).isLt
  refine columns_cons _ _ 1536 _ _ _ _ y (fun z h0 h1 => piece_gated v₆ v₁₀ v₁₁ X G U 1536 (by norm_num) (by norm_num) _ z y h0 h1) fun n6 => ?_
  refine columns_cons _ _ 1280 _ _ _ _ y (fun z h0 h1 => piece_gated v₆ v₁₀ v₁₁ X G U 1280 (by norm_num) (by norm_num) _ z y h0 h1) fun n5 => ?_
  refine columns_cons _ _ 1024 _ _ _ _ y (fun z h0 h1 => piece_gated v₆ v₁₀ v₁₁ X G U 1024 (by norm_num) (by norm_num) _ z y h0 h1) fun n4 => ?_
  refine columns_cons _ _ 768 _ _ _ _ y (fun z h0 h1 => piece_gated v₆ v₁₀ v₁₁ X G U 768 (by norm_num) (by norm_num) _ z y h0 h1) fun n3 => ?_
  refine columns_cons _ _ 512 _ _ _ _ y (fun z h0 h1 => piece_gated v₆ v₁₀ v₁₁ X G U 512 (by norm_num) (by norm_num) _ z y h0 h1) fun n2 => ?_
  refine columns_cons _ _ 256 _ _ _ _ y (fun z h0 h1 => piece_gated v₆ v₁₀ v₁₁ X G U 256 (by norm_num) (by norm_num) _ z y h0 h1) fun n1 => ?_
  refine columns_cons _ _ 0 _ _ _ _ y (fun z h0 h1 => piece_gated v₆ v₁₀ v₁₁ X G U 0 (by norm_num) (by norm_num) _ z y h0 h1) fun n0 => ?_
  omega

end

set_option maxHeartbeats 1000000 in
theorem sound_kernel (c : Dev nD) (E : Set ℕ) (i : grid0.Coords) (arg1 : Memref sig .tc .smem S112 .i32) (harg1 : arg1.IsWhole) (arg2 : Memref sig .tc .smem S112 .i32) (harg2 : arg2.IsWhole) (arg3 : Memref sig .tc .smem S112 .i32) (harg3 : arg3.IsWhole) (arg4 : Memref sig .tc .smem S112 .i32) (harg4 : arg4.IsWhole) (arg5 : Memref sig .tc .smem S112 .i32) (harg5 : arg5.IsWhole) (arg6 : Memref sig .tc .vmem S512x1024 .f32) (harg6 : arg6.IsWhole) (arg7 : Memref sig .tc .vmem S1x1024x1792 .f32) (harg7 : arg7.IsWhole) (arg8 : Memref sig .tc .vmem S1x1024x1792 .f32) (harg8 : arg8.IsWhole) (arg9 : Memref sig .tc .vmem S512x1792 .bf16) (harg9 : arg9.IsWhole) (arg10 : Memref sig .tc .vmem S1024x1792 .bf16) (harg10 : arg10.IsWhole) (arg11 : Memref sig .tc .vmem S1024x1792 .bf16) (harg11 : arg11.IsWhole)
    (x0 : Vec F S512x1024 .f32) (x1 x2 : Vec F S1x1024x1792 .f32) (s₁ s₂ s₁' s₂' : Vec F S1024x1792 .bf16) (o : Vec F S512x1792 .bf16)
    (f4 : Buf (Elt F) (arg4.view.loc (c : Thread nD τ))) (f5 : Buf (Elt F) (arg5.view.loc (c : Thread nD τ)))
    (hs : (wordAt c arg4 f4 (k0_off1 i) (Gen.k0_off1_inb i) = 1#32 ∧ s₁' = rounded x1 ∧ s₂' = rounded x2)
      ∨ (wordAt c arg4 f4 (k0_off1 i) (Gen.k0_off1_inb i) ≠ 1#32 ∧ s₁' = s₁ ∧ s₂' = s₂))
    (ho : (wordAt c arg5 f5 (k0_off6 i) (Gen.k0_off6_inb i) = 1#32 ∧ o = gated x0 s₁' s₂')
      ∨ (wordAt c arg5 f5 (k0_off6 i) (Gen.k0_off6_inb i) = 0#32 ∧ o = zeros))
    (K : PUnit → sProp 𝕄) :
    iprop((arg4.view.loc (c : Thread nD τ) ↦{fullShare.right} f4) ∗ (arg5.view.loc (c : Thread nD τ) ↦{fullShare.right} f5)
        ∗ owns (c : Thread nD τ) arg6 fullShare x0 ∗ owns (c : Thread nD τ) arg7 fullShare x1 ∗ owns (c : Thread nD τ) arg8 fullShare x2
        ∗ (∃ d, owns (c : Thread nD τ) arg9 fullShare d) ∗ owns (c : Thread nD τ) arg10 fullShare s₁ ∗ owns (c : Thread nD τ) arg11 fullShare s₂
        ∗ (iprop((arg4.view.loc (c : Thread nD τ) ↦{fullShare.right} f4) ∗ (arg5.view.loc (c : Thread nD τ) ↦{fullShare.right} f5)
          ∗ owns (c : Thread nD τ) arg6 fullShare x0 ∗ owns (c : Thread nD τ) arg7 fullShare x1 ∗ owns (c : Thread nD τ) arg8 fullShare x2
          ∗ owns (c : Thread nD τ) arg9 fullShare o ∗ owns (c : Thread nD τ) arg10 fullShare s₁' ∗ owns (c : Thread nD τ) arg11 fullShare s₂') -∗ K ⟨⟩))
      ⊢ wp frame (wpE (defs₀ (F := F)) Variants.none c none) E (cc0_experts_up i arg1 harg1 arg2 harg2 arg3 harg3 arg4 harg4 arg5 harg5 arg6 harg6 arg7 harg7 arg8 harg8 arg9 harg9 arg10 harg10 arg11 harg11) K := by
  simp only [cc0_experts_up_eq_skeleton]; unfold cc0_experts_up_skel
  simp only [k0_part1_eq_skeleton, k0_part2_eq_skeleton, k0_part3_eq_skeleton]
  unfold owns
  iintro ⟨H4, H5, ⟨%g0, %hg0, H6⟩, ⟨%g1, %hg1, H7⟩, ⟨%g2, %hg2, H8⟩, ⟨%d3, %g3, -, H9⟩, ⟨%g4, %hg4, H10⟩, ⟨%g5, %hg5, H11⟩, Hk⟩
  subst hg0 hg1 hg2 hg4 hg5
  rcases hs with ⟨h4, rfl, rfl⟩ | ⟨h4, rfl, rfl⟩
  · have hc := cond2_of_one h4
    rcases ho with ⟨h5, rfl⟩ | ⟨h5, rfl⟩
    · have hv := cond2_of_one h5
      have hw := cond3_of_one h5
      sl_exec (disch := first | sl_exact hc | sl_exact hv | sl_exact hw)
      sl_step
      iapply Hk
      isplitl [H4]; · iexact H4
      isplitl [H5]; · iexact H5
      isplitl [H6]
      · iexists g0; isplitr; · ipureintro; rfl
        iexact H6
      isplitl [H7]
      · iexists g1; isplitr; · ipureintro; rfl
        iexact H7
      isplitl [H8]
      · iexists g2; isplitr; · ipureintro; rfl
        iexact H8
      isplitl [H9]
      · iexists _; isplitr
        swap; · iexact H9
        ipureintro
        exact (gated_read arg6.view arg9.view arg10.view arg11.view g0 g3 _ _).trans (by rw [scratch_read1, scratch_read2])
      isplitl [H10]
      · iexists _; isplitr
        swap; · iexact H10
        ipureintro
        exact scratch_read1 ..
      · iexists _; isplitr
        swap; · iexact H11
        ipureintro
        exact scratch_read2 ..
    · have hv := cond2_of_ne (w := wordAt c arg5 f5 (k0_off6 i) (Gen.k0_off6_inb i)) (by rw [h5]; decide)
      have hw := cond3_of_zero h5
      sl_exec (disch := first | sl_exact hc | sl_exact hv | sl_exact hw)
      sl_step
      iapply Hk
      isplitl [H4]; · iexact H4
      isplitl [H5]; · iexact H5
      isplitl [H6]
      · iexists g0; isplitr; · ipureintro; rfl
        iexact H6
      isplitl [H7]
      · iexists g1; isplitr; · ipureintro; rfl
        iexact H7
      isplitl [H8]
      · iexists g2; isplitr; · ipureintro; rfl
        iexact H8
      isplitl [H9]
      · iexists _; isplitr
        swap; · iexact H9
        ipureintro
        exact zeros_read ..
      isplitl [H10]
      · iexists _; isplitr
        swap; · iexact H10
        ipureintro
        exact scratch_read1 ..
      · iexists _; isplitr
        swap; · iexact H11
        ipureintro
        exact scratch_read2 ..
  · have hc := cond2_of_ne h4
    rcases ho with ⟨h5, rfl⟩ | ⟨h5, rfl⟩
    · have hv := cond2_of_one h5
      have hw := cond3_of_one h5
      sl_exec (disch := first | sl_exact hc | sl_exact hv | sl_exact hw)
      sl_step
      iapply Hk
      isplitl [H4]; · iexact H4
      isplitl [H5]; · iexact H5
      isplitl [H6]
      · iexists g0; isplitr; · ipureintro; rfl
        iexact H6
      isplitl [H7]
      · iexists g1; isplitr; · ipureintro; rfl
        iexact H7
      isplitl [H8]
      · iexists g2; isplitr; · ipureintro; rfl
        iexact H8
      isplitl [H9]
      · iexists _; isplitr
        swap; · iexact H9
        ipureintro
        exact (gated_read arg6.view arg9.view arg10.view arg11.view g0 g3 _ _)
      isplitl [H10]
      · iexists _; isplitr
        swap; · iexact H10
        ipureintro
        exact rfl
      · iexists _; isplitr
        swap; · iexact H11
        ipureintro
        exact rfl
    · have hv := cond2_of_ne (w := wordAt c arg5 f5 (k0_off6 i) (Gen.k0_off6_inb i)) (by rw [h5]; decide)
      have hw := cond3_of_zero h5
      sl_exec (disch := first | sl_exact hc | sl_exact hv | sl_exact hw)
      sl_step
      iapply Hk
      isplitl [H4]; · iexact H4
      isplitl [H5]; · iexact H5
      isplitl [H6]
      · iexists g0; isplitr; · ipureintro; rfl
        iexact H6
      isplitl [H7]
      · iexists g1; isplitr; · ipureintro; rfl
        iexact H7
      isplitl [H8]
      · iexists g2; isplitr; · ipureintro; rfl
        iexact H8
      isplitl [H9]
      · iexists _; isplitr
        swap; · iexact H9
        ipureintro
        exact zeros_read ..
      isplitl [H10]
      · iexists _; isplitr
        swap; · iexact H10
        ipureintro
        exact rfl
      · iexists _; isplitr
        swap; · iexact H11
        ipureintro
        exact rfl

end Up

end
-- ==== Proof.UpFrame.lean ====
/- The experts' up projection up to its grid: the host operations that compute the five routing tables, the
   tables' contents as the grid finds them, the property of them the grid needs (`Good`), and each window's block
   at a grid point. -/
module

public import proofs.«01_k».proof.Proof.UpBody

@[expose] public section

set_option maxRecDepth 16384

noncomputable section

namespace Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host operations before the grid -/

/-- The host operations, stretch by stretch. -/
abbrev hostOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]

/-- Core `c`'s buffers when the grid is entered. -/
abbrev V (c : Dev nD) (b : Ref sig .tc) : Buf (Elt F) ((c : Thread nD τ).loc b) :=
  StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- The program up to the grid: the host operations, stretch by stretch. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩ hostOps_fresh main_chain

set_option maxHeartbeats 1600000 in
/-- No host operation writes the tile counts. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1600000 in
/-- No host operation writes the activations. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1600000 in
/-- No host operation writes the gate weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1600000 in
/-- No host operation writes the up weights. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The five tables' contents when the grid is entered. -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-! ## What the grid needs of the tables -/

variable (pf : pre0.Contents (Elt F))

/-- The tile of activations read at grid point `t`. -/
def tileAt (t : Fin 112) : BitVec 32 := pf 0 (ix1 t)
/-- The half of the columns that grid point `t` computes. -/
def halfAt (t : Fin 112) : BitVec 32 := pf 1 (ix1 t)
/-- The expert whose weights are read at grid point `t`. -/
def expertAt (t : Fin 112) : BitVec 32 := pf 2 (ix1 t)
/-- The flag of the first tile of an expert's half. -/
def firstAt (t : Fin 112) : BitVec 32 := pf 3 (ix1 t)
/-- The flag of a tile in use. -/
def validAt (t : Fin 112) : BitVec 32 := pf 4 (ix1 t)

/-- What the grid needs of the tables: tiles, halves and experts are inside the arrays; the valid flag is 0 or 1; a grid
point whose tile is in use, unless it is the first of its expert's half, comes after one of the same expert and half
whose tile is in use; and no two grid points have the same tile and half. -/
structure Good : Prop where
  tile_lt : ∀ t, (tileAt pf t).toNat < 56
  half_lt : ∀ t, (halfAt pf t).toNat < 2
  expert_lt : ∀ t, (expertAt pf t).toNat < 8
  flag : ∀ t, validAt pf t = 1#32 ∨ validAt pf t = 0#32
  carry : ∀ t : Fin 112, validAt pf t = 1#32 → firstAt pf t ≠ 1#32 →
    ∃ t' : Fin 112, t'.val + 1 = t.val ∧ validAt pf t' = 1#32 ∧ expertAt pf t' = expertAt pf t ∧ halfAt pf t' = halfAt pf t
  inj : ∀ t t' : Fin 112, tileAt pf t = tileAt pf t' → halfAt pf t = halfAt pf t' → t = t'

/-- The half of the weights' columns read at grid point `t`: that of the output where the tile is in use. -/
def weightHalf (t : Fin 112) : BitVec 32 := Scalar.select (Scalar.cmpi .eq (validAt pf t) 1#32) (halfAt pf t) 1#32

theorem weightHalf_valid {t : Fin 112} (h : validAt pf t = 1#32) : weightHalf pf t = halfAt pf t := by
  unfold weightHalf; rw [h]; rfl

theorem Good.weightHalf_lt {pf : pre0.Contents (Elt F)} (h : Good pf) (t : Fin 112) : (weightHalf pf t).toNat < 2 := by
  have := h.half_lt t
  rcases h.flag t with hv | hv
  · rwa [weightHalf_valid pf hv]
  · unfold weightHalf; rw [hv]; exact (by decide : (1#32 : BitVec 32).toNat < 2)

/-- The grid point `t`'s only coordinate, as an index of a table. -/
theorem coords_val (t : Fin grid0.N) : (grid0.coords t 0).val = t.val :=
  (by decide +kernel : ∀ t : Fin grid0.N, (grid0.coords t 0).val = t.val) t

/-- A table's word at a grid point's coordinate. -/
abbrev pointOf (i : grid0.Coords) : Fin 112 := i 0

theorem emb_off1 (i : grid0.Coords) (x : (Rect.unit (s := S112) (k0_off1 i) S1.size (Gen.k0_off1_inb i)).shape.Idx) :
    (Rect.unit (s := S112) (k0_off1 i) S1.size (Gen.k0_off1_inb i)).emb x = ix1 (pointOf i) := by
  funext a
  apply Fin.ext
  match a with
  | ⟨0, _⟩ =>
    have e : k0_off1 i 0 = (i 0).val := congrFun (k0_off1_eq i) 0
    have hx : (x 0).val = 0 := by have := (x 0).isLt; change (x 0).val < 1 at this; omega
    show k0_off1 i 0 + 1 * (x 0).val = (i 0).val
    omega

theorem transform_0_eq (i : grid0.Coords) :
    cc0_transform_0 Gen.k0_off1_inb Gen.numel1_S1 (pf) i = ![(tileAt pf (pointOf i)).toNat, 0] := by
  unfold cc0_transform_0 tileAt
  rw [← emb_off1 i (Shape.Idx.first (Gen.numel1_S1.symm ▸ Nat.one_pos))]
  rfl

theorem transform_1_eq (i : grid0.Coords) :
    cc0_transform_1 Gen.k0_off1_inb Gen.numel1_S1 (pf) i = ![(expertAt pf (pointOf i)).toNat, 0, (weightHalf pf (pointOf i)).toNat] := by
  unfold cc0_transform_1 weightHalf expertAt halfAt validAt
  rw [← emb_off1 i (Shape.Idx.first (Gen.numel1_S1.symm ▸ Nat.one_pos))]
  rfl

theorem transform_3_eq (i : grid0.Coords) :
    cc0_transform_3 Gen.k0_off1_inb Gen.numel1_S1 (pf) i = ![(tileAt pf (pointOf i)).toNat, (halfAt pf (pointOf i)).toNat] := by
  unfold cc0_transform_3 tileAt halfAt
  rw [← emb_off1 i (Shape.Idx.first (Gen.numel1_S1.symm ▸ Nat.one_pos))]
  rfl

theorem Good.weights_inb {pf : pre0.Contents (Elt F)} (h : Good pf) (i : grid0.Coords) (a : Fin 3) :
    (cc0_transform_1 Gen.k0_off1_inb Gen.numel1_S1 (pf) i a + 1) * S1x1024x1792.size a ≤ S8x1024x3584.size a := by
  have e := congrFun (transform_1_eq pf i) a
  have hl := h.expert_lt (pointOf i)
  have hh := h.weightHalf_lt (pointOf i)
  refine (congrArg (fun n => (n + 1) * S1x1024x1792.size a) e).trans_le ?_
  match a with
  | ⟨0, _⟩ => show ((expertAt pf (pointOf i)).toNat + 1) * 1 ≤ 8; omega
  | ⟨1, _⟩ => show (0 + 1) * 1024 ≤ 1024; omega
  | ⟨2, _⟩ => show ((weightHalf pf (pointOf i)).toNat + 1) * 1792 ≤ 3584; omega

theorem Good.ok {pf : pre0.Contents (Elt F)} (h : Good pf) : ok0 (F := F) (pf) := by
  unfold ok0
  refine ⟨fun i => ⟨fun a => ?_, .inl rfl⟩, fun i => ⟨h.weights_inb i, .inl rfl⟩, fun i => ⟨h.weights_inb i, .inl rfl⟩,
    fun i => ⟨fun a => ?_, .inr (Affine.block_words_dvd (of_decide_eq_true rfl) (by decide))⟩⟩
  · have e := congrFun (transform_0_eq pf i) a
    have hl := h.tile_lt (pointOf i)
    refine (congrArg (fun n => (n + 1) * S512x1024.size a) e).trans_le ?_
    match a with
    | ⟨0, _⟩ => show ((tileAt pf (pointOf i)).toNat + 1) * 512 ≤ 28672; omega
    | ⟨1, _⟩ => show (0 + 1) * 1024 ≤ 1024; omega
  · have e := congrFun (transform_3_eq pf i) a
    have hl := h.tile_lt (pointOf i)
    have hh := h.half_lt (pointOf i)
    refine (congrArg (fun n => (n + 1) * S512x1792.size a) e).trans_le ?_
    match a with
    | ⟨0, _⟩ => show ((tileAt pf (pointOf i)).toNat + 1) * 512 ≤ 28672; omega
    | ⟨1, _⟩ => show ((halfAt pf (pointOf i)).toNat + 1) * 1792 ≤ 3584; omega

/-- The tables as the grid's admissible contents. -/
abbrev adm (hG : Good pf) : (p : Fin 1) → (pcfgs (F := F) p).Adm := fun _ => ⟨pf, hG.ok⟩
/-- The pipeline at these tables. -/
abbrev cfgM (hG : Good pf) : Cfg sig Λ₀ := cfg0 (adm pf hG 0)

/-! ## The windows' blocks -/

variable (hG : Good pf) (B : (c : Dev nD) → (b : Ref sig .tc) → Buf (Elt F) ((c : Thread nD τ).loc b))

/-- Window `w`'s block at point `t`, read off its array as the grid finds it. -/
def iblk (c : Dev nD) (w : Fin (cfgM pf hG).W) (t : Fin (cfgM pf hG).N) :
    (((cfgM pf hG).win w).xblock ((cfgM pf hG).grid.coords t)).Idx → Elt F ((cfgM pf hG).win w).elt :=
  (((cfgM pf hG).win w).blk t).view.read (Elt F) (B c (Pipeline.arrRef spec0 w))

/-- A grid point as a number below 112. -/
abbrev pt (t : Fin (cfgM pf hG).N) : Fin 112 := ⟨t.val, t.isLt⟩

theorem pointOf_coords (t : Fin (cfgM pf hG).N) : pointOf ((cfgM pf hG).grid.coords t) = pt pf hG t :=
  Fin.ext (coords_val t)

theorem idx_0 (t : Fin (cfgM pf hG).N) : (win0 (adm pf hG 0) 0).index t = ![(tileAt pf (pt pf hG t)).toNat, 0] := by
  rw [← pointOf_coords]; exact transform_0_eq pf _
theorem idx_1 (t : Fin (cfgM pf hG).N) :
    (win0 (adm pf hG 0) 1).index t = ![(expertAt pf (pt pf hG t)).toNat, 0, (weightHalf pf (pt pf hG t)).toNat] := by
  rw [← pointOf_coords]; exact transform_1_eq pf _
theorem idx_2 (t : Fin (cfgM pf hG).N) :
    (win0 (adm pf hG 0) 2).index t = ![(expertAt pf (pt pf hG t)).toNat, 0, (weightHalf pf (pt pf hG t)).toNat] := by
  rw [← pointOf_coords]; exact transform_1_eq pf _
theorem idx_3 (t : Fin (cfgM pf hG).N) :
    (win0 (adm pf hG 0) 3).index t = ![(tileAt pf (pt pf hG t)).toNat, (halfAt pf (pt pf hG t)).toNat] := by
  rw [← pointOf_coords]; exact transform_3_eq pf _

/-- The block of an array of weights that a grid point reads. -/
def weightsOf (A : Vec F S8x1024x3584 .f32) (t : Fin 112) : Vec F S1x1024x1792 .f32 := fun y : S1x1024x1792.Idx =>
  A (ix3 (⟨(expertAt pf t).toNat, hG.expert_lt _⟩ : Fin 8) (y 1) (⟨(weightHalf pf t).toNat * 1792 + (y 2).val, by
    have := hG.weightHalf_lt t; have := (y 2).isLt; change (y 2).val < 1792 at this; omega⟩ : Fin 3584))

theorem gate_block (c : Dev nD) (t : Fin (cfgM pf hG).N) :
    (iblk pf hG B c 1 t : Vec F S1x1024x1792 .f32) = weightsOf pf hG (B c main_arg2) (pt pf hG t) := by
  funext (y : S1x1024x1792.Idx)
  show B c main_arg2 ((((cfgM pf hG).win 1).rect t).emb y) = _
  refine congrArg (B c main_arg2) (funext fun a => Fin.ext ?_)
  have e := congrFun (idx_1 pf hG t) a
  show (win0 (adm pf hG 0) 1).index t a * S1x1024x1792.size a + 1 * (y a).val = _
  rw [e]
  match a with
  | ⟨0, _⟩ => have := (y 0).isLt; change (y 0).val < 1 at this; show (expertAt pf (pt pf hG t)).toNat * 1 + 1 * (y 0).val = (expertAt pf (pt pf hG t)).toNat; omega
  | ⟨1, _⟩ => show 0 * 1024 + 1 * (y 1).val = (y 1).val; omega
  | ⟨2, _⟩ => show (weightHalf pf (pt pf hG t)).toNat * 1792 + 1 * (y 2).val = (weightHalf pf (pt pf hG t)).toNat * 1792 + (y 2).val; omega

theorem up_block (c : Dev nD) (t : Fin (cfgM pf hG).N) :
    (iblk pf hG B c 2 t : Vec F S1x1024x1792 .f32) = weightsOf pf hG (B c main_arg3) (pt pf hG t) := by
  funext (y : S1x1024x1792.Idx)
  show B c main_arg3 ((((cfgM pf hG).win 2).rect t).emb y) = _
  refine congrArg (B c main_arg3) (funext fun a => Fin.ext ?_)
  have e := congrFun (idx_2 pf hG t) a
  show (win0 (adm pf hG 0) 2).index t a * S1x1024x1792.size a + 1 * (y a).val = _
  rw [e]
  match a with
  | ⟨0, _⟩ => have := (y 0).isLt; change (y 0).val < 1 at this; show (expertAt pf (pt pf hG t)).toNat * 1 + 1 * (y 0).val = (expertAt pf (pt pf hG t)).toNat; omega
  | ⟨1, _⟩ => show 0 * 1024 + 1 * (y 1).val = (y 1).val; omega
  | ⟨2, _⟩ => show (weightHalf pf (pt pf hG t)).toNat * 1792 + 1 * (y 2).val = (weightHalf pf (pt pf hG t)).toNat * 1792 + (y 2).val; omega

/-- The activation block of a grid point is the rows of its tile. -/
theorem act_block (c : Dev nD) (t : Fin (cfgM pf hG).N) :
    (iblk pf hG B c 0 t : Vec F S512x1024 .f32)
      = fun y : S512x1024.Idx => B c main_arg1 (ix2 (⟨(tileAt pf (pt pf hG t)).toNat * 512 + (y 0).val, by
          have := hG.tile_lt (pt pf hG t); have := (y 0).isLt; change (y 0).val < 512 at this; omega⟩ : Fin 28672) (y 1)) := by
  funext (y : S512x1024.Idx)
  show B c main_arg1 ((((cfgM pf hG).win 0).rect t).emb y) = _
  refine congrArg (B c main_arg1) (funext fun a => Fin.ext ?_)
  have e := congrFun (idx_0 pf hG t) a
  show (win0 (adm pf hG 0) 0).index t a * S512x1024.size a + 1 * (y a).val = _
  rw [e]
  match a with
  | ⟨0, _⟩ => show (tileAt pf (pt pf hG t)).toNat * 512 + 1 * (y 0).val = (tileAt pf (pt pf hG t)).toNat * 512 + (y 0).val; omega
  | ⟨1, _⟩ => show 0 * 1024 + 1 * (y 1).val = (y 1).val; omega

/-- Two grid points of the same expert and half, both of tiles in use, read the same weights. -/
theorem weightsOf_congr (A : Vec F S8x1024x3584 .f32) (t t' : Fin 112) (he : expertAt pf t' = expertAt pf t) (hh : halfAt pf t' = halfAt pf t)
    (hv : validAt pf t = 1#32) (hv' : validAt pf t' = 1#32) : weightsOf pf hG A t' = weightsOf pf hG A t := by
  funext y
  unfold weightsOf
  refine congrArg A (congrArg₂ (fun e f => ix3 e (y 1) f) (Fin.ext (congrArg BitVec.toNat he)) (Fin.ext ?_))
  show (weightHalf pf t').toNat * 1792 + _ = (weightHalf pf t).toNat * 1792 + _
  rw [weightHalf_valid pf hv, weightHalf_valid pf hv', hh]

end Up

end
-- ==== Proof.UpRun.lean ====
/- The run of the experts' up projection, for any tables the grid can use: the two scratch memories carry the rounded
   gate and up weights of the last pair's expert and half from one grid point to the next, and every output block is
   the gated product of its activations with those weights, or zero where the tile is not in use. -/
module

public import proofs.«01_k».proof.Proof.UpFrame

@[expose] public section

set_option maxRecDepth 16384

noncomputable section

namespace Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F)) (hG : Good pf)
  (B : (c : Dev nD) → (b : Ref sig .tc) → Buf (Elt F) ((c : Thread nD τ).loc b))

/-- The output block of a grid point. -/
def outBlock (c : Dev nD) (t : Fin (cfgM pf hG).N) : Vec F S512x1792 .bf16 :=
  if validAt pf (pt pf hG t) = 1#32 then gated (iblk pf hG B c 0 t) (rounded (iblk pf hG B c 1 t)) (rounded (iblk pf hG B c 2 t)) else zeros

/-- What is known of the scratch memories before point `s`: if the point before is of a tile in use, they hold that
point's weights, rounded. -/
def Carried (c : Dev nD) (s : ℕ) (X Y : Vec F S1024x1792 .bf16) : Prop :=
  ∀ t : Fin (cfgM pf hG).N, t.val + 1 = s → validAt pf (pt pf hG t) = 1#32 →
    X = rounded (iblk pf hG B c 1 t) ∧ Y = rounded (iblk pf hG B c 2 t)

/-- The table `j`'s word memory, half of it held by the body. -/
abbrev tablesHeld (c : Dev nD) : sProp 𝕄 :=
  iprop(((Memref.whole main_v60).view.loc (c : Thread nD τ) ↦{fullShare.right} pf 0)
    ∗ ((Memref.whole main_v63).view.loc (c : Thread nD τ) ↦{fullShare.right} pf 1)
    ∗ ((Memref.whole main_v64).view.loc (c : Thread nD τ) ↦{fullShare.right} pf 2)
    ∗ ((Memref.whole main_v69).view.loc (c : Thread nD τ) ↦{fullShare.right} pf 3)
    ∗ ((Memref.whole main_v70).view.loc (c : Thread nD τ) ↦{fullShare.right} pf 4))

theorem tablesHeld_eq (c : Dev nD) : (Pipeline.ΦT pre0 pf c : sProp 𝕄) = tablesHeld pf c := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-- The invariant before point `s`. -/
abbrev inv (c : Dev nD) (s : ℕ) : sProp 𝕄 :=
  iprop((∃ X Y, ⌜Carried pf hG B c s X Y⌝ ∗ owns (c : Thread nD τ) (Memref.whole cc0_scratch0) fullShare X
      ∗ owns (c : Thread nD τ) (Memref.whole cc0_scratch1) fullShare Y)
    ∗ (∃ r : PrngReg, prngReg c r) ∗ tablesHeld pf c)

/-- The proof data: the arrays as the grid finds them; the inputs' buffers keep their blocks; the output's buffer
holds the output block. -/
def dats (_ : Fin 1) (c : Dev nD) : Dat τ (Elt F) Unit ℕ (UR sig nD τ) ℕ (cfgM pf hG) c where
  A w := B c (Pipeline.arrRef spec0 w)
  after w t := match w with
    | ⟨0, _⟩ => iblk pf hG B c 0 t
    | ⟨1, _⟩ => iblk pf hG B c 1 t
    | ⟨2, _⟩ => iblk pf hG B c 2 t
    | ⟨3, _⟩ => outBlock pf hG B c t
  Φ t := inv pf hG B c t.val
  q _ := fullShare
  owed _ := 0

theorem A_eq (c : Dev nD) (w : Fin 4) : (dats pf hG B 0 c).A w = B c (Pipeline.arrRef spec0 w) := by dsimp only [dats]

theorem after_0 (c : Dev nD) (t : Fin (cfgM pf hG).N) : (dats pf hG B 0 c).after 0 t = iblk pf hG B c 0 t := by dsimp only [dats]; rfl
theorem after_1 (c : Dev nD) (t : Fin (cfgM pf hG).N) : (dats pf hG B 0 c).after 1 t = iblk pf hG B c 1 t := by dsimp only [dats]; rfl
theorem after_2 (c : Dev nD) (t : Fin (cfgM pf hG).N) : (dats pf hG B 0 c).after 2 t = iblk pf hG B c 2 t := by dsimp only [dats]; rfl
theorem after_3 (c : Dev nD) (t : Fin (cfgM pf hG).N) : (dats pf hG B 0 c).after 3 t = outBlock pf hG B c t := by dsimp only [dats]; rfl

theorem before_0 (c : Dev nD) (t : Fin (cfgM pf hG).N) (d) : (dats pf hG B 0 c).before 0 t d = iblk pf hG B c 0 t :=
  ((dats pf hG B 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM pf hG).N) (d) : (dats pf hG B 0 c).before 1 t d = iblk pf hG B c 1 t :=
  ((dats pf hG B 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM pf hG).N) (d) : (dats pf hG B 0 c).before 2 t d = iblk pf hG B c 2 t :=
  ((dats pf hG B 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body at a grid point -/

abbrev stage_0 (t : Fin (cfgM pf hG).N) := ((cfgM pf hG).win 0).stage ((cfgM pf hG).slots t 0)
abbrev stage_1 (t : Fin (cfgM pf hG).N) := ((cfgM pf hG).win 1).stage ((cfgM pf hG).slots t 1)
abbrev stage_2 (t : Fin (cfgM pf hG).N) := ((cfgM pf hG).win 2).stage ((cfgM pf hG).slots t 2)
abbrev stage_3 (t : Fin (cfgM pf hG).N) := ((cfgM pf hG).win 3).stage ((cfgM pf hG).slots t 3)

/-- The body's call at a grid point. -/
def bodyAt (t : Fin (cfgM pf hG).N) :=
  cc0_experts_up (F := F) (grid0.coords t) (Memref.whole main_v60) (Memref.isWhole_whole _) (Memref.whole main_v63) (Memref.isWhole_whole _)
    (Memref.whole main_v64) (Memref.isWhole_whole _) (Memref.whole main_v69) (Memref.isWhole_whole _) (Memref.whole main_v70) (Memref.isWhole_whole _)
    (stage_0 pf hG t) (hstage0_0 (((cfgM pf hG).slots t 0).cast nbuf0_0))
    (stage_1 pf hG t) (hstage0_1 (((cfgM pf hG).slots t 1).cast nbuf0_1))
    (stage_2 pf hG t) (hstage0_2 (((cfgM pf hG).slots t 2).cast nbuf0_2))
    (stage_3 pf hG t) (hstage0_3 (((cfgM pf hG).slots t 3).cast nbuf0_3))
    (Memref.whole cc0_scratch0) (Memref.isWhole_whole _) (Memref.whole cc0_scratch1) (Memref.isWhole_whole _)

/-- The word the body reads from the first-flag table. -/
theorem word_first (c : Dev nD) (t : Fin (cfgM pf hG).N) :
    wordAt (F := F) c (Memref.whole main_v69) (pf 3) (k0_off1 (grid0.coords t)) (Gen.k0_off1_inb (grid0.coords t))
      = firstAt pf (pt pf hG t) := by
  unfold firstAt
  rw [← pointOf_coords, ← emb_off1 (grid0.coords t) (Shape.Idx.first (Gen.numel1_S1.symm ▸ Nat.one_pos))]
  rfl

/-- The word the body reads from the valid-flag table. -/
theorem word_valid (c : Dev nD) (t : Fin (cfgM pf hG).N) :
    wordAt (F := F) c (Memref.whole main_v70) (pf 4) (k0_off6 (grid0.coords t)) (Gen.k0_off6_inb (grid0.coords t))
      = validAt pf (pt pf hG t) := by
  unfold validAt
  rw [← pointOf_coords, ← emb_off1 (grid0.coords t) (Shape.Idx.first (Gen.numel1_S1.symm ▸ Nat.one_pos))]
  rfl

/-- A scratch memory after a grid point, where the point's weights are `W`. -/
def scratchAfter (t : Fin (cfgM pf hG).N) (W : Vec F S1x1024x1792 .f32) (X : Vec F S1024x1792 .bf16) : Vec F S1024x1792 .bf16 :=
  if firstAt pf (pt pf hG t) = 1#32 then rounded W else X

theorem scratchAfter_valid (c : Dev nD) (t : Fin (cfgM pf hG).N) (X Y : Vec F S1024x1792 .bf16) (hX : Carried pf hG B c t.val X Y)
    (hv : validAt pf (pt pf hG t) = 1#32) :
    scratchAfter pf hG t (iblk pf hG B c 1 t) X = rounded (iblk pf hG B c 1 t)
      ∧ scratchAfter pf hG t (iblk pf hG B c 2 t) Y = rounded (iblk pf hG B c 2 t) := by
  unfold scratchAfter
  by_cases hf : firstAt pf (pt pf hG t) = 1#32
  · exact ⟨if_pos hf, if_pos hf⟩
  · rw [if_neg hf, if_neg hf]
    obtain ⟨t', ht', hv', he, hh⟩ := hG.carry _ hv hf
    have hl : t'.val < (cfgM pf hG).N := t'.isLt
    obtain ⟨h1, h2⟩ := hX ⟨t'.val, hl⟩ ht' hv'
    rw [h1, h2]
    refine ⟨congrArg rounded ?_, congrArg rounded ?_⟩
    · refine (gate_block pf hG B c ⟨t'.val, hl⟩).trans (Eq.trans ?_ (gate_block pf hG B c t).symm)
      exact weightsOf_congr pf hG _ _ _ he hh hv hv'
    · refine (up_block pf hG B c ⟨t'.val, hl⟩).trans (Eq.trans ?_ (up_block pf hG B c t).symm)
      exact weightsOf_congr pf hG _ _ _ he hh hv hv'

theorem scratchAfter_carried (c : Dev nD) (t : Fin (cfgM pf hG).N) (X Y : Vec F S1024x1792 .bf16) (hX : Carried pf hG B c t.val X Y) :
    Carried pf hG B c (t.val + 1) (scratchAfter pf hG t (iblk pf hG B c 1 t) X) (scratchAfter pf hG t (iblk pf hG B c 2 t) Y) := by
  intro t' ht' hv
  obtain rfl : t' = t := Fin.ext (by omega)
  exact scratchAfter_valid pf hG B c t' X Y hX hv

/-- What the body is called with at point `t`, -/
def bodyPre (c : Dev nD) (t : Fin (cfgM pf hG).N) : sProp 𝕄 :=
  iprop((dats pf hG B 0 c).Φ t.castSucc ∗ (dats pf hG B 0 c).owesAt () t.castSucc
    ∗ (∃ d, owns (c : Thread nD τ) (stage_0 pf hG t) fullShare ((dats pf hG B 0 c).before 0 t d))
    ∗ (∃ d, owns (c : Thread nD τ) (stage_1 pf hG t) fullShare ((dats pf hG B 0 c).before 1 t d))
    ∗ (∃ d, owns (c : Thread nD τ) (stage_2 pf hG t) fullShare ((dats pf hG B 0 c).before 2 t d))
    ∗ (∃ d, owns (c : Thread nD τ) (stage_3 pf hG t) fullShare ((dats pf hG B 0 c).before 3 t d)))

/-- and what it returns. -/
def bodyPost (c : Dev nD) (t : Fin (cfgM pf hG).N) : sProp 𝕄 :=
  iprop((dats pf hG B 0 c).Φ t.succ ∗ (dats pf hG B 0 c).owesAt () t.succ
    ∗ owns (c : Thread nD τ) (stage_0 pf hG t) fullShare ((dats pf hG B 0 c).after 0 t)
    ∗ owns (c : Thread nD τ) (stage_1 pf hG t) fullShare ((dats pf hG B 0 c).after 1 t)
    ∗ owns (c : Thread nD τ) (stage_2 pf hG t) fullShare ((dats pf hG B 0 c).after 2 t)
    ∗ owns (c : Thread nD τ) (stage_3 pf hG t) fullShare ((dats pf hG B 0 c).after 3 t))

theorem Phi_eq (c : Dev nD) (s : Fin ((cfgM pf hG).N + 1)) : (dats pf hG B 0 c).Φ s = inv pf hG B c s.val := by dsimp only [dats]

theorem sound_body (c : Dev nD) (t : Fin (cfgM pf hG).N) :
    bodyPre pf hG B c t ⊢ wp frame (wpE (defs₀ (F := F)) Variants.none c none) Set.univ (bodyAt pf hG t) (fun _ => bodyPost pf hG B c t) := by
  unfold bodyPre bodyPost bodyAt
  simp only [before_0, before_1, before_2]
  rw [Phi_eq, Phi_eq, show (dats pf hG B 0 c).owesAt () t.succ = (dats pf hG B 0 c).owesAt () t.castSucc from rfl,
    after_0, after_1, after_2, after_3]
  iintro ⟨⟨⟨%X, %Y, %hX, HX, HY⟩, Hr, ⟨T0, T1, T2, T3, T4⟩⟩, Ho, ⟨%d0, H0⟩, ⟨%d1, H1⟩, ⟨%d2, H2⟩, ⟨%d3, H3⟩⟩
  have hX' : Carried pf hG B c t.val X Y := hX
  iapply (sound_kernel c Set.univ (grid0.coords t) _ _ _ _ _ _ _ _ _ _ _ _ _ _ _ _ _ _ _ _ _ _ (iblk pf hG B c 0 t) (iblk pf hG B c 1 t)
    (iblk pf hG B c 2 t) X Y (scratchAfter pf hG t (iblk pf hG B c 1 t) X) (scratchAfter pf hG t (iblk pf hG B c 2 t) Y)
    (outBlock pf hG B c t) (pf 3) (pf 4)
    (by
      rw [word_first]
      unfold scratchAfter
      by_cases hf : firstAt pf (pt pf hG t) = 1#32
      · exact .inl ⟨hf, if_pos hf, if_pos hf⟩
      · exact .inr ⟨hf, if_neg hf, if_neg hf⟩)
    (by
      rw [word_valid]
      unfold outBlock
      rcases hG.flag (pt pf hG t) with hv | hv
      · have hs := scratchAfter_valid pf hG B c t X Y hX' hv
        exact .inl ⟨hv, by rw [if_pos hv, hs.1, hs.2]⟩
      · exact .inr ⟨hv, if_neg (by rw [hv]; decide)⟩) _)
  isplitl [T3]; · iexact T3
  isplitl [T4]; · iexact T4
  isplitl [H0]; · iexact H0
  isplitl [H1]; · iexact H1
  isplitl [H2]; · iexact H2
  isplitl [H3]; · iexists _; iexact H3
  isplitl [HX]; · iexact HX
  isplitl [HY]; · iexact HY
  iintro ⟨T3, T4, H0, H1, H2, H3, HX, HY⟩
  isplitl [HX HY Hr T0 T1 T2 T3 T4]
  · isplitl [HX HY]
    · iexists _; iexists _; isplitr
      swap
      · isplitl [HX]; · iexact HX
        iexact HY
      ipureintro
      exact scratchAfter_carried pf hG B c t X Y hX'
    isplitl [Hr]; · iexact Hr
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  iexact H3

theorem defs₀_row (t : Fin (cfgM pf hG).N) :
    defs₀ (F := F) .tc (cfgM pf hG).body ((cfgM pf hG).bodyArgs t ((cfgM pf hG).slots t)) = bodyAt pf hG t := by
  unfold defs₀; rw [Defs.onTc_tc]; rfl

/-- The output window is written at every point: its valid flag is 0 or 1. -/
theorem not_idle (t : Fin (cfgM pf hG).N) : (cfgM pf hG).idle 3 ((cfgM pf hG).grid.coords t) = false := by
  show (!(k0_cond2 (pf.atD 4 (k0_off6 (grid0.coords t))) == 1#1) && !(k0_cond3 (pf.atD 4 (k0_off7 (grid0.coords t))) == 1#1)) = false
  have e4 : (pf.atD 4 (k0_off6 (grid0.coords t)) : BitVec 32) = validAt pf (pt pf hG t) := by
    unfold Pipeline.Prefetch.Contents.atD
    have h : ∀ a : Fin (pre0.ref 4).ty.shape.rank, k0_off6 (grid0.coords t) a + 1 ≤ (pre0.ref 4).ty.shape.size a :=
      fun (a : Fin 1) => by
        obtain rfl : a = 0 := Subsingleton.elim _ _
        exact Gen.k0_off6_inb (grid0.coords t) 0
    refine (dif_pos h).trans ?_
    unfold validAt
    refine congrArg (pf 4) (funext fun a => Fin.ext ?_)
    match a with
    | ⟨0, _⟩ => exact (congrFun (k0_off1_eq (grid0.coords t)) 0).trans (coords_val t)
  have e5 : (pf.atD 4 (k0_off7 (grid0.coords t)) : BitVec 32) = validAt pf (pt pf hG t) := e4
  rw [e4, e5]
  rcases hG.flag (pt pf hG t) with hv | hv
  · rw [cond2_of_one hv]; rfl
  · rw [cond3_of_zero hv]; simp

theorem body_obligation (c : Dev nD) : BodyObligation (dats pf hG B 0 c) (defs₀ (F := F)) Variants.none () Set.univ := fun t => by
  rw [bigSep_W0, bigSep_W0, defs₀_row]
  refine triple_restated (sound_body pf hG B c t) rfl .rfl fun _ => ?_
  have h : idle0 pf 3 ((pcfg0.gridAt pf).coords t) = false := not_idle pf hG t
  simp only [h]
  exact (.rfl : bodyPost pf hG B c t ⊢ bodyPost pf hG B c t)

/-! ## The run -/

omit [FloatOps F] in
/-- A scratch memory as the grid finds it, and as it leaves it. -/
theorem scratch_in (c : Dev nD) (b : Ref sig .tc) (f : Buf (Elt F) ((c : Thread nD τ).loc b)) :
    ((c : Thread nD τ).loc b ↦{fullShare} f : sProp 𝕄) ⊢ owns (c : Thread nD τ) (Memref.whole b) fullShare f := by
  rw [owns_whole_eq]
  iintro H
  iexists f
  isplitr
  · ipureintro; rfl
  · iexact H

omit [FloatOps F] in
theorem scratch_out (c : Dev nD) (b : Ref sig .tc) (X : Buf (Elt F) ((c : Thread nD τ).loc b)) :
    (owns (c : Thread nD τ) (Memref.whole b) fullShare X : sProp 𝕄)
      ⊢ iprop(∃ f : Buf (Elt F) ((c : Thread nD τ).loc b), ((c : Thread nD τ).loc b ↦{fullShare} f)) := by
  rw [owns_whole_eq]
  iintro ⟨%f, -, H⟩
  iexists f
  iexact H

variable (m : (ℓ : Loc nD τ sig) → Buf (Elt F) ℓ) (ρ : Dev nD → PrngReg) (hT : Good (tbl m))

set_option backward.isDefEq.respectTransparency.types false in
set_option maxHeartbeats 800000 in
/-- From any memory whose tables the grid can use, the program terminates; every array of the pipeline is what the
output blocks make of it, every other buffer is as the grid found it, and every semaphore is at zero. -/
theorem run_main : θ_run defs (onTc (τ := τ) (main (F := F))) (s₀ m ρ)
    (fun r => (Pipeline.FramePost (Pipeline.pin pcfgs (adm (tbl m) hT)) (dats (tbl m) hT (V m)) 0 (V m)) r ∧ r.2.sem = fun _ => 0) :=
  Pipeline.θ_run_frameP_track (Q' := _) pcfgs (adm (tbl m) hT) (dats (tbl m) hT (V m)) (0 : Fin 1) launch0 defs₀ Variants.none m ρ main
    (hbody := fun c => (body_obligation (tbl m) hT (V m) c).loose) (hshare := fun c => (dats (tbl m) hT (V m) 0 c).share_full fun _ => rfl)
    (howed := fun _ _ => rfl) (V := V m) (hmain := hmain m Variants.none) (hA := A_eq (tbl m) hT (V m)) (hpf := V_pre m)
    (hin := fun c => by
      show iprop(Pipeline.ΦA spec0 c ∗ Pipeline.ΦT pre0 (tbl m) c) ⊢ (dats (tbl m) hT (V m) 0 c).Φ 0
      rw [Phi_eq, tablesHeld_eq]
      unfold Pipeline.ΦA
      rw [scopedRest0_eq]
      iintro ⟨⟨⟨⟨%f, Hf⟩, ⟨%g, Hg⟩⟩, Hr⟩, Ht⟩
      isplitl [Hf Hg]
      · iexists f; iexists g
        isplitr
        · ipureintro
          intro t ht; exact absurd ht (Nat.succ_ne_zero _)
        · isplitl [Hf]
          · iapply (scratch_in c cc0_scratch0 f)
            iexact Hf
          · iapply (scratch_in c cc0_scratch1 g)
            iexact Hg
      isplitl [Hr]; · iexact Hr
      iexact Ht)
    (hout := fun c => by
      show (dats (tbl m) hT (V m) 0 c).Φ (Fin.last _) ⊢ Pipeline.ΦA spec0 c
      rw [Phi_eq]
      unfold Pipeline.ΦA
      rw [scopedRest0_eq]
      iintro ⟨⟨%X, %Y, -, HX, HY⟩, Hr, -⟩
      isplitl [HX HY]
      · isplitl [HX]
        · iapply (scratch_out c cc0_scratch0 X)
          iexact HX
        · iapply (scratch_out c cc0_scratch1 Y)
          iexact HY
      · iexact Hr)

/-- The arguments end unchanged, the result is what the output blocks make of it, and every semaphore is at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v71) = (dats (tbl m) hT (V m) 0 c).arrAt 3 (cfgM (tbl m) hT).N)
      ∧ r.2.sem = fun _ => 0) :=
  (θ_run defs _ _).mono (fun r h => ⟨fun c => ⟨⟨
      ((h.1 c).2 main_arg0 (Pipeline.mem_restRefs_of main_arg0 (by decide)
        (by decide : ∀ w : Fin 4, (spec0 w).arr.view.ref ≠ main_arg0))).trans (V_main_arg0 m c),
      ((h.1 c).1 0).trans ((Dat.arrAt_in _ 0 rfl _).trans ((A_eq (tbl m) hT (V m) c 0).trans (V_main_arg1 m c))),
      ((h.1 c).1 1).trans ((Dat.arrAt_in _ 1 rfl _).trans ((A_eq (tbl m) hT (V m) c 1).trans (V_main_arg2 m c))),
      ((h.1 c).1 2).trans ((Dat.arrAt_in _ 2 rfl _).trans ((A_eq (tbl m) hT (V m) c 2).trans (V_main_arg3 m c)))⟩,
      (h.1 c).1 3⟩, h.2⟩) (run_main m ρ hT)

end Up

end
-- ==== Proof.Pairs.lean ====
/- Grid points handed out to eight owners in turn, two for every tile an owner has: an owner goes over its tiles once for
   each half of the columns. A point after all of these has one of the tiles that no owner has. -/
module

public import proofs.«01_k».proof.Proof.Owner

@[expose] public section

noncomputable section

namespace Pairs

open Owner

/-- The owner of a grid point. -/
abbrev at' (n : Nat → Nat) (t : Nat) : Nat := owner n (t / 2)

/-- A point's place among its owner's points. -/
def place (n : Nat → Nat) (t : Nat) : Nat := t - 2 * first n (at' n t)

/-- A point's tile. -/
def tile (n : Nat → Nat) (t : Nat) : Nat :=
  if t < 2 * first n 8 then first n (at' n t) + place n t % n (at' n t) else first n 8 + (t - 2 * first n 8) / 2

/-- A point's half of the columns. -/
def half (n : Nat → Nat) (t : Nat) : Nat :=
  if t < 2 * first n 8 then place n t / n (at' n t) else (t - 2 * first n 8) % 2

variable {n : Nat → Nat} {t t' : Nat}

theorem spec (h : t < 2 * first n 8) :
    at' n t < 8 ∧ 2 * first n (at' n t) ≤ t ∧ place n t < 2 * n (at' n t) ∧ 0 < n (at' n t) := by
  obtain ⟨h8, g1, g2⟩ := owner_spec (n := n) (t := t / 2) (by omega)
  rw [first_succ] at g2
  change first n (at' n t) ≤ t / 2 at g1
  change t / 2 < first n (at' n t) + n (at' n t) at g2
  refine ⟨h8, by omega, ?_, by omega⟩
  unfold place
  omega

theorem tile_owner (h : t < 2 * first n 8) : tile n t < first n 8 ∧ owner n (tile n t) = at' n t := by
  obtain ⟨h8, -, -, hp⟩ := spec h
  have hr := Nat.mod_lt (place n t) hp
  have e : first n (at' n t + 1) = first n (at' n t) + n (at' n t) := first_succ n _
  have hm := first_mono n (show at' n t + 1 ≤ 8 by omega)
  unfold tile
  rw [if_pos h]
  exact ⟨by omega, owner_unique h8 (by omega) (by omega)⟩

theorem tile_spare (h : ¬ t < 2 * first n 8) : first n 8 ≤ tile n t := by
  unfold tile; rw [if_neg h]; omega

theorem tile_iff : tile n t < first n 8 ↔ t < 2 * first n 8 :=
  ⟨fun h => by by_contra h'; have := tile_spare h'; omega, fun h => (tile_owner h).1⟩

theorem tile_lt (hn : first n 8 ≤ 56) (ht : t < 112) : tile n t < 56 := by
  by_cases h : t < 2 * first n 8
  · have := (tile_owner h).1; omega
  · unfold tile; rw [if_neg h]; omega

theorem half_lt : half n t < 2 := by
  unfold half
  split_ifs with h
  · obtain ⟨-, -, hl, -⟩ := spec h
    exact Nat.div_lt_of_lt_mul (by omega)
  · omega

/-- No two points have the same tile and the same half. -/
theorem inj (ht : tile n t = tile n t') (hh : half n t = half n t') : t = t' := by
  by_cases h : t < 2 * first n 8
  · have h' : t' < 2 * first n 8 := by rw [← tile_iff, ← ht, tile_iff]; exact h
    have e : at' n t = at' n t' := by rw [← (tile_owner h).2, ← (tile_owner h').2, ht]
    have s := (spec h).2.1
    have s' := (spec h').2.1
    unfold tile at ht
    unfold half at hh
    rw [if_pos h, if_pos h', ← e] at ht hh
    have d := Nat.div_add_mod (place n t) (n (at' n t))
    have d' := Nat.div_add_mod (place n t') (n (at' n t))
    have hr : place n t % n (at' n t) = place n t' % n (at' n t) := by omega
    have hp : place n t = place n t' := by rw [← d, ← d', hh, hr]
    unfold place at hp
    rw [← e] at s' hp
    omega
  · have h' : ¬ t' < 2 * first n 8 := by rw [← tile_iff, ← ht, tile_iff]; exact h
    unfold tile at ht
    unfold half at hh
    rw [if_neg h, if_neg h'] at ht hh
    omega

/-- A point that is not the first of its owner's half comes after one of the same owner and half. -/
theorem pred (h : t < 2 * first n 8) (hne : place n t % n (at' n t) ≠ 0) :
    0 < t ∧ at' n (t - 1) = at' n t ∧ half n (t - 1) = half n t := by
  obtain ⟨h8, s1, s2, hp⟩ := spec h
  have hr := Nat.mod_lt (place n t) hp
  have d := Nat.div_add_mod (place n t) (n (at' n t))
  have hpos : 0 < place n t := Nat.pos_of_ne_zero fun h0 => hne (by rw [h0]; exact Nat.zero_mod _)
  have hpl : place n t = t - 2 * first n (at' n t) := rfl
  have e : at' n (t - 1) = at' n t := by
    refine owner_unique h8 (by omega) ?_
    rw [first_succ]
    omega
  refine ⟨by omega, e, ?_⟩
  unfold half
  rw [if_pos h, if_pos (show t - 1 < 2 * first n 8 by omega), e]
  have e' : place n (t - 1) = n (at' n t) * (place n t / n (at' n t)) + (place n t % n (at' n t) - 1) := by
    have : place n (t - 1) = t - 1 - 2 * first n (at' n t) := by unfold place; rw [e]
    omega
  rw [e', Nat.mul_add_div hp, show (place n t % n (at' n t) - 1) / n (at' n t) = 0 from Nat.div_eq_of_lt (by omega), Nat.add_zero]

end Pairs

end
-- ==== Proof.UpTables.lean ====
/- The experts' up projection: what its five routing tables hold, as functions of the experts' tile counts. -/
module

public import proofs.«01_k».proof.Proof.UpFrame
public import proofs.«01_k».proof.Proof.Pairs

@[expose] public section

set_option maxRecDepth 16384

noncomputable section

namespace Up

open Cert.UpIdeal Cert.UpIdeal.Gen
open Idealize.ShloMosaic Idealize.ShloMosaic.TcCoe Idealize.ShloMosaic.Tactic
open Idealize.ShloMosaic.Routing Idealize.ShloMosaic.ValueIdx Idealize.ShloMosaic.WordCmp
open Idealize.ShloMosaic.StableHlo.Predicate (sge_iff_toNat slt_iff_toNat sle_iff_toNat cmpi_eq_iff)
open Owner

/-! ## The tables, as the host computes them -/

section
variable (a : IVec S8 32)

/-- A number in every place. -/
abbrev all (v : BitVec 32) : IVec S112 32 := broadcastInDim S112 ![] bcast_S_S112 (constantI S_ 32 v)

/-- The running totals of the counts: each expert's end. -/
def ends : IVec S8 32 :=
  Host.reduceWindow IntOp.addi ![8] ![1] ![7] ![0] a (broadcastInDim S_ ![] bcast_S_S_ (constantI S_ 32 0#32)) reduceWindows_S8_S8_w8s1p7_0 h_S_

/-- The number of all tiles. -/
def total : IVec S_ 32 := shapeCast S_ (extractStridedSlice S1 ![7] (ends a) slices_S8_S1_7) shapeCasts_S1_S_

/-- The expert of a tile, -/
def tileExpert : IVec S56 32 :=
  minsi (Host.reduce IntOp.addi
      (extui 32 (cmpi .sge (broadcastInDim S56x8 ![0, 1] bcast_S56x1_S56x8_0_1 (broadcastInDim S56x1 ![0] bcast_S56_S56x1_0 (iotaInDim S56 32 0)))
        (broadcastInDim S56x8 ![0, 1] bcast_S1x8_S56x8_0_1 (broadcastInDim S1x8 ![1] bcast_S8_S1x8_1 (ends a)))) natLt_1_32)
      (constantI S_ 32 0#32) reducesTo_S56x8_S56_d1 h_S_)
    (broadcastInDim S56 ![] bcast_S_S56 (constantI S_ 32 7#32))

/-- of the last tile in use, -/
def lastExpert : IVec S_ 32 :=
  Host.reduce IntOp.addi
    (select (cmpi .eq (iotaInDim S56 32 0) (broadcastInDim S56 ![] bcast_S_S56 (maxsi (subi (total a) (constantI S_ 32 1#32)) (constantI S_ 32 0#32))))
      (tileExpert a) (broadcastInDim S56 ![] bcast_S_S56 (constantI S_ 32 0#32)))
    (constantI S_ 32 0#32) reducesTo_S56_S_d0 h_S_

/-- and of a grid point. -/
def pointExpert : IVec S112 32 :=
  minsi (Host.reduce IntOp.addi
      (extui 32 (cmpi .sge (broadcastInDim S112x8 ![0, 1] bcast_S112x1_S112x8_0_1 (broadcastInDim S112x1 ![0] bcast_S112_S112x1_0 (iotaInDim S112 32 0)))
        (broadcastInDim S112x8 ![0, 1] bcast_S1x8_S112x8_0_1 (muli (broadcastInDim S1x8 ![] bcast_S_S1x8 (constantI S_ 32 2#32))
          (broadcastInDim S1x8 ![1] bcast_S8_S1x8_1 (ends a))))) natLt_1_32)
      (constantI S_ 32 0#32) reducesTo_S112x8_S112_d1 h_S_)
    (all 7#32)

/-- A number of each expert, picked for each grid point by its expert. -/
def picked (x : IVec S8 32) : IVec S112 32 :=
  Host.reduce IntOp.addi
    (select (cmpi .eq (broadcastInDim S112x8 ![0, 1] bcast_S112x1_S112x8_0_1 (broadcastInDim S112x1 ![0] bcast_S112_S112x1_0 (pointExpert a)))
        (broadcastInDim S112x8 ![0, 1] bcast_S1x8_S112x8_0_1 (broadcastInDim S1x8 ![1] bcast_S8_S1x8_1 (iotaInDim S8 32 0))))
      (broadcastInDim S112x8 ![0, 1] bcast_S1x8_S112x8_0_1 (broadcastInDim S1x8 ![1] bcast_S8_S1x8_1 x))
      (broadcastInDim S112x8 ![] bcast_S_S112x8 (constantI S_ 32 0#32)))
    (constantI S_ 32 0#32) reducesTo_S112x8_S112_d1 h_S_

/-- The first tile of a grid point's expert, -/
def firsts : IVec S112 32 := picked a (subi (ends a) a)
/-- the number of its tiles, -/
def spans : IVec S112 32 := maxsi (picked a a) (all 1#32)
/-- and the point's place among its expert's points. -/
def places : IVec S112 32 := subi (iotaInDim S112 32 0) (muli (all 2#32) (firsts a))

/-- Whether a grid point's tile is in use, -/
def used : IVec S112 1 := cmpi .slt (iotaInDim S112 32 0) (broadcastInDim S112 ![] bcast_S_S112 (muli (constantI S_ 32 2#32) (total a)))
/-- and its place among the points of tiles not in use. -/
def spares : IVec S112 32 := subi (iotaInDim S112 32 0) (broadcastInDim S112 ![] bcast_S_S112 (muli (constantI S_ 32 2#32) (total a)))

/-- The divisor of a remainder: one in place of zero. -/
def guarded (y : IVec S112 32) : IVec S112 32 := select (cmpi .eq y (all 0#32)) (all 1#32) y

/-- The remainder with the divisor's sign. -/
def rems (x y : IVec S112 32) : IVec S112 32 :=
  select (andi (cmpi .ne (cmpi .slt (Host.remsi x (guarded y)) (all 0#32)) (cmpi .slt (guarded y) (all 0#32)))
      (cmpi .ne (Host.remsi x (guarded y)) (all 0#32)))
    (addi (Host.remsi x (guarded y)) (guarded y)) (Host.remsi x (guarded y))

/-- The quotient rounded down. -/
def quots (x y : IVec S112 32) : IVec S112 32 :=
  select (andi (cmpi .ne (signi x) (signi y)) (cmpi .ne (Host.remsi x y) (all 0#32)))
    (subi (Host.divsi x y) (all 1#32)) (Host.divsi x y)

/-- The tile of each grid point, -/
def tileTable : IVec S112 32 :=
  select (used a) (addi (firsts a) (rems (places a) (spans a)))
    (addi (broadcastInDim S112 ![] bcast_S_S112 (total a)) (pyDiv bcast_S_S112 (spares a) (constantI S_ 32 2#32)))

/-- its half of the columns, -/
def halfTable : IVec S112 32 :=
  select (used a) (quots (places a) (spans a)) (pyRem bcast_S_S112 (spares a) (constantI S_ 32 2#32))

/-- its expert, -/
def expertTable : IVec S112 32 := select (used a) (pointExpert a) (broadcastInDim S112 ![] bcast_S_S112 (lastExpert a))

/-- whether it is the first of its expert and half, -/
def firstTable : IVec S112 32 := extui 32 (andi (used a) (cmpi .eq (rems (places a) (spans a)) (all 0#32))) natLt_1_32

/-- and whether its tile is in use. -/
def validTable : IVec S112 32 := extui 32 (used a) natLt_1_32

/-! ## Their words -/

variable {a} {n : Nat → Nat} (ha : ∀ k : Fin 8, a (ValueIdx.ix1 k) = BitVec.ofNat 32 (n k.val)) (hn : first n 8 ≤ 56)

theorem all_at (v : BitVec 32) (t : Fin 112) : all v (ValueIdx.ix1 t) = v := bc0 bcast_S_S112 _ _

theorem twice (x : Nat) : IntOp.muli 2#32 (BitVec.ofNat 32 x) = BitVec.ofNat 32 (2 * x) := (BitVec.ofNat_mul ..).symm

include ha in
theorem ends_word (k : Fin 8) : ends a (ValueIdx.ix1 k) = BitVec.ofNat 32 (first n (k.val + 1)) :=
  cumsum1 (N := 8) (Nm1 := 7) rfl a n ha _ (bc0 bcast_S_S_ _ _) _ _ k

include ha in
theorem starts_word (k : Fin 8) : subi (ends a) a (ValueIdx.ix1 k) = BitVec.ofNat 32 (first n k.val) := by
  show ends a (ValueIdx.ix1 k) - a (ValueIdx.ix1 k) = _
  rw [ends_word ha, ha, ofNat32_sub (by rw [first_succ]; omega), first_succ, Nat.add_sub_cancel]

include ha in
theorem total_word : total a ValueIdx.ix0 = BitVec.ofNat 32 (first n 8) := by
  have hs : ∀ j : S1.Idx, extractStridedSlice S1 ![7] (ends a) slices_S8_S1_7 j = BitVec.ofNat 32 (first n 8) := fun j => by
    rw [ValueIdx.eq_ix1 j]
    have hj : (j 0).val = 0 := by have := (j 0).isLt; change (j 0).val < 1 at this; omega
    refine (slice1 (m := 8) (n := 1) 7 (ends a) slices_S8_S1_7 (j 0) (by omega)).trans ((ends_word ha _).trans ?_)
    exact congrArg (fun k => BitVec.ofNat 32 (first n (7 + k + 1))) hj
  unfold total shapeCast
  exact hs _

include ha in
theorem bound_word (t : Fin 112) :
    broadcastInDim S112 ![] bcast_S_S112 (muli (constantI S_ 32 2#32) (total a)) (ValueIdx.ix1 t) = BitVec.ofNat 32 (2 * first n 8) := by
  rw [bc0]
  show IntOp.muli 2#32 (total a ValueIdx.ix0) = _
  rw [total_word ha, twice]

include ha hn in
theorem used_bit (t : Fin 112) : used a (ValueIdx.ix1 t) = BitVec.ofBool (decide (t.val < 2 * first n 8)) := by
  have := t.isLt
  refine bit_eq ?_
  show IntOp.cmpi .slt (iotaInDim S112 32 0 (ValueIdx.ix1 t)) _ = 1#1 ↔ _
  rw [iota1_ap, bound_word ha,
    slt_iff_toNat (by rw [toNat_word (by omega)]; omega) (by rw [toNat_word (by omega)]; omega), toNat_word (by omega), toNat_word (by omega)]

include hn in
theorem first_le (k : Nat) (hk : k ≤ 8) : first n k ≤ 56 := le_trans (first_mono n hk) hn

include ha hn in
theorem tileExpert_word (t : Fin 56) : tileExpert a (ValueIdx.ix1 t) = BitVec.ofNat 32 (min (owner n t.val) 7) := by
  have e := reduce_count (n := 56) (m := 8) (by norm_num)
    (cmpi .sge (broadcastInDim S56x8 ![0, 1] bcast_S56x1_S56x8_0_1 (broadcastInDim S56x1 ![0] bcast_S56_S56x1_0 (iotaInDim S56 32 0)))
        (broadcastInDim S56x8 ![0, 1] bcast_S1x8_S56x8_0_1 (broadcastInDim S1x8 ![1] bcast_S8_S1x8_1 (ends a))))
    natLt_1_32 reducesTo_S56x8_S56_d1 h_S_ t (fun k => first n (k + 1) ≤ t.val) fun q => by
      rw [cmpi_at, bcRows, bcCols, iota1_ap, ends_word ha]
      have := first_le hn (q.val + 1) (by omega)
      have := t.isLt
      rw [sge_iff_toNat (by rw [toNat_word (by omega)]; omega) (by rw [toNat_word (by omega)]; omega), toNat_word (by omega), toNat_word (by omega)]
  have hc : owner n t.val ≤ 8 := Nat.count_le _
  show IntOp.minsi _ _ = _
  rw [e, bc0]
  exact minsi_word (x := owner n t.val) (y := 7) (by omega) (by norm_num)

/-- The sum of numbers of which only one is not zero. -/
theorem first_single (c v : Nat) (k : Nat) : first (fun i => if i = c then v else 0) k = if c < k then v else 0 := by
  induction k with
  | zero => simp [first]
  | succ k ih =>
    rw [first_succ, ih]
    split_ifs <;> omega

include ha hn in
theorem lastExpert_lt : (lastExpert a ValueIdx.ix0).toNat < 8 := by
  have hm : maxsi (subi (total a) (constantI S_ 32 1#32)) (constantI S_ 32 0#32) ValueIdx.ix0 = BitVec.ofNat 32 (first n 8 - 1) := by
    refine Eq.trans ?_ (maxsi_pred (c := first n 8) (by omega))
    show IntOp.maxsi (total a ValueIdx.ix0 - 1#32) 0#32 = _
    rw [total_word ha]
  have e : lastExpert a ValueIdx.ix0 = BitVec.ofNat 32 (first (fun i => if i = first n 8 - 1 then min (owner n (first n 8 - 1)) 7 else 0) 56) := by
    refine reduce_sum (N := 56) _ (fun i => if i = first n 8 - 1 then min (owner n (first n 8 - 1)) 7 else 0) (fun i => ?_) _ _
    have := i.isLt
    show Scalar.select (IntOp.cmpi .eq (iotaInDim S56 32 0 (ValueIdx.ix1 i)) (broadcastInDim S56 ![] bcast_S_S56
      (maxsi (subi (total a) (constantI S_ 32 1#32)) (constantI S_ 32 0#32)) (ValueIdx.ix1 i)))
      (tileExpert a (ValueIdx.ix1 i)) (broadcastInDim S56 ![] bcast_S_S56 (constantI S_ 32 0#32) (ValueIdx.ix1 i)) = _
    rw [bc0, hm, iota1_ap, eq_bit (by omega) (by omega), tileExpert_word ha hn, bc0]
    by_cases h : i.val = first n 8 - 1
    · simp [h, Scalar.select]
    · simp [h, Scalar.select, constantI]
  have hv : ∀ P : Prop, [Decidable P] → (if P then min (owner n (first n 8 - 1)) 7 else 0) < 8 := fun P _ => by
    split <;> omega
  have hv := hv (first n 8 - 1 < 56)
  rw [e, first_single, toNat_word (by omega)]
  exact hv

include ha hn in
theorem pointExpert_word (t : Fin 112) : pointExpert a (ValueIdx.ix1 t) = BitVec.ofNat 32 (min (Pairs.at' n t.val) 7) := by
  have e := reduce_count (n := 112) (m := 8) (by norm_num)
    (cmpi .sge (broadcastInDim S112x8 ![0, 1] bcast_S112x1_S112x8_0_1 (broadcastInDim S112x1 ![0] bcast_S112_S112x1_0 (iotaInDim S112 32 0)))
        (broadcastInDim S112x8 ![0, 1] bcast_S1x8_S112x8_0_1 (muli (broadcastInDim S1x8 ![] bcast_S_S1x8 (constantI S_ 32 2#32))
          (broadcastInDim S1x8 ![1] bcast_S8_S1x8_1 (ends a)))))
    natLt_1_32 reducesTo_S112x8_S112_d1 h_S_ t (fun k => first n (k + 1) ≤ t.val / 2) fun q => by
      have hw : broadcastInDim S112x8 ![0, 1] bcast_S1x8_S112x8_0_1 (muli (broadcastInDim S1x8 ![] bcast_S_S1x8 (constantI S_ 32 2#32))
          (broadcastInDim S1x8 ![1] bcast_S8_S1x8_1 (ends a))) (ValueIdx.ix2 t q) = BitVec.ofNat 32 (2 * first n (q.val + 1)) := by
        rw [← twice, ← ends_word ha q, ← bcCols bcast_S8_S1x8_1 bcast_S1x8_S112x8_0_1 (ends a) t q]
        rfl
      rw [cmpi_at, bcRows, hw, iota1_ap]
      have := first_le hn (q.val + 1) (by omega)
      have := t.isLt
      rw [sge_iff_toNat (by rw [toNat_word (by omega)]; omega) (by rw [toNat_word (by omega)]; omega), toNat_word (by omega), toNat_word (by omega)]
      omega
  have hc : Pairs.at' n t.val ≤ 8 := Nat.count_le _
  show IntOp.minsi _ _ = _
  rw [e, all_at]
  exact minsi_word (x := Pairs.at' n t.val) (y := 7) (by omega) (by norm_num)

include ha hn in
theorem picked_word (x : IVec S8 32) (f : Nat → Nat) (hx : ∀ k : Fin 8, x (ValueIdx.ix1 k) = BitVec.ofNat 32 (f k.val)) (t : Fin 112)
    (ht : t.val < 2 * first n 8) (hf : f (Pairs.at' n t.val) < 2 ^ 31) : picked a x (ValueIdx.ix1 t) = BitVec.ofNat 32 (f (Pairs.at' n t.val)) := by
  have h8 := (Pairs.spec ht).1
  refine reduce_one (n := 112) _ _ (by decide) _ t (Pairs.at' n t.val) h8 _ hf fun q => ?_
  show Scalar.select (IntOp.cmpi .eq (broadcastInDim S112x8 ![0, 1] _ (broadcastInDim S112x1 ![0] _ (pointExpert a)) (ValueIdx.ix2 t q))
      (broadcastInDim S112x8 ![0, 1] _ (broadcastInDim S1x8 ![1] _ (iotaInDim S8 32 0)) (ValueIdx.ix2 t q)))
    (broadcastInDim S112x8 ![0, 1] _ (broadcastInDim S1x8 ![1] _ x) (ValueIdx.ix2 t q))
    (broadcastInDim S112x8 ![] _ (constantI S_ 32 0#32) (ValueIdx.ix2 t q)) = _
  rw [bcRows, bcCols, bcCols, bc0, pointExpert_word ha hn, iota1_ap, hx, Nat.min_eq_left (by omega),
    eq_bit (by omega) (by have := q.isLt; omega)]
  by_cases h : q.val = Pairs.at' n t.val
  · simp [h, Scalar.select]
  · have h' : ¬ Pairs.at' n t.val = q.val := fun e => h e.symm
    simp [h, h', Scalar.select, constantI]

include hn in
theorem bounds {t : Nat} (ht : t < 2 * first n 8) : first n (Pairs.at' n t) ≤ 56 ∧ n (Pairs.at' n t) ≤ 56 := by
  have h8 := (Pairs.spec ht).1
  have h1 := first_le hn (Pairs.at' n t) (by omega)
  have h2 := first_le hn (Pairs.at' n t + 1) (by omega)
  rw [first_succ] at h2
  exact ⟨h1, by omega⟩

include ha hn in
theorem firsts_word (t : Fin 112) (ht : t.val < 2 * first n 8) : firsts a (ValueIdx.ix1 t) = BitVec.ofNat 32 (first n (Pairs.at' n t.val)) :=
  picked_word ha hn _ (first n) (starts_word ha) t ht (by have := (bounds hn ht).1; omega)

include ha hn in
theorem spans_word (t : Fin 112) (ht : t.val < 2 * first n 8) : spans a (ValueIdx.ix1 t) = BitVec.ofNat 32 (n (Pairs.at' n t.val)) := by
  have hb := (bounds hn ht).2
  have hp := (Pairs.spec ht).2.2.2
  show IntOp.maxsi (picked a a (ValueIdx.ix1 t)) (all 1#32 (ValueIdx.ix1 t)) = _
  rw [picked_word ha hn a n ha t ht (by omega), all_at]
  unfold IntOp.maxsi
  rw [show (1#32 : BitVec 32) = BitVec.ofNat 32 1 from rfl, slt_ofNat32 (by norm_num) (by omega)]
  split
  · rfl
  · rename_i h
    exact congrArg (BitVec.ofNat 32) (by simp only [decide_eq_true_eq] at h; omega)

include ha hn in
theorem places_word (t : Fin 112) (ht : t.val < 2 * first n 8) : places a (ValueIdx.ix1 t) = BitVec.ofNat 32 (Pairs.place n t.val) := by
  have hs := (Pairs.spec ht).2.1
  show iotaInDim S112 32 0 (ValueIdx.ix1 t) - IntOp.muli (all 2#32 (ValueIdx.ix1 t)) (firsts a (ValueIdx.ix1 t)) = _
  rw [iota1_ap, all_at, firsts_word ha hn t ht, twice, ofNat32_sub hs]
  rfl

include ha in
theorem spares_word (t : Fin 112) (ht : ¬ t.val < 2 * first n 8) : spares a (ValueIdx.ix1 t) = BitVec.ofNat 32 (t.val - 2 * first n 8) := by
  show iotaInDim S112 32 0 (ValueIdx.ix1 t) - broadcastInDim S112 ![] bcast_S_S112
    (muli (constantI S_ 32 2#32) (total a)) (ValueIdx.ix1 t) = _
  rw [iota1_ap, bound_word ha, ofNat32_sub (by omega)]

/-- The remainder of words that hold natural numbers is theirs. -/
theorem rems_word (x y : IVec S112 32) (t : Fin 112) {p q : Nat} (hx : x (ValueIdx.ix1 t) = BitVec.ofNat 32 p) (hy : y (ValueIdx.ix1 t) = BitVec.ofNat 32 q)
    (hp : p < 2 ^ 31) (h0 : 0 < q) (hq : q < 2 ^ 31) : rems x y (ValueIdx.ix1 t) = BitVec.ofNat 32 (p % q) := by
  have hg : guarded y (ValueIdx.ix1 t) = BitVec.ofNat 32 q := by
    show Scalar.select (IntOp.cmpi .eq (y (ValueIdx.ix1 t)) (all 0#32 (ValueIdx.ix1 t))) (all 1#32 (ValueIdx.ix1 t)) (y (ValueIdx.ix1 t)) = _
    rw [hy, all_at, show (0#32 : BitVec 32) = BitVec.ofNat 32 0 from rfl, eq_bit hq (by norm_num)]
    simp [Scalar.select, h0.ne']
  have hm : p % q < 2 ^ 31 := lt_of_le_of_lt (Nat.mod_le p q) hp
  unfold rems
  simp only [select_at, cmpi_at, andi_at, addi_ap, Host.remsi_apply, all_at, hg, hx, remsi_word .host hp h0 hq]
  rw [show (0#32 : BitVec 32) = BitVec.ofNat 32 0 from rfl, cmpi_slt_ofNat (w := 32) hm (by decide), cmpi_slt_ofNat (w := 32) hq (by decide)]
  simp only [Nat.not_lt_zero, decide_false]
  exact select_zero_and _ _ _

/-- The quotient of words that hold natural numbers is theirs. -/
theorem quots_word (x y : IVec S112 32) (t : Fin 112) {p q : Nat} (hx : x (ValueIdx.ix1 t) = BitVec.ofNat 32 p) (hy : y (ValueIdx.ix1 t) = BitVec.ofNat 32 q)
    (hp : p < 2 ^ 31) (h0 : 0 < q) (hq : q < 2 ^ 31) : quots x y (ValueIdx.ix1 t) = BitVec.ofNat 32 (p / q) := by
  have hbit : IntOp.andi (IntOp.cmpi .ne (signi x (ValueIdx.ix1 t)) (signi y (ValueIdx.ix1 t)))
      (IntOp.cmpi .ne (BitVec.ofNat 32 (p % q)) 0#32) = 0#1 := by
    rw [signi_apply, signi_apply, hx, hy, msb_ofNat32 hp, msb_ofNat32 hq, if_neg (ofNat32_ne_zero h0 (by omega))]
    rcases Nat.eq_zero_or_pos p with h | h
    · subst h
      rw [Nat.zero_mod]
      rfl
    · rw [if_neg (ofNat32_ne_zero h (by omega))]
      exact BitVec.zero_and
  unfold quots
  simp only [select_at, cmpi_at, andi_at, subi_ap, Host.remsi_apply, Host.divsi_apply, all_at, hx, hy, remsi_word .host hp h0 hq,
    divsi_word .host hp h0 hq]
  rw [hbit]
  rfl

include ha hn in
theorem tile_word (t : Fin 112) : tileTable a (ValueIdx.ix1 t) = BitVec.ofNat 32 (Pairs.tile n t.val) := by
  have hl := t.isLt
  show Scalar.select (used a (ValueIdx.ix1 t)) (firsts a (ValueIdx.ix1 t) + rems (places a) (spans a) (ValueIdx.ix1 t))
    (broadcastInDim S112 ![] bcast_S_S112 (total a) (ValueIdx.ix1 t) + pyDiv bcast_S_S112 (spares a) (constantI S_ 32 2#32) (ValueIdx.ix1 t)) = _
  rw [used_bit ha hn]
  unfold Pairs.tile
  by_cases ht : t.val < 2 * first n 8
  · obtain ⟨-, -, s3, s4⟩ := Pairs.spec ht
    have hb := (bounds hn ht).2
    rw [if_pos ht, firsts_word ha hn t ht, rems_word _ _ t (places_word ha hn t ht) (spans_word ha hn t ht) (by omega) s4 (by omega), BitVec.ofNat_add]
    simp [ht, Scalar.select]
  · rw [if_neg ht, bc0, total_word ha, pyDiv_ap bcast_S_S112 _ _ _ (spares_word ha t ht) (b := 2) rfl (by omega) (by norm_num) (by norm_num), BitVec.ofNat_add]
    simp [ht, Scalar.select]

include ha hn in
theorem half_word (t : Fin 112) : halfTable a (ValueIdx.ix1 t) = BitVec.ofNat 32 (Pairs.half n t.val) := by
  have hl := t.isLt
  show Scalar.select (used a (ValueIdx.ix1 t)) (quots (places a) (spans a) (ValueIdx.ix1 t))
    (pyRem bcast_S_S112 (spares a) (constantI S_ 32 2#32) (ValueIdx.ix1 t)) = _
  rw [used_bit ha hn]
  unfold Pairs.half
  by_cases ht : t.val < 2 * first n 8
  · obtain ⟨-, -, s3, s4⟩ := Pairs.spec ht
    have hb := (bounds hn ht).2
    rw [if_pos ht, quots_word _ _ t (places_word ha hn t ht) (spans_word ha hn t ht) (by omega) s4 (by omega)]
    simp [ht, Scalar.select]
  · rw [if_neg ht, pyRem_ap bcast_S_S112 _ _ _ (spares_word ha t ht) (b := 2) rfl (by omega) (by norm_num) (by norm_num)]
    simp [ht, Scalar.select]

include ha hn in
theorem expert_word (t : Fin 112) (ht : t.val < 2 * first n 8) : expertTable a (ValueIdx.ix1 t) = BitVec.ofNat 32 (Pairs.at' n t.val) := by
  have h8 := (Pairs.spec ht).1
  show Scalar.select (used a (ValueIdx.ix1 t)) (pointExpert a (ValueIdx.ix1 t)) _ = _
  rw [used_bit ha hn, pointExpert_word ha hn, Nat.min_eq_left (by omega)]
  simp [ht, Scalar.select]

include ha hn in
theorem expert_lt (t : Fin 112) : (expertTable a (ValueIdx.ix1 t)).toNat < 8 := by
  show (Scalar.select (used a (ValueIdx.ix1 t)) (pointExpert a (ValueIdx.ix1 t))
    (broadcastInDim S112 ![] bcast_S_S112 (lastExpert a) (ValueIdx.ix1 t))).toNat < 8
  rw [bc0]
  unfold Scalar.select
  split_ifs
  · rw [pointExpert_word ha hn, toNat_word (by omega)]; omega
  · exact lastExpert_lt ha hn

include ha hn in
/-- A grid point of a tile in use is flagged first exactly where its place is a multiple of its expert's tiles. -/
theorem first_word (t : Fin 112) (ht : t.val < 2 * first n 8) :
    firstTable a (ValueIdx.ix1 t) = BitVec.ofNat 32 (if Pairs.place n t.val % n (Pairs.at' n t.val) = 0 then 1 else 0) := by
  obtain ⟨-, -, s3, s4⟩ := Pairs.spec ht
  have hb := (bounds hn ht).2
  have hm := Nat.mod_lt (Pairs.place n t.val) s4
  show (IntOp.andi (used a (ValueIdx.ix1 t)) (IntOp.cmpi .eq (rems (places a) (spans a) (ValueIdx.ix1 t)) (all 0#32 (ValueIdx.ix1 t)))).setWidth 32 = _
  rw [used_bit ha hn, rems_word _ _ t (places_word ha hn t ht) (spans_word ha hn t ht) (by omega) s4 (by omega), all_at,
    show (0#32 : BitVec 32) = BitVec.ofNat 32 0 from rfl, eq_bit (by omega) (by norm_num), ← setWidth_ofBool]
  simp only [ht, decide_true]
  refine congrArg (BitVec.setWidth 32) ?_
  by_cases h : Pairs.place n t.val % n (Pairs.at' n t.val) = 0 <;> simp [h, IntOp.andi]

include ha hn in
theorem valid_word (t : Fin 112) : validTable a (ValueIdx.ix1 t) = BitVec.ofNat 32 (if t.val < 2 * first n 8 then 1 else 0) := by
  show (used a (ValueIdx.ix1 t)).setWidth 32 = _
  rw [used_bit ha hn, setWidth_ofBool]

end

/-! ## The tables the grid finds -/

variable {F : FTy → Type} [FloatOps F]

section
variable (m : (ℓ : Loc nD τ sig) → Buf (Elt F) ℓ)

/-! A buffer's contents at its own type are themselves. -/

theorem to_v0 (h₁ : main_v0.ty = ⟨S8, .i32⟩) (h₂ h₃) (v : (⟨S8, .i32⟩ : BufTy).Contents (Elt F)) :
    (StableHlo.TRef.of main_v0 h₁ h₂ h₃).toBuf v = v := rfl
theorem to_v19 (h₁ : main_v19.ty = ⟨S56, .i32⟩) (h₂ h₃) (v : (⟨S56, .i32⟩ : BufTy).Contents (Elt F)) :
    (StableHlo.TRef.of main_v19 h₁ h₂ h₃).toBuf v = v := rfl
theorem to_v39 (h₁ : main_v39.ty = ⟨S112x8, .i32⟩) (h₂ h₃) (v : (⟨S112x8, .i32⟩ : BufTy).Contents (Elt F)) :
    (StableHlo.TRef.of main_v39 h₁ h₂ h₃).toBuf v = v := rfl
theorem to_v42 (h₁ : main_v42.ty = ⟨S112x8, .i32⟩) (h₂ h₃) (v : (⟨S112x8, .i32⟩ : BufTy).Contents (Elt F)) :
    (StableHlo.TRef.of main_v42 h₁ h₂ h₃).toBuf v = v := rfl
theorem to_v55 (h₁ : main_v55.ty = ⟨S112, .i32⟩) (h₂ h₃) (v : (⟨S112, .i32⟩ : BufTy).Contents (Elt F)) :
    (StableHlo.TRef.of main_v55 h₁ h₂ h₃).toBuf v = v := rfl
theorem to_v57 (h₁ : main_v57.ty = ⟨S112, .i32⟩) (h₂ h₃) (v : (⟨S112, .i32⟩ : BufTy).Contents (Elt F)) :
    (StableHlo.TRef.of main_v57 h₁ h₂ h₃).toBuf v = v := rfl
theorem to_v60 (h₁ : main_v60.ty = ⟨S112, .i32⟩) (h₂ h₃) (v : (⟨S112, .i32⟩ : BufTy).Contents (Elt F)) :
    (StableHlo.TRef.of main_v60 h₁ h₂ h₃).toBuf v = v := rfl
theorem to_v61 (h₁ : main_v61.ty = ⟨S112, .i32⟩) (h₂ h₃) (v : (⟨S112, .i32⟩ : BufTy).Contents (Elt F)) :
    (StableHlo.TRef.of main_v61 h₁ h₂ h₃).toBuf v = v := rfl
theorem to_v62 (h₁ : main_v62.ty = ⟨S112, .i32⟩) (h₂ h₃) (v : (⟨S112, .i32⟩ : BufTy).Contents (Elt F)) :
    (StableHlo.TRef.of main_v62 h₁ h₂ h₃).toBuf v = v := rfl
theorem to_v63 (h₁ : main_v63.ty = ⟨S112, .i32⟩) (h₂ h₃) (v : (⟨S112, .i32⟩ : BufTy).Contents (Elt F)) :
    (StableHlo.TRef.of main_v63 h₁ h₂ h₃).toBuf v = v := rfl
theorem to_v64 (h₁ : main_v64.ty = ⟨S112, .i32⟩) (h₂ h₃) (v : (⟨S112, .i32⟩ : BufTy).Contents (Elt F)) :
    (StableHlo.TRef.of main_v64 h₁ h₂ h₃).toBuf v = v := rfl
theorem to_v65 (h₁ : main_v65.ty = ⟨S112, .i32⟩) (h₂ h₃) (v : (⟨S112, .i32⟩ : BufTy).Contents (Elt F)) :
    (StableHlo.TRef.of main_v65 h₁ h₂ h₃).toBuf v = v := rfl
theorem of_arg0 (h₁ : main_arg0.ty = ⟨S8, .i32⟩) (h₂ h₃) (v : (⟨S8, .i32⟩ : BufTy).Contents (Elt F)) :
    (StableHlo.TRef.of main_arg0 h₁ h₂ h₃).ofBuf v = v := rfl
theorem of_c_3 (h₁ : main_c_3.ty = ⟨S_, .i32⟩) (h₂ h₃) (v : (⟨S_, .i32⟩ : BufTy).Contents (Elt F)) :
    (StableHlo.TRef.of main_c_3 h₁ h₂ h₃).ofBuf v = v := rfl
theorem of_v18 (h₁ : main_v18.ty = ⟨S56, .i1⟩) (h₂ h₃) (v : (⟨S56, .i1⟩ : BufTy).Contents (Elt F)) :
    (StableHlo.TRef.of main_v18 h₁ h₂ h₃).ofBuf v = v := rfl
theorem of_v12 (h₁ : main_v12.ty = ⟨S56, .i32⟩) (h₂ h₃) (v : (⟨S56, .i32⟩ : BufTy).Contents (Elt F)) :
    (StableHlo.TRef.of main_v12 h₁ h₂ h₃).ofBuf v = v := rfl
theorem of_c_8 (h₁ : main_c_8.ty = ⟨S_, .i32⟩) (h₂ h₃) (v : (⟨S_, .i32⟩ : BufTy).Contents (Elt F)) :
    (StableHlo.TRef.of main_c_8 h₁ h₂ h₃).ofBuf v = v := rfl
theorem of_v38 (h₁ : main_v38.ty = ⟨S1x8, .i32⟩) (h₂ h₃) (v : (⟨S1x8, .i32⟩ : BufTy).Contents (Elt F)) :
    (StableHlo.TRef.of main_v38 h₁ h₂ h₃).ofBuf v = v := rfl
theorem of_v37 (h₁ : main_v37.ty = ⟨S112x8, .i1⟩) (h₂ h₃) (v : (⟨S112x8, .i1⟩ : BufTy).Contents (Elt F)) :
    (StableHlo.TRef.of main_v37 h₁ h₂ h₃).ofBuf v = v := rfl
theorem of_c_10 (h₁ : main_c_10.ty = ⟨S_, .i32⟩) (h₂ h₃) (v : (⟨S_, .i32⟩ : BufTy).Contents (Elt F)) :
    (StableHlo.TRef.of main_c_10 h₁ h₂ h₃).ofBuf v = v := rfl
theorem of_v41 (h₁ : main_v41.ty = ⟨S1x8, .i32⟩) (h₂ h₃) (v : (⟨S1x8, .i32⟩ : BufTy).Contents (Elt F)) :
    (StableHlo.TRef.of main_v41 h₁ h₂ h₃).ofBuf v = v := rfl
theorem of_v45 (h₁ : main_v45.ty = ⟨S112, .i32⟩) (h₂ h₃) (v : (⟨S112, .i32⟩ : BufTy).Contents (Elt F)) :
    (StableHlo.TRef.of main_v45 h₁ h₂ h₃).ofBuf v = v := rfl
theorem of_v48 (h₁ : main_v48.ty = ⟨S112, .i32⟩) (h₂ h₃) (v : (⟨S112, .i32⟩ : BufTy).Contents (Elt F)) :
    (StableHlo.TRef.of main_v48 h₁ h₂ h₃).ofBuf v = v := rfl
theorem of_c_16 (h₁ : main_c_16.ty = ⟨S_, .i32⟩) (h₂ h₃) (v : (⟨S_, .i32⟩ : BufTy).Contents (Elt F)) :
    (StableHlo.TRef.of main_c_16 h₁ h₂ h₃).ofBuf v = v := rfl
theorem of_v54 (h₁ : main_v54.ty = ⟨S112, .i32⟩) (h₂ h₃) (v : (⟨S112, .i32⟩ : BufTy).Contents (Elt F)) :
    (StableHlo.TRef.of main_v54 h₁ h₂ h₃).ofBuf v = v := rfl
theorem of_v51 (h₁ : main_v51.ty = ⟨S112, .i1⟩) (h₂ h₃) (v : (⟨S112, .i1⟩ : BufTy).Contents (Elt F)) :
    (StableHlo.TRef.of main_v51 h₁ h₂ h₃).ofBuf v = v := rfl
theorem of_v56 (h₁ : main_v56.ty = ⟨S112, .i32⟩) (h₂ h₃) (v : (⟨S112, .i32⟩ : BufTy).Contents (Elt F)) :
    (StableHlo.TRef.of main_v56 h₁ h₂ h₃).ofBuf v = v := rfl
theorem of_v59 (h₁ : main_v59.ty = ⟨S112, .i32⟩) (h₂ h₃) (v : (⟨S112, .i32⟩ : BufTy).Contents (Elt F)) :
    (StableHlo.TRef.of main_v59 h₁ h₂ h₃).ofBuf v = v := rfl
theorem of_c_17 (h₁ : main_c_17.ty = ⟨S_, .i32⟩) (h₂ h₃) (v : (⟨S_, .i32⟩ : BufTy).Contents (Elt F)) :
    (StableHlo.TRef.of main_c_17 h₁ h₂ h₃).ofBuf v = v := rfl
theorem of_v20 (h₁ : main_v20.ty = ⟨S_, .i32⟩) (h₂ h₃) (v : (⟨S_, .i32⟩ : BufTy).Contents (Elt F)) :
    (StableHlo.TRef.of main_v20 h₁ h₂ h₃).ofBuf v = v := rfl
theorem of_v32 (h₁ : main_v32.ty = ⟨S112, .i32⟩) (h₂ h₃) (v : (⟨S112, .i32⟩ : BufTy).Contents (Elt F)) :
    (StableHlo.TRef.of main_v32 h₁ h₂ h₃).ofBuf v = v := rfl

/-- The experts' tile counts. -/
abbrev tiles : IVec S8 32 := m ((0 : Dev nD).tc.loc main_arg0)

set_option maxHeartbeats 4000000 in
theorem V_tile : (V m 0 main_v60 : IVec S112 32) = tileTable (tiles m) := by
  simp only [V, hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  entry_read
  simp only [StableHlo.TRef.ofBuf_toBuf, to_v0, to_v19, to_v39, to_v42, to_v55, to_v57, to_v60, to_v61, to_v62, to_v63, to_v64, to_v65, of_arg0, of_c_3, of_v18, of_v12, of_c_8, of_v38, of_v37, of_c_10, of_v41, of_v45, of_v48, of_c_16, of_v54, of_v51, of_v56, of_v59, of_c_17, of_v20, of_v32]
  rfl

set_option maxHeartbeats 4000000 in
theorem V_half : (V m 0 main_v63 : IVec S112 32) = halfTable (tiles m) := by
  simp only [V, hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  entry_read
  simp only [StableHlo.TRef.ofBuf_toBuf, to_v0, to_v19, to_v39, to_v42, to_v55, to_v57, to_v60, to_v61, to_v62, to_v63, to_v64, to_v65, of_arg0, of_c_3, of_v18, of_v12, of_c_8, of_v38, of_v37, of_c_10, of_v41, of_v45, of_v48, of_c_16, of_v54, of_v51, of_v56, of_v59, of_c_17, of_v20, of_v32]
  rfl

set_option maxHeartbeats 4000000 in
theorem V_expert : (V m 0 main_v64 : IVec S112 32) = expertTable (tiles m) := by
  simp only [V, hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  entry_read
  simp only [StableHlo.TRef.ofBuf_toBuf, to_v0, to_v19, to_v39, to_v42, to_v55, to_v57, to_v60, to_v61, to_v62, to_v63, to_v64, to_v65, of_arg0, of_c_3, of_v18, of_v12, of_c_8, of_v38, of_v37, of_c_10, of_v41, of_v45, of_v48, of_c_16, of_v54, of_v51, of_v56, of_v59, of_c_17, of_v20, of_v32]
  rfl

set_option maxHeartbeats 4000000 in
theorem V_first : (V m 0 main_v69 : IVec S112 32) = firstTable (tiles m) := by
  simp only [V, hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  entry_read
  simp only [StableHlo.TRef.ofBuf_toBuf, to_v0, to_v19, to_v39, to_v42, to_v55, to_v57, to_v60, to_v61, to_v62, to_v63, to_v64, to_v65, of_arg0, of_c_3, of_v18, of_v12, of_c_8, of_v38, of_v37, of_c_10, of_v41, of_v45, of_v48, of_c_16, of_v54, of_v51, of_v56, of_v59, of_c_17, of_v20, of_v32]
  rfl

set_option maxHeartbeats 4000000 in
theorem V_valid : (V m 0 main_v70 : IVec S112 32) = validTable (tiles m) := by
  simp only [V, hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  entry_read
  simp only [StableHlo.TRef.ofBuf_toBuf, to_v0, to_v19, to_v39, to_v42, to_v55, to_v57, to_v60, to_v61, to_v62, to_v63, to_v64, to_v65, of_arg0, of_c_3, of_v18, of_v12, of_c_8, of_v38, of_v37, of_c_10, of_v41, of_v45, of_v48, of_c_16, of_v54, of_v51, of_v56, of_v59, of_c_17, of_v20, of_v32]
  rfl

theorem tbl_0 : (tbl m 0 : IVec S112 32) = tileTable (tiles m) := (rfl : (tbl m 0 : IVec S112 32) = V m 0 main_v60).trans (V_tile m)
theorem tbl_1 : (tbl m 1 : IVec S112 32) = halfTable (tiles m) := (rfl : (tbl m 1 : IVec S112 32) = V m 0 main_v63).trans (V_half m)
theorem tbl_2 : (tbl m 2 : IVec S112 32) = expertTable (tiles m) := (rfl : (tbl m 2 : IVec S112 32) = V m 0 main_v64).trans (V_expert m)
theorem tbl_3 : (tbl m 3 : IVec S112 32) = firstTable (tiles m) := (rfl : (tbl m 3 : IVec S112 32) = V m 0 main_v69).trans (V_first m)
theorem tbl_4 : (tbl m 4 : IVec S112 32) = validTable (tiles m) := (rfl : (tbl m 4 : IVec S112 32) = V m 0 main_v70).trans (V_valid m)

theorem tileAt_eq (t : Fin 112) : tileAt (tbl m) t = tileTable (tiles m) (ValueIdx.ix1 t) := congrFun (tbl_0 m) (ValueIdx.ix1 t)
theorem halfAt_eq (t : Fin 112) : halfAt (tbl m) t = halfTable (tiles m) (ValueIdx.ix1 t) := congrFun (tbl_1 m) (ValueIdx.ix1 t)
theorem expertAt_eq (t : Fin 112) : expertAt (tbl m) t = expertTable (tiles m) (ValueIdx.ix1 t) := congrFun (tbl_2 m) (ValueIdx.ix1 t)
theorem firstAt_eq (t : Fin 112) : firstAt (tbl m) t = firstTable (tiles m) (ValueIdx.ix1 t) := congrFun (tbl_3 m) (ValueIdx.ix1 t)
theorem validAt_eq (t : Fin 112) : validAt (tbl m) t = validTable (tiles m) (ValueIdx.ix1 t) := congrFun (tbl_4 m) (ValueIdx.ix1 t)

variable {n : Nat → Nat} (ha : ∀ k : Fin 8, tiles m (ValueIdx.ix1 k) = BitVec.ofNat 32 (n k.val)) (hn : first n 8 ≤ 56)

include ha hn in
theorem validAt_iff (t : Fin 112) : validAt (tbl m) t = 1#32 ↔ t.val < 2 * first n 8 := by
  rw [validAt_eq, valid_word ha hn]
  split <;> simp_all

include ha hn in
theorem tileAt_toNat (t : Fin 112) : (tileAt (tbl m) t).toNat = Pairs.tile n t.val := by
  have := Pairs.tile_lt hn t.isLt
  rw [tileAt_eq, tile_word ha hn, toNat_word (by omega)]

include ha hn in
theorem halfAt_toNat (t : Fin 112) : (halfAt (tbl m) t).toNat = Pairs.half n t.val := by
  have := Pairs.half_lt (n := n) (t := t.val)
  rw [halfAt_eq, half_word ha hn, toNat_word (by omega)]

include ha hn in
theorem expertAt_toNat (t : Fin 112) (ht : t.val < 2 * first n 8) : (expertAt (tbl m) t).toNat = Pairs.at' n t.val := by
  have := (Pairs.spec ht).1
  rw [expertAt_eq, expert_word ha hn t ht, toNat_word (by omega)]

include ha hn in
/-- Where the counts fit, the tables are what the grid needs. -/
theorem good : Good (tbl m) where
  tile_lt t := by rw [tileAt_toNat m ha hn]; exact Pairs.tile_lt hn t.isLt
  half_lt t := by rw [halfAt_toNat m ha hn]; exact Pairs.half_lt
  expert_lt t := by rw [expertAt_eq]; exact expert_lt ha hn t
  flag t := by
    rw [validAt_eq, valid_word ha hn]
    split
    · exact .inl rfl
    · exact .inr rfl
  carry t h hf := by
    have ht := (validAt_iff m ha hn t).1 h
    have hl := t.isLt
    have hne : Pairs.place n t.val % n (Pairs.at' n t.val) ≠ 0 := fun e => hf (by rw [firstAt_eq, first_word ha hn t ht, if_pos e])
    obtain ⟨h0, ho, hh⟩ := Pairs.pred ht hne
    have ht' : t.val - 1 < 2 * first n 8 := by omega
    refine ⟨⟨t.val - 1, by omega⟩, by show t.val - 1 + 1 = t.val; omega, (validAt_iff m ha hn _).2 ht', BitVec.eq_of_toNat_eq ?_, BitVec.eq_of_toNat_eq ?_⟩
    · rw [expertAt_toNat m ha hn _ ht', expertAt_toNat m ha hn _ ht]; exact ho
    · rw [halfAt_toNat m ha hn, halfAt_toNat m ha hn]; exact hh
  inj t t' e e' := Fin.ext (Pairs.inj (n := n)
    (by rw [← tileAt_toNat m ha hn, ← tileAt_toNat m ha hn, e]) (by rw [← halfAt_toNat m ha hn, ← halfAt_toNat m ha hn, e']))

end

end Up

end
-- ==== Proof.Silu.lean ====
/- The gate's activation `x / (1 + e⁻ˣ)`, and the form of it with a hyperbolic tangent: over the extended reals the two
   are one function. -/
module

public import Idealize.ShloMosaic.PureOps.Ideal
public import Idealize.ShloMosaic.PureOps.Ideal.Laws

@[expose] public section

noncomputable section

namespace Silu

open Idealize.ShloMosaic

/-- The activation. -/
def silu (x : EReal) : EReal := x * Ideal.div 1 (1 + Ideal.exp (-x))

/-- On the reals: half of `x`, times one plus the hyperbolic tangent of half of `x`. -/
theorem real_eq (x : ℝ) : (1 / 2 * x) * (1 + Real.tanh (1 / 2 * x)) = x * (1 + Real.exp (-x))⁻¹ := by
  have hp : 0 < Real.exp (1 / 2 * x) := Real.exp_pos _
  have hq : 0 < Real.exp (-(1 / 2 * x)) := Real.exp_pos _
  have hpq : Real.exp (1 / 2 * x) * Real.exp (-(1 / 2 * x)) = 1 := by rw [← Real.exp_add]; simp
  have hx : Real.exp (-x) = Real.exp (-(1 / 2 * x)) * Real.exp (-(1 / 2 * x)) := by rw [← Real.exp_add]; congr 1; ring
  rw [Real.tanh_eq_sinh_div_cosh, Real.sinh_eq, Real.cosh_eq, hx]
  generalize Real.exp (1 / 2 * x) = p at *
  generalize Real.exp (-(1 / 2 * x)) = q at *
  have h1 : p + q ≠ 0 := by positivity
  have h2 : 1 + q * q ≠ 0 := by positivity
  have e : 1 + (p - q) / 2 / ((p + q) / 2) = 2 * p / (p + q) := by field_simp; ring
  have e' : 2 * p / (p + q) = 2 * (1 + q * q)⁻¹ := by
    rw [div_eq_iff h1, mul_assoc, inv_mul_eq_div, eq_comm, mul_div_assoc', div_eq_iff h2]
    linear_combination (-2 * q) * hpq
  rw [e, e']
  ring

theorem tanh_eq (x : EReal) : (((1 / 2 : ℝ) : EReal) * x) * (1 + Ideal.tanh (((1 / 2 : ℝ) : EReal) * x)) = silu x := by
  unfold silu
  induction x using EReal.rec with
  | bot =>
    rw [EReal.coe_mul_bot_of_pos (by norm_num)]
    have h : (1 : EReal) + Ideal.tanh ⊥ = 0 := by
      show (1 : EReal) + -1 = 0
      rw [← EReal.coe_one, ← EReal.coe_neg, ← EReal.coe_add]
      exact congrArg _ (by norm_num : (1 : ℝ) + -1 = 0)
    have h' : Ideal.div 1 (1 + Ideal.exp (-⊥)) = 0 := by
      have e : (1 : EReal) + Ideal.exp (-⊥) = ⊤ := by
        rw [EReal.neg_bot]; exact EReal.add_top_of_ne_bot (EReal.coe_ne_bot 1)
      rw [e]
      unfold Ideal.div
      simp
    rw [h, h', mul_zero]
  | top =>
    rw [EReal.coe_mul_top_of_pos (by norm_num)]
    have h : (1 : EReal) + Ideal.tanh ⊤ = ((2 : ℝ) : EReal) := by
      show (1 : EReal) + 1 = _
      rw [← EReal.coe_one, ← EReal.coe_add]
      exact congrArg _ (by norm_num : (1 : ℝ) + 1 = 2)
    have h' : Ideal.div 1 (1 + Ideal.exp (-⊤)) = 1 := by
      have e : (1 : EReal) + Ideal.exp (-⊤) = 1 := by
        rw [EReal.neg_top]; exact add_zero _
      rw [e]
      unfold Ideal.div
      simp
    rw [h, h', EReal.top_mul_coe_of_pos (by norm_num), mul_one]
  | coe x =>
    have hd : 0 < 1 + Real.exp (-x) := by positivity
    have h : Ideal.div 1 (1 + Ideal.exp (-(x : EReal))) = (((1 + Real.exp (-x))⁻¹ : ℝ) : EReal) := by
      have e : (1 : EReal) + Ideal.exp (-(x : EReal)) = ((1 + Real.exp (-x) : ℝ) : EReal) := by
        rw [← EReal.coe_neg, EReal.coe_add]; rfl
      rw [e]
      unfold Ideal.div
      rw [if_neg (by exact_mod_cast hd.ne'), one_mul, EReal.coe_inv]
    rw [h, ← EReal.coe_mul, ← EReal.coe_mul, ← real_eq x, ← EReal.coe_one]
    show _ * (((1 : ℝ) : EReal) + ((Real.tanh (1 / 2 * x) : ℝ) : EReal)) = _
    rw [← EReal.coe_add, ← EReal.coe_mul]

end Silu

end
-- ==== Proof.UpRef.lean ====
/- The experts' up projection's reference at an index: a row of a tile in use is the gated product of its activations
   with the two weights of the tile's owner; every other row is zero. -/
module

public import proofs.«01_k».proof.Proof.Owner
public import proofs.«01_k».proof.Proof.Silu
public import proofs.«01_k».proof.Proof.Gen.UpRefIdeal.Read
public import Idealize.ShloMosaic.PureOps.Ideal
public import Idealize.ShloMosaic.PureOps.Ideal.Laws
public import Idealize.ShloMosaic.Lib.IdealHost

@[expose] public section

set_option maxRecDepth 16384

noncomputable section

namespace UpRef

open Cert.UpRefIdeal Cert.UpRefIdeal.Gen Cert.UpRefIdeal.Read
open Idealize.ShloMosaic Idealize.ShloMosaic.Routing Idealize.ShloMosaic.ValueIdx Idealize.ShloMosaic.WordCmp
open Idealize.ShloMosaic.StableHlo.Predicate (slt_iff_toNat sle_iff_toNat)
open Owner

variable {x0 : IVec S8 32} {n : Nat → Nat} (ha : ∀ k : Fin 8, x0 (ValueIdx.ix1 k) = BitVec.ofNat 32 (n k.val)) (hn : first n 8 ≤ 56)

include ha in
theorem ends_word (i : S8.Idx) : val_main_v0 (F := Ideal) x0 i = BitVec.ofNat 32 (first n ((i 0).val + 1)) := by
  rw [ValueIdx.eq_ix1 i]
  exact cumsum1 (N := 8) (Nm1 := 7) rfl x0 n ha _ (bc0 bcast_S_S_ _ _) _ _ (i 0)

theorem row_word (i : S28672x1.Idx) : val_main_v2 (F := Ideal) i = BitVec.ofNat 32 (i 0).val := by
  rw [val_main_v2_apply, val_main_v1_apply]

include ha in
theorem start_word (i : S8.Idx) : val_main_v5 (F := Ideal) x0 i = BitVec.ofNat 32 (first n (i 0).val * 512) := by
  rw [val_main_v5_apply, val_main_v3_apply, val_main_v4_apply, ends_word ha]
  have h0 : x0 i = BitVec.ofNat 32 (n (i 0).val) := by rw [ValueIdx.eq_ix1 i]; exact ha (i 0)
  show (BitVec.ofNat 32 (first n ((i 0).val + 1)) - x0 i) * 512#32 = _
  rw [h0, first_succ, ofNat32_sub (by omega), Nat.add_sub_cancel]
  exact (BitVec.ofNat_mul ..).symm

include ha in
theorem end_word (i : S8.Idx) : val_main_v11 (F := Ideal) x0 i = BitVec.ofNat 32 (first n ((i 0).val + 1) * 512) := by
  rw [val_main_v11_apply, val_main_v10_apply, ends_word ha]
  exact (BitVec.ofNat_mul ..).symm

include ha hn in
/-- The mask: a row belongs to an expert where its tile is in use and the expert owns it. -/
theorem mine (i : S28672x8.Idx) :
    val_main_v16 (F := Ideal) x0 i = 1#1 ↔ (i 0).val / 512 < first n 8 ∧ owner n ((i 0).val / 512) = (i 1).val := by
  have h0 : (i 0).val < 28672 := (i 0).isLt
  have h1 : (i 1).val < 8 := (i 1).isLt
  have g1 : first n (i 1).val ≤ 56 := le_trans (first_mono n (by omega)) hn
  have g2 : first n ((i 1).val + 1) ≤ 56 := le_trans (first_mono n (by omega)) hn
  rw [← rows_iff (by norm_num) h1, val_main_v16_apply, IntOp.andi_eq_one, val_main_v9_apply, val_main_v15_apply,
    val_main_v7_apply, val_main_v6_apply, val_main_v8_apply, val_main_v13_apply, val_main_v14_apply, val_main_v12_apply,
    row_word, start_word ha, end_word ha]
  refine and_congr ?_ ?_
  · show IntOp.cmpi .sle (BitVec.ofNat 32 (first n (i 1).val * 512)) (BitVec.ofNat 32 (i 0).val) = 1#1 ↔ _
    rw [sle_iff_toNat (by rw [toNat_word (by omega)]; omega) (by rw [toNat_word (by omega)]; omega), toNat_word (by omega), toNat_word (by omega)]
  · show IntOp.cmpi .slt (BitVec.ofNat 32 (i 0).val) (BitVec.ofNat 32 (first n ((i 1).val + 1) * 512)) = 1#1 ↔ _
    rw [slt_iff_toNat (by rw [toNat_word (by omega)]; omega) (by rw [toNat_word (by omega)]; omega), toNat_word (by omega), toNat_word (by omega)]

variable (x1 : FVec Ideal S28672x1024 .f32) (x2 x3 : FVec Ideal S8x1024x3584 .f32)

/-- The product of a row of activations with a column of an expert's weights. -/
def product (w : FVec Ideal S8x1024x3584 .f32) (r : Fin 28672) (e : Fin 8) (f : Fin 3584) : EReal :=
  ∑ j : Fin 1024, (show EReal from x1 (ValueIdx.ix2 r j)) * (show EReal from w (ValueIdx.ix3 e j f))

theorem gate_eq (i : S28672x8x3584.Idx) : val_main_v17 (F := Ideal) x1 x2 i = product x1 x2 (i 0) (i 1) (i 2) := by
  rw [val_main_v17_apply]
  refine Finset.sum_congr rfl fun j _ => congrArg₂ (fun a b : EReal => a * b) (congrArg x1 (funext fun a => ?_)) (congrArg x2 (funext fun a => ?_))
  · match a with
    | ⟨0, _⟩ => rfl
    | ⟨1, _⟩ => rfl
  · match a with
    | ⟨0, _⟩ => rfl
    | ⟨1, _⟩ => rfl
    | ⟨2, _⟩ => rfl

theorem up_eq (i : S28672x8x3584.Idx) : val_main_v18 (F := Ideal) x1 x3 i = product x1 x3 (i 0) (i 1) (i 2) := by
  rw [val_main_v18_apply]
  refine Finset.sum_congr rfl fun j _ => congrArg₂ (fun a b : EReal => a * b) (congrArg x1 (funext fun a => ?_)) (congrArg x3 (funext fun a => ?_))
  · match a with
    | ⟨0, _⟩ => rfl
    | ⟨1, _⟩ => rfl
  · match a with
    | ⟨0, _⟩ => rfl
    | ⟨1, _⟩ => rfl
    | ⟨2, _⟩ => rfl

/-- The gated product: the gate's product, activated, times the other. -/
def gatedProduct (r : Fin 28672) (e : Fin 8) (f : Fin 3584) : EReal := Silu.silu (product x1 x2 r e f) * product x1 x3 r e f

theorem gated_eq (i : S28672x8x3584.Idx) : val_main_v21 (F := Ideal) x1 x2 x3 i = gatedProduct x1 x2 x3 (i 0) (i 1) (i 2) := by
  rw [val_main_v21_apply, val_main_v20_apply, val_main_call1_v5_apply, val_main_call1_v4_apply, val_main_call1_cst_0_apply,
    val_main_call1_v3_apply, val_main_call1_v2_apply, val_main_call1_cst_apply, val_main_call1_v1_apply, val_main_call1_v0_apply, gate_eq, up_eq]
  show product x1 x2 (i 0) (i 1) (i 2) * Ideal.div (Ideal.ofBits .f32 0x3F800000#32)
      (Ideal.ofBits .f32 0x3F800000#32 + Ideal.exp (-(product x1 x2 (i 0) (i 1) (i 2)))) * product x1 x3 (i 0) (i 1) (i 2) = _
  rw [Ideal.ofBits_one_f32]
  rfl

theorem zero_eq : FloatOps.ofBits (F := Ideal) .f32 0x00000000#32 = (0 : EReal) := by simp

include ha hn in
theorem value (r : Fin 28672) (f : Fin 3584) :
    val_main_v24 (F := Ideal) x0 x1 x2 x3 (ValueIdx.ix2 r f)
      = if r.val / 512 < first n 8 then gatedProduct x1 x2 x3 r ⟨min (owner n (r.val / 512)) 7, by omega⟩ f else (0 : EReal) := by
  rw [val_main_v24_apply]
  show val_main_v23 (F := Ideal) x0 x1 x2 x3 (ValueIdx.ix2 r f) = _
  rw [val_main_v23_apply, val_main_cst_1_apply, zero_eq]
  have hterm : ∀ k : Fin 8, val_main_v22 (F := Ideal) x0 x1 x2 x3 (idx_main_v23 (ValueIdx.ix2 r f) k)
      = if r.val / 512 < first n 8 ∧ owner n (r.val / 512) = k.val then gatedProduct x1 x2 x3 r k f else (0 : EReal) := fun k => by
    rw [val_main_v22_apply, val_main_call2_v1_apply, val_main_v19_apply, bit_eq (mine ha hn _), gated_eq, val_main_call2_v2_apply,
      val_main_call2_v0_apply, val_main_cst_apply, zero_eq]
    show Scalar.select (BitVec.ofBool (decide (r.val / 512 < first n 8 ∧ owner n (r.val / 512) = k.val))) (gatedProduct x1 x2 x3 r k f) (0 : EReal) = _
    by_cases h : r.val / 512 < first n 8 ∧ owner n (r.val / 512) = k.val <;> simp [h, Scalar.select]
  simp only [hterm]
  by_cases ht : r.val / 512 < first n 8
  · have h8 := (owner_spec ht).1
    rw [if_pos ht, Finset.sum_eq_single (⟨owner n (r.val / 512), h8⟩ : Fin 8)]
    · rw [if_pos ⟨ht, rfl⟩]
      refine (zero_add _).trans (congrArg (fun e => gatedProduct x1 x2 x3 r e f) (Fin.ext ?_))
      show owner n (r.val / 512) = min (owner n (r.val / 512)) 7
      omega
    · intro k _ hk
      exact if_neg fun h => hk (Fin.ext h.2.symm)
    · intro h; exact absurd (Finset.mem_univ _) h
  · rw [if_neg ht, Finset.sum_eq_zero fun k _ => if_neg fun h => ht h.1]
    exact zero_add _

end UpRef

end
-- ==== Proof.UpValue.lean ====
/- The experts' up projection's result: its output blocks, put together, are the reference's array. -/
module

public import proofs.«01_k».proof.Proof.UpRun
public import proofs.«01_k».proof.Proof.UpTables
public import proofs.«01_k».proof.Proof.UpRef
public import Idealize.ShloMosaic.Lib.Pipeline.ValueKit
public import Idealize.ShloMosaic.Lib.MatmulPlain
public import Idealize.ShloMosaic.Lib.IdealHost

@[expose] public section

set_option maxRecDepth 16384

noncomputable section

namespace Up

open Cert.UpIdeal Cert.UpIdeal.Gen
open Idealize.ShloMosaic Idealize.ShloMosaic.TcCoe Idealize.ShloMosaic.Tactic
open Idealize.ShloMosaic.Pipeline (Dat Cfg Window)
open Owner

/-- The word of one half. -/
theorem half_eq : Ideal.ofBits .f32 0x3F000000#32 = (((1 : ℝ) / 2 : ℝ) : EReal) := by
  simp [Ideal.ofBits, Ideal.ieee, -EReal.coe_mul]; norm_num

theorem dot_apply (x : Vec Ideal S512x1024 .bf16) (w : Vec Ideal S1024x256 .bf16) (r : Fin 512) (d : Fin 256) :
    (matmul (F := Ideal) (φ₁ := .bf16) (φ₂ := .bf16) dot_S512x1024_S1024x256_S512x256_1_0_0_1_n_n none x w (constant S512x256 .f32 0x00000000#32) (ValueIdx.ix2 r d) : EReal)
      = ∑ j : Fin 1024, (show EReal from x (ValueIdx.ix2 r j)) * (show EReal from w (ValueIdx.ix2 j d)) := by
  refine (Ideal.matmul_plain_apply (M := 512) (K := 1024) (N := 256) none x w (constant S512x256 .f32 0x00000000#32) r d).trans ?_
  show (FloatOps.ofBits (F := Ideal) .f32 0x00000000#32 : EReal) + _ = _
  rw [UpRef.zero_eq, zero_add]

/-- An element of a gated product: the tanh form of the activation is the activation. -/
theorem pay8_apply (x : Vec Ideal S512x1024 .bf16) (u v : Vec Ideal S1024x256 .bf16) (r : Fin 512) (d : Fin 256) :
    (k0_pay8 x u v (ValueIdx.ix2 r d) : EReal)
      = Silu.silu (∑ j : Fin 1024, (show EReal from x (ValueIdx.ix2 r j)) * (show EReal from u (ValueIdx.ix2 j d)))
        * ∑ j : Fin 1024, (show EReal from x (ValueIdx.ix2 r j)) * (show EReal from v (ValueIdx.ix2 j d)) := by
  rw [← Silu.tanh_eq, ← half_eq, ← dot_apply x u r d, ← dot_apply x v r d]
  have h1 := Ideal.ofBits_one_f32
  conv_rhs => rw [← h1]
  rfl

section
variable (pf : pre0.Contents (Elt Ideal)) (hG : Good pf)
  (B : (c : Dev nD) → (b : Ref sig .tc) → Buf (Elt Ideal) ((c : Thread nD τ).loc b))

/-- A product of the block's activations with a column of a rounded weight block is the array's. -/
theorem product_block (c : Dev nD) (t : Fin (cfgM pf hG).N) (hv : validAt pf (pt pf hG t) = 1#32) (A : Vec Ideal S8x1024x3584 .f32)
    (r : Fin 512) (f : Fin 1792) :
    (∑ j : Fin 1024, (show EReal from k0_pay5 (F := Ideal) (iblk pf hG B c 0 t) (ValueIdx.ix2 r j))
        * (show EReal from rounded (F := Ideal) (weightsOf pf hG A (pt pf hG t)) (ValueIdx.ix2 j f)))
      = UpRef.product (B c main_arg1) A
          ⟨(tileAt pf (pt pf hG t)).toNat * 512 + r.val, by have := hG.tile_lt (pt pf hG t); have := r.isLt; omega⟩
          ⟨(expertAt pf (pt pf hG t)).toNat, hG.expert_lt _⟩
          ⟨(halfAt pf (pt pf hG t)).toNat * 1792 + f.val, by have := hG.half_lt (pt pf hG t); have := f.isLt; omega⟩ := by
  unfold UpRef.product
  rw [act_block]
  refine Finset.sum_congr rfl fun j _ => congrArg₂ (fun a b : EReal => a * b) ?_ ?_
  · exact congrArg (B c main_arg1) (funext fun a => match a with
      | ⟨0, _⟩ => rfl
      | ⟨1, _⟩ => rfl)
  · have e := congrArg BitVec.toNat (weightHalf_valid pf hv)
    show A _ = A _
    refine congrArg A (funext fun a => ?_)
    match a with
    | ⟨0, _⟩ => rfl
    | ⟨1, _⟩ => rfl
    | ⟨2, _⟩ => exact Fin.ext (congrArg (fun h => h * 1792 + f.val) e)

theorem column_index (s : Vec Ideal S1024x1792 .bf16) (f : Fin 1792) (h : f.val / 256 * 256 + 256 ≤ 1792) (j : Fin 1024) :
    columns s (f.val / 256 * 256) h (ValueIdx.ix2 j (⟨f.val % 256, Nat.mod_lt _ (by norm_num)⟩ : Fin 256)) = s (ValueIdx.ix2 j f) := by
  unfold columns
  refine congrArg s (funext fun a => ?_)
  match a with
  | ⟨0, _⟩ => rfl
  | ⟨1, _⟩ => exact Fin.ext (by show f.val / 256 * 256 + f.val % 256 = f.val; omega)

/-- An element of an output block. -/
theorem outBlock_apply (c : Dev nD) (t : Fin (cfgM pf hG).N) (r : Fin 512) (f : Fin 1792) :
    (outBlock pf hG B c t (ValueIdx.ix2 r f) : EReal)
      = if validAt pf (pt pf hG t) = 1#32 then
          UpRef.gatedProduct (B c main_arg1) (B c main_arg2) (B c main_arg3)
            ⟨(tileAt pf (pt pf hG t)).toNat * 512 + r.val, by have := hG.tile_lt (pt pf hG t); have := r.isLt; omega⟩
            ⟨(expertAt pf (pt pf hG t)).toNat, hG.expert_lt _⟩
            ⟨(halfAt pf (pt pf hG t)).toNat * 1792 + f.val, by have := hG.half_lt (pt pf hG t); have := f.isLt; omega⟩
        else 0 := by
  unfold outBlock
  split
  case isTrue hv =>
    refine (pay8_apply _ _ _ r _).trans ?_
    unfold UpRef.gatedProduct
    rw [gate_block, up_block, ← product_block pf hG B c t hv (B c main_arg2) r f, ← product_block pf hG B c t hv (B c main_arg3) r f]
    refine congrArg₂ (fun a b : EReal => Silu.silu a * b) ?_ ?_
    · exact Finset.sum_congr rfl fun j _ => congrArg₂ (fun a b : EReal => a * b) rfl (column_index _ f _ j)
    · exact Finset.sum_congr rfl fun j _ => congrArg₂ (fun a b : EReal => a * b) rfl (column_index _ f _ j)
  case isFalse => exact (by simp : FloatOps.ofBits (F := Ideal) .bf16 0x0000#16 = (0 : EReal))

/-- Every output block is written: no two grid points have the same one. -/
theorem flush_3 (t : Fin (cfgM pf hG).N) : ((cfgM pf hG).win 3).flush t = true := by
  show (true && (decide (t.val + 1 = (cfgM pf hG).N) || decide (∃ h : t.val + 1 < (cfgM pf hG).N,
    (win0 (adm pf hG 0) 3).index ⟨t.val + 1, h⟩ ≠ (win0 (adm pf hG 0) 3).index t))) = true
  by_cases hl : t.val + 1 = (cfgM pf hG).N
  · simp [hl]
  · have h : t.val + 1 < (cfgM pf hG).N := by have := t.isLt; omega
    have hne : (win0 (adm pf hG 0) 3).index ⟨t.val + 1, h⟩ ≠ (win0 (adm pf hG 0) 3).index t := fun e => by
      rw [idx_3, idx_3] at e
      have e0 := BitVec.eq_of_toNat_eq (congrFun e 0)
      have e1 := BitVec.eq_of_toNat_eq (congrFun e 1)
      have := congrArg Fin.val (hG.inj _ _ e0 e1)
      change t.val + 1 = t.val at this
      omega
    simp only [Bool.true_and, Bool.or_eq_true, decide_eq_true_eq]
    exact .inr ⟨h, hne⟩

/-- Where an element of an output block lies in the array. -/
theorem emb_3 (t : Fin (cfgM pf hG).N) (y : S512x1792.Idx) :
    ((((cfgM pf hG).win 3).blk t).view.emb y : S28672x3584.Idx)
      = ValueIdx.ix2 (⟨(tileAt pf (pt pf hG t)).toNat * 512 + (y 0).val, by
            have := hG.tile_lt (pt pf hG t); have := (y 0).isLt; change (y 0).val < 512 at this; omega⟩ : Fin 28672)
          (⟨(halfAt pf (pt pf hG t)).toNat * 1792 + (y 1).val, by
            have := hG.half_lt (pt pf hG t); have := (y 1).isLt; change (y 1).val < 1792 at this; omega⟩ : Fin 3584) := by
  show (((cfgM pf hG).win 3).rect t).emb y = _
  refine funext fun a => Fin.ext ?_
  have e := congrFun (idx_3 pf hG t) a
  show (win0 (adm pf hG 0) 3).index t a * S512x1792.size a + 1 * (y a).val = _
  rw [e]
  match a with
  | ⟨0, _⟩ => show (tileAt pf (pt pf hG t)).toNat * 512 + 1 * (y 0).val = (tileAt pf (pt pf hG t)).toNat * 512 + (y 0).val; omega
  | ⟨1, _⟩ => show (halfAt pf (pt pf hG t)).toNat * 1792 + 1 * (y 1).val = (halfAt pf (pt pf hG t)).toNat * 1792 + (y 1).val; omega

include hG in
/-- Every pair of a tile and a half is some grid point's: there are as many points as pairs. -/
theorem onto (p : Fin 56) (h : Fin 2) : ∃ t : Fin 112, (tileAt pf t).toNat = p.val ∧ (halfAt pf t).toNat = h.val := by
  let g : Fin 112 → Fin 56 × Fin 2 := fun t => (⟨(tileAt pf t).toNat, hG.tile_lt t⟩, ⟨(halfAt pf t).toNat, hG.half_lt t⟩)
  have hi : Function.Injective g := fun t t' e => hG.inj t t'
    (BitVec.eq_of_toNat_eq (congrArg (fun q : Fin 56 × Fin 2 => q.1.val) e)) (BitVec.eq_of_toNat_eq (congrArg (fun q : Fin 56 × Fin 2 => q.2.val) e))
  have hb : Function.Bijective g := (Fintype.bijective_iff_injective_and_card g).2 ⟨hi, by simp⟩
  obtain ⟨t, ht⟩ := hb.2 (p, h)
  exact ⟨t, congrArg (fun q : Fin 56 × Fin 2 => q.1.val) ht, congrArg (fun q : Fin 56 × Fin 2 => q.2.val) ht⟩

/-- Every element of the array is in an output block. -/
theorem cover_3 (i : S28672x3584.Idx) : ∃ t : Fin (cfgM pf hG).N, ((cfgM pf hG).win 3).flush t = true ∧ i ∈ (((cfgM pf hG).win 3).blk t).view.set := by
  have h0 : (i 0).val < 28672 := (i 0).isLt
  have h1 : (i 1).val < 3584 := (i 1).isLt
  obtain ⟨t', hp, hh⟩ := onto pf hG ⟨(i 0).val / 512, by omega⟩ ⟨(i 1).val / 1792, by omega⟩
  let t : Fin (cfgM pf hG).N := t'
  refine ⟨t, flush_3 pf hG t, ?_⟩
  let y : S512x1792.Idx := ValueIdx.ix2 (⟨(i 0).val % 512, by omega⟩ : Fin 512) (⟨(i 1).val % 1792, by omega⟩ : Fin 1792)
  have e : ((((cfgM pf hG).win 3).blk t).view.emb y : S28672x3584.Idx) = i := by
    rw [emb_3 pf hG t y]
    have hp' : (tileAt pf (pt pf hG t)).toNat = (i 0).val / 512 := hp
    have hh' : (halfAt pf (pt pf hG t)).toNat = (i 1).val / 1792 := hh
    funext a
    match a with
    | ⟨0, _⟩ => exact Fin.ext (by show (tileAt pf (pt pf hG t)).toNat * 512 + (i 0).val % 512 = (i 0).val; omega)
    | ⟨1, _⟩ => exact Fin.ext (by show (halfAt pf (pt pf hG t)).toNat * 1792 + (i 1).val % 1792 = (i 1).val; omega)
  rw [← e]
  exact View.emb_mem_set _ _

/-- An array whose elements are the output blocks' is the result. -/
theorem array_eq (c : Dev nD) (G : FVec Ideal S28672x3584 .bf16)
    (hv : ∀ (t : Fin (cfgM pf hG).N) (r : Fin 512) (f : Fin 1792), outBlock pf hG B c t (ValueIdx.ix2 r f)
      = G (ValueIdx.ix2 (⟨(tileAt pf (pt pf hG t)).toNat * 512 + r.val, by have := hG.tile_lt (pt pf hG t); have := r.isLt; omega⟩ : Fin 28672)
          (⟨(halfAt pf (pt pf hG t)).toNat * 1792 + f.val, by have := hG.half_lt (pt pf hG t); have := f.isLt; omega⟩ : Fin 3584))) :
    (dats pf hG B 0 c).arrAt 3 (cfgM pf hG).N = G :=
  (dats pf hG B 0 c).arrAt_eq_of_emb 3 G (fun t _ (y : S512x1792.Idx) => by
    rw [show (((cfgM pf hG).win 3).blk t).view.emb y = _ from emb_3 pf hG t y]
    have e : (dats pf hG B 0 c).after 3 t = outBlock pf hG B c t := after_3 pf hG B c t
    show (dats pf hG B 0 c).after 3 t y = _
    rw [e]
    exact (congrArg (outBlock pf hG B c t) (ValueIdx.eq_ix2 y)).trans (hv t (y 0) (y 1))) (cover_3 pf hG)

end

variable (m : (ℓ : Loc nD τ sig) → Buf (Elt Ideal) ℓ) {n : Nat → Nat}
  (ha : ∀ k : Fin 8, tiles m (ValueIdx.ix1 k) = BitVec.ofNat 32 (n k.val)) (hn : first n 8 ≤ 56)

/-- Gated products of the same row and column, each where its tile is in use. -/
theorem row_congr {P P' : Prop} [Decidable P] [Decidable P'] {x1 : FVec Ideal Cert.UpRefIdeal.S28672x1024 .f32}
    {x2 x3 : FVec Ideal Cert.UpRefIdeal.S8x1024x3584 .f32} {r : Fin 28672} {f : Fin 3584} {e e' : Fin 8} (hP : P ↔ P') (he : P → e = e') :
    (if P then UpRef.gatedProduct x1 x2 x3 r e f else 0) = if P' then UpRef.gatedProduct x1 x2 x3 r e' f else (0 : EReal) := by
  by_cases h : P
  · rw [if_pos h, if_pos (hP.1 h), he h]
  · rw [if_neg h, if_neg fun h' => h (hP.2 h')]

include ha hn in
theorem tile_of_row (t : Fin 112) (r : Fin 512) : ((tileAt (tbl m) t).toNat * 512 + r.val) / 512 = Pairs.tile n t.val := by
  have := r.isLt
  rw [tileAt_toNat m ha hn]
  omega

/-- The result array is the reference's. -/
theorem final (c : Dev nD) : (dats (tbl m) (good m ha hn) (V m) 0 c).arrAt 3 (cfgM (tbl m) (good m ha hn)).N
    = Cert.UpRefIdeal.Read.val_main_v24 (F := Ideal) (m ((c : Thread nD τ).loc main_arg0)) (m ((c : Thread nD τ).loc main_arg1))
        (m ((c : Thread nD τ).loc main_arg2)) (m ((c : Thread nD τ).loc main_arg3)) := by
  obtain rfl : c = 0 := Subsingleton.elim _ _
  refine array_eq (tbl m) (good m ha hn) (V m) 0 _ fun t r f => ?_
  have hr := r.isLt
  rw [outBlock_apply]
  rw [V_main_arg1 m (0 : Dev nD), V_main_arg2 m (0 : Dev nD), V_main_arg3 m (0 : Dev nD)]
  refine Eq.trans (row_congr ?_ ?_) (UpRef.value (x0 := tiles m) ha hn _ _ _ _ _).symm
  · rw [tile_of_row m ha hn]
    exact (validAt_iff m ha hn _).trans Pairs.tile_iff.symm
  · intro h
    have ht := (validAt_iff m ha hn _).1 h
    refine Fin.ext ?_
    refine (expertAt_toNat m ha hn _ ht).trans (Eq.trans ?_ (congrArg (fun p => min (owner n p) 7) (tile_of_row m ha hn _ r).symm))
    have h8 := (Pairs.spec ht).1
    show Pairs.at' n t.val = min (owner n (Pairs.tile n t.val)) 7
    change t.val < 2 * first n 8 at ht
    rw [(Pairs.tile_owner ht).2]
    change Pairs.at' n t.val < 8 at h8
    omega

end Up

end
-- ==== Proof.UpSame.lean ====
/- The kernel and its idealization are one text: their body tables and host code are equal, and so are their runs. -/
module

public import proofs.«01_k».proof.Defs
public import proofs.«01_k».proof.Proof.Gen.Up
public import proofs.«01_k».proof.Proof.Gen.UpIdeal
public import proofs.«01_k».proof.Proof.Gen.Up.Launch
public import proofs.«01_k».proof.Proof.Gen.UpIdeal.Launch

@[expose] public section

set_option maxRecDepth 200000
set_option maxHeartbeats 1000000

noncomputable section

namespace UpSame

open Idealize.ShloMosaic Idealize.SL.Sem

attribute [local instance] Cert.Up.Gen.facts Cert.UpIdeal.Gen.facts

theorem defs₀_eq : Cert.Up.defs₀ (F := Bits) = Cert.UpIdeal.defs₀ (F := Bits) := by
  refine congrArg Defs.onTc (funext fun l => funext fun a => ?_)
  match l, a with
  | 0, (t, s) => rfl
theorem defs_eq : Cert.Up.defs (F := Bits) = Cert.UpIdeal.defs (F := Bits) :=
  congrArg (Pipeline.defs Cert.UpIdeal.pcfgs) defs₀_eq

theorem ops0 : Cert.Up.Gen.hostOps0 (F := Bits) = Cert.UpIdeal.Gen.hostOps0 (F := Bits) := rfl
theorem ops1 : Cert.Up.Gen.hostOps0_1 (F := Bits) = Cert.UpIdeal.Gen.hostOps0_1 (F := Bits) := rfl
theorem ops2 : Cert.Up.Gen.hostOps0_2 (F := Bits) = Cert.UpIdeal.Gen.hostOps0_2 (F := Bits) := rfl
theorem ops3 : Cert.Up.Gen.hostOps0_3 (F := Bits) = Cert.UpIdeal.Gen.hostOps0_3 (F := Bits) := rfl
theorem ops4 : Cert.Up.Gen.hostOps0_4 (F := Bits) = Cert.UpIdeal.Gen.hostOps0_4 (F := Bits) := rfl
theorem ops5 : Cert.Up.Gen.hostOps0_5 (F := Bits) = Cert.UpIdeal.Gen.hostOps0_5 (F := Bits) := rfl
theorem ops6 : Cert.Up.Gen.hostOps0_6 (F := Bits) = Cert.UpIdeal.Gen.hostOps0_6 (F := Bits) := rfl
theorem ops7 : Cert.Up.Gen.hostOps0_7 (F := Bits) = Cert.UpIdeal.Gen.hostOps0_7 (F := Bits) := rfl
theorem ops8 : Cert.Up.Gen.hostOps0_8 (F := Bits) = Cert.UpIdeal.Gen.hostOps0_8 (F := Bits) := rfl
theorem ops9 : Cert.Up.Gen.hostOps0_9 (F := Bits) = Cert.UpIdeal.Gen.hostOps0_9 (F := Bits) := rfl
theorem ops10 : Cert.Up.Gen.hostOps0_10 (F := Bits) = Cert.UpIdeal.Gen.hostOps0_10 (F := Bits) := rfl
theorem ops11 : Cert.Up.Gen.hostOps0_11 (F := Bits) = Cert.UpIdeal.Gen.hostOps0_11 (F := Bits) := rfl
theorem ops12 : Cert.Up.Gen.hostOps0_12 (F := Bits) = Cert.UpIdeal.Gen.hostOps0_12 (F := Bits) := rfl
theorem ops13 : Cert.Up.Gen.hostOps0_13 (F := Bits) = Cert.UpIdeal.Gen.hostOps0_13 (F := Bits) := rfl
theorem ops14 : Cert.Up.Gen.hostOps0_14 (F := Bits) = Cert.UpIdeal.Gen.hostOps0_14 (F := Bits) := rfl
theorem ops15 : Cert.Up.Gen.hostOps0_15 (F := Bits) = Cert.UpIdeal.Gen.hostOps0_15 (F := Bits) := rfl
theorem ops16 : Cert.Up.Gen.hostOps0_16 (F := Bits) = Cert.UpIdeal.Gen.hostOps0_16 (F := Bits) := rfl
theorem ops17 : Cert.Up.Gen.hostOps0_17 (F := Bits) = Cert.UpIdeal.Gen.hostOps0_17 (F := Bits) := rfl
theorem ops18 : Cert.Up.Gen.hostOps0_18 (F := Bits) = Cert.UpIdeal.Gen.hostOps0_18 (F := Bits) := rfl
theorem ops19 : Cert.Up.Gen.hostOps0_19 (F := Bits) = Cert.UpIdeal.Gen.hostOps0_19 (F := Bits) := rfl

theorem main_eq (c) : Cert.Up.main (F := Bits) c = Cert.UpIdeal.main (F := Bits) c :=
  (Cert.Up.Gen.main_chain c).trans <| Eq.trans (congrArg Pipeline.chain <|
    congrArg₂ List.cons (congrArg StableHlo.seq ops0) <| congrArg₂ List.cons (congrArg StableHlo.seq ops1) <|
    congrArg₂ List.cons (congrArg StableHlo.seq ops2) <| congrArg₂ List.cons (congrArg StableHlo.seq ops3) <|
    congrArg₂ List.cons (congrArg StableHlo.seq ops4) <| congrArg₂ List.cons (congrArg StableHlo.seq ops5) <|
    congrArg₂ List.cons (congrArg StableHlo.seq ops6) <| congrArg₂ List.cons (congrArg StableHlo.seq ops7) <|
    congrArg₂ List.cons (congrArg StableHlo.seq ops8) <| congrArg₂ List.cons (congrArg StableHlo.seq ops9) <|
    congrArg₂ List.cons (congrArg StableHlo.seq ops10) <| congrArg₂ List.cons (congrArg StableHlo.seq ops11) <|
    congrArg₂ List.cons (congrArg StableHlo.seq ops12) <| congrArg₂ List.cons (congrArg StableHlo.seq ops13) <|
    congrArg₂ List.cons (congrArg StableHlo.seq ops14) <| congrArg₂ List.cons (congrArg StableHlo.seq ops15) <|
    congrArg₂ List.cons (congrArg StableHlo.seq ops16) <| congrArg₂ List.cons (congrArg StableHlo.seq ops17) <|
    congrArg₂ List.cons (congrArg StableHlo.seq ops18) <| congrArg₂ List.cons (congrArg StableHlo.seq ops19) rfl)
    (Cert.UpIdeal.Gen.main_chain c).symm

theorem run_eq (s) : θ_run (Cert.Up.defs (F := Bits)) (onTc (τ := Cert.Up.τ) (Cert.Up.main (F := Bits))) s
    = θ_run (Cert.UpIdeal.defs (F := Bits)) (onTc (τ := Cert.UpIdeal.τ) (Cert.UpIdeal.main (F := Bits))) s :=
  congrArg₂ (fun d p => θ_run d (onTc (τ := Cert.UpIdeal.τ) p) s) defs_eq (funext main_eq)

end UpSame

end
-- ==== Proof.UpTilesFit.lean ====
/- The precondition of the up projection's claims: the word an expert's count of tiles holds is from 0 to 56, and the
   counts' sum is at most 56, the number of tiles. -/
module

public import proofs.«01_k».proof.Pre_up_tiles_fit
public import proofs.«01_k».proof.Proof.TilesFit
public import Idealize.ShloMosaic.Lib.ReduceAll
public import Idealize.ShloMosaic.Lib.Affine

@[expose] public section

set_option maxRecDepth 16384

noncomputable section

namespace UpTilesFit

open Cert.Pre_up_tiles_fit
open Idealize.ShloMosaic Idealize.ShloMosaic.Routing
open Owner

instance facts : Cert.Pre_up_tiles_fit.Facts where
  bcast_S_S8 := by decide
  reducesTo_S8_S_d0 := by decide
  h_S_ := by decide

theorem fit {F : FTy → Type} [FloatOps F] (a : IVec S8 32) (x1 : FVec F S28672x1024 .f32) (x2 x3 : FVec F S8x1024x3584 .f32)
    (h : fn (F := F) a x1 x2 x3 = fun _ => 1#1) : first (counts a) 8 ≤ 56 := by
  have : Subsingleton S_.Idx := ⟨fun a b => funext fun k => k.elim0⟩
  have h0 := congrFun h ValueIdx.ix0
  dsimp only [fn] at h0
  obtain ⟨h1, h2⟩ := IntOp.andi_eq_one.1 h0
  obtain ⟨hge, hle⟩ := IntOp.andi_eq_one.1 h1
  have hc : ∀ k : Fin 8, (a (ValueIdx.ix1 k)).toNat ≤ 56 := fun k =>
    TilesFit.count_le (Host.reduce_andi_all _ _ _ _ _ hge (ValueIdx.ix1 k)) (Host.reduce_andi_all _ _ _ _ _ hle (ValueIdx.ix1 k))
  have hk : ∀ k < 8, counts a k ≤ 56 := fun k hk => by
    have := hc ⟨k, hk⟩
    rwa [Owner.counts, dif_pos hk]
  have hs : Host.reduce IntOp.addi a (constantI S_ 32 0#32) Facts.reducesTo_S8_S_d0 Facts.h_S_ ValueIdx.ix0 = BitVec.ofNat 32 (first (counts a) 8) :=
    reduce_sum (N := 8) a (counts a) (word_counts a) _ _
  have hb : first (counts a) 8 < 2 ^ 31 := by
    have e : ∀ j ≤ 8, first (counts a) j ≤ 56 * j := by
      intro j
      induction j with
      | zero => intro _; simp [first]
      | succ j ih =>
        intro hj
        rw [first_succ]
        have := ih (by omega)
        have := hk j (by omega)
        omega
    have := e 8 le_rfl
    omega
  have h3 : IntOp.cmpi .sle (BitVec.ofNat 32 (first (counts a) 8)) 56#32 = 1#1 := by
    rw [← hs]; exact h2
  rw [IntOp.cmpi_sle] at h3
  have e1 : (56#32 : BitVec 32).toInt = 56 := by decide
  rw [e1, BitVec.toInt_eq_toNat_cond, toNat_word hb] at h3
  split at h3 <;> omega

end UpTilesFit

end
-- ==== Proof.UpClaim.lean ====
/- The experts' up projection: its frames and its value claim. -/
module

public import proofs.«01_k».proof.Defs
public import proofs.«01_k».proof.Proof.UpValue
public import proofs.«01_k».proof.Proof.UpSame
public import proofs.«01_k».proof.Proof.UpTilesFit
public import proofs.«01_k».proof.Proof.Gen.Up
public import proofs.«01_k».proof.Proof.Gen.UpRefIdeal.Run
public import Idealize.ShloMosaic.Lib.Claim
public import Idealize.ShloMosaic.Adequacy
public import Idealize.ShloMosaic.Init

@[expose] public section

set_option maxRecDepth 200000

noncomputable section

namespace Cert.Proof.Up

open Idealize.ShloMosaic Idealize.SL.Sem
open Owner

theorem good {F : FTy → Type} [FloatOps F] (m : (ℓ : Loc Cert.UpIdeal.nD Cert.UpIdeal.τ Cert.UpIdeal.sig) → Buf (Elt F) ℓ)
    (hn : first (counts (_root_.Up.tiles m)) 8 ≤ 56) : _root_.Up.Good (_root_.Up.tbl m) := _root_.Up.good m (word_counts (_root_.Up.tiles m)) hn

theorem frame_ideal : Cert.quiescent_UpIdeal (hUpIdeal := Cert.UpIdeal.Gen.facts) (hPre_up_tiles_fit := UpTilesFit.facts) := fun m g h =>
  (θ_run Cert.UpIdeal.defs _ _).mono (fun _ r => ⟨fun c => (r.1 c).1, r.2⟩)
    (_root_.Up.run_result m g (good m (UpTilesFit.fit _ _ _ _ (h 0))))

theorem frame_kernel : Cert.quiescent_Up (hUp := Cert.Up.Gen.facts) (hPre_up_tiles_fit := UpTilesFit.facts) := by
  intro m g h
  have k := (θ_run Cert.UpIdeal.defs _ _).mono (fun _ r => And.intro (fun c => (r.1 c).1) r.2)
    (_root_.Up.run_result (F := Bits) m g (good m (UpTilesFit.fit _ _ _ _ (h 0))))
  rw [UpSame.run_eq]
  exact k

theorem frame_ref : Cert.quiescent_UpRefIdeal (hUpRefIdeal := Cert.UpRefIdeal.Gen.facts) := fun m g _ =>
  (θ_run Cert.UpRefIdeal.defs _ _).mono (fun r h => ⟨fun c => (h c).2, sem_eq_zero_of_no_sems (by decide) r.2⟩)
    (Cert.UpRefIdeal.Value.run m g)

theorem algebraic : Cert.algebraic_UpIdeal_UpRefIdeal (hUpIdeal := Cert.UpIdeal.Gen.facts)
    (hUpRefIdeal := Cert.UpRefIdeal.Gen.facts) (hPre_up_tiles_fit := UpTilesFit.facts) := by
  intro m g m' g' hpre hagree
  have hn : first (counts (_root_.Up.tiles m)) 8 ≤ 56 := UpTilesFit.fit _ _ _ _ (hpre 0)
  refine ⟨fun c => (_root_.Up.dats (_root_.Up.tbl m) (good m hn) (_root_.Up.V m) 0 c).arrAt 3 (_root_.Up.cfgM (_root_.Up.tbl m) (good m hn)).N,
    (θ_run Cert.UpIdeal.defs _ _).mono (fun _ r c => ⟨(r.1 c).2, (r.1 c).1⟩) (_root_.Up.run_result m g (good m hn)),
    (θ_run Cert.UpRefIdeal.defs _ _).mono (fun r h c => ⟨?_, (h c).2⟩) (Cert.UpRefIdeal.Value.run m' g')⟩
  rw [(h c).1, Cert.UpRefIdeal.Read.val_main_v24_eq]
  obtain ⟨a0, a1, a2, a3⟩ := hagree c
  rw [a0, a1, a2, a3]
  exact (_root_.Up.final m (word_counts (_root_.Up.tiles m)) hn c).symm

end Cert.Proof.Up

end
-- ==== Proof.lean ====
module

public import proofs.«01_k».proof.Defs
public import proofs.«01_k».proof.Proof.Gen.GqaLat
public import proofs.«01_k».proof.Proof.Gen.GqaLat.Frame
public import proofs.«01_k».proof.Proof.Gen.GqaLatIdeal
public import proofs.«01_k».proof.Proof.Gen.GqaLatIdeal.Frame
public import proofs.«01_k».proof.Proof.Gen.GqaLatIdeal.Value
public import proofs.«01_k».proof.Proof.Gen.GqaLatRefIdeal
public import proofs.«01_k».proof.Proof.Gen.GqaLatRefIdeal.Run
public import proofs.«01_k».proof.Proof.Gen.GqaLatRefIdeal.Read
public import proofs.«01_k».proof.Proof.Gen.Down
public import proofs.«01_k».proof.Proof.Gen.Down.Skeleton
public import proofs.«01_k».proof.Proof.Gen.Down.Launch
public import proofs.«01_k».proof.Proof.Gen.Down.Loops
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Loops
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_tiles_fit
public import proofs.«01_k».proof.Proof.Gen.Up
public import proofs.«01_k».proof.Proof.Gen.Up.Skeleton
public import proofs.«01_k».proof.Proof.Gen.Up.Launch
public import proofs.«01_k».proof.Proof.Gen.Up.Loops
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Loops
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_up_tiles_fit
public import proofs.«01_k».proof.Proof.GqaLatClaim
public import proofs.«01_k».proof.Proof.DownClaim
public import proofs.«01_k».proof.Proof.UpClaim
public import Idealize.ShloMosaic.Adequacy
public import Idealize.ShloMosaic.Init

@[expose] public section

noncomputable section

namespace Cert.Proof

open Idealize.ShloMosaic Idealize.SL.Sem

theorem claim : Cert.Claim := ⟨Cert.GqaLat.Gen.facts, Cert.GqaLatIdeal.Gen.facts, Cert.GqaLatRefIdeal.Gen.facts,
  Cert.Down.Gen.facts, Cert.DownIdeal.Gen.facts, Cert.DownRefIdeal.Gen.facts,
  Cert.Up.Gen.facts, Cert.UpIdeal.Gen.facts, Cert.UpRefIdeal.Gen.facts, GqaLat.facts, TilesFit.facts, UpTilesFit.facts,
  fun m ρ _ => Cert.GqaLat.Gen.frame m ρ, fun m ρ _ => Cert.GqaLatIdeal.Gen.frame m ρ, fun m ρ _ => Cert.GqaLatIdeal.Gen.frame m ρ,
  fun m ρ _ => GqaLat.frame_ref m ρ trivial, fun m ρ _ => GqaLat.frame_ref m ρ trivial,
  Down.frame_kernel, Down.frame_ideal, Down.frame_ref, fun m ρ _ => Down.frame_ref m ρ trivial,
  Up.frame_kernel, Up.frame_ideal, Up.frame_ref, fun m ρ _ => Up.frame_ref m ρ trivial,
  trivial, GqaLat.algebraic, trivial, Down.algebraic, trivial, Up.algebraic⟩

end Cert.Proof

end
